-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "inv_6336" .f32 0x39257EB5#32 ((1 / 6336 : ℝ) : EReal)
  ∧ IdealRules.named_const.Statement Cert.KernelIdeal.κ "inv_6272" .f32 0x39272F05#32 ((1 / 6272 : ℝ) : EReal)
  ∧ IdealRules.named_const.Statement Cert.KernelIdeal.κ "inv_6144" .f32 0x392AAAAB#32 ((1 / 6144 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1x400x40 : Shape := ⟨4, ![16, 1, 400, 40]⟩
abbrev S512x40x5 : Shape := ⟨3, ![512, 40, 5]⟩
abbrev S512 : Shape := ⟨1, ![512]⟩
abbrev S512x512x3 : Shape := ⟨3, ![512, 512, 3]⟩
abbrev S512x512 : Shape := ⟨2, ![512, 512]⟩
abbrev S512x262144 : Shape := ⟨2, ![512, 262144]⟩
abbrev S_ : Shape := ⟨0, ![]⟩

class Facts : Prop where
  bcast_S_S16x1x400x40 : S_.BroadcastsInDim S16x1x400x40 (![] : Fin 0 → Fin S16x1x400x40.rank)
  bcast_S_S512x40x5 : S_.BroadcastsInDim S512x40x5 (![] : Fin 0 → Fin S512x40x5.rank)
  bcast_S_S512x512x3 : S_.BroadcastsInDim S512x512x3 (![] : Fin 0 → Fin S512x512x3.rank)
  bcast_S_S512x512 : S_.BroadcastsInDim S512x512 (![] : Fin 0 → Fin S512x512.rank)
  bcast_S_S512x262144 : S_.BroadcastsInDim S512x262144 (![] : Fin 0 → Fin S512x262144.rank)
  bcast_S_S512 : S_.BroadcastsInDim S512 (![] : Fin 0 → Fin S512.rank)

variable [Facts]

def fn_part3 {F : FTy → Type} [FloatOps F] (main_arg23 : FVec F S512 .f32) (main_v2 : IVec S16x1x400x40 1) (main_v5 : IVec S512x40x5 1) (main_v12 : IVec S512x512x3 1) (main_v19 : IVec S512x512 1) (main_v22 : IVec S512x262144 1) (main_v25 : IVec S512 1) (main_v28 : IVec S512 1) (main_v31 : IVec S512 1) (main_v34 : IVec S512 1) (main_v37 : IVec S512 1) (main_v40 : IVec S512 1) (main_v43 : IVec S512 1) (main_v46 : IVec S512 1) (main_v49 : IVec S512 1) (main_v52 : IVec S512 1) (main_v53 : FVec F S512 .f32) (main_cst_16 : FVec F S_ .f32) : IVec S16x1x400x40 1 × IVec S512x40x5 1 × IVec S512x512x3 1 × IVec S512x512 1 × IVec S512x262144 1 × IVec S512 1 :=
  let main_v54 : FVec F S512 .f32 := broadcastInDim S512 ![] bcast_S_S512 main_cst_16
  let main_v55 : IVec S512 1 := cmpf .olt main_v53 main_v54
  let main_v56 : FVec F S512 .f32 := Host.absf main_arg23
  let main_cst_17 : FVec F S_ .f32 := constant S_ .f32 0x7F800000#32
  let main_v57 : FVec F S512 .f32 := broadcastInDim S512 ![] bcast_S_S512 main_cst_17
  let main_v58 : IVec S512 1 := cmpf .olt main_v56 main_v57
  let main_v59 : IVec S512 1 := andi main_v25 main_v28
  let main_v60 : IVec S512 1 := andi main_v59 main_v31
  let main_v61 : IVec S512 1 := andi main_v60 main_v34
  let main_v62 : IVec S512 1 := andi main_v61 main_v37
  let main_v63 : IVec S512 1 := andi main_v62 main_v40
  let main_v64 : IVec S512 1 := andi main_v63 main_v43
  let main_v65 : IVec S512 1 := andi main_v64 main_v46
  let main_v66 : IVec S512 1 := andi main_v65 main_v49
  let main_v67 : IVec S512 1 := andi main_v66 main_v52
  let main_v68 : IVec S512 1 := andi main_v67 main_v55
  let main_v69 : IVec S512 1 := andi main_v68 main_v58
  (main_v2, main_v5, main_v12, main_v19, main_v22, main_v69)

def fn_part2 {F : FTy → Type} [FloatOps F] (main_arg11 : FVec F S512 .f32) (main_arg14 : FVec F S512 .f32) (main_arg15 : FVec F S512 .f32) (main_arg18 : FVec F S512 .f32) (main_arg19 : FVec F S512 .f32) (main_arg22 : FVec F S512 .f32) (main_arg23 : FVec F S512 .f32) (main_v2 : IVec S16x1x400x40 1) (main_v5 : IVec S512x40x5 1) (main_v12 : IVec S512x512x3 1) (main_v19 : IVec S512x512 1) (main_v22 : IVec S512x262144 1) (main_v25 : IVec S512 1) (main_v28 : IVec S512 1) (main_v31 : IVec S512 1) (main_v34 : IVec S512 1) (main_v35 : FVec F S512 .f32) (main_cst_10 : FVec F S_ .f32) : IVec S16x1x400x40 1 × IVec S512x40x5 1 × IVec S512x512x3 1 × IVec S512x512 1 × IVec S512x262144 1 × IVec S512 1 :=
  let main_v36 : FVec F S512 .f32 := broadcastInDim S512 ![] bcast_S_S512 main_cst_10
  let main_v37 : IVec S512 1 := cmpf .olt main_v35 main_v36
  let main_v38 : FVec F S512 .f32 := Host.absf main_arg11
  let main_cst_11 : FVec F S_ .f32 := constant S_ .f32 0x7F800000#32
  let main_v39 : FVec F S512 .f32 := broadcastInDim S512 ![] bcast_S_S512 main_cst_11
  let main_v40 : IVec S512 1 := cmpf .olt main_v38 main_v39
  let main_v41 : FVec F S512 .f32 := Host.absf main_arg14
  let main_cst_12 : FVec F S_ .f32 := constant S_ .f32 0x7F800000#32
  let main_v42 : FVec F S512 .f32 := broadcastInDim S512 ![] bcast_S_S512 main_cst_12
  let main_v43 : IVec S512 1 := cmpf .olt main_v41 main_v42
  let main_v44 : FVec F S512 .f32 := Host.absf main_arg15
  let main_cst_13 : FVec F S_ .f32 := constant S_ .f32 0x7F800000#32
  let main_v45 : FVec F S512 .f32 := broadcastInDim S512 ![] bcast_S_S512 main_cst_13
  let main_v46 : IVec S512 1 := cmpf .olt main_v44 main_v45
  let main_v47 : FVec F S512 .f32 := Host.absf main_arg18
  let main_cst_14 : FVec F S_ .f32 := constant S_ .f32 0x7F800000#32
  let main_v48 : FVec F S512 .f32 := broadcastInDim S512 ![] bcast_S_S512 main_cst_14
  let main_v49 : IVec S512 1 := cmpf .olt main_v47 main_v48
  let main_v50 : FVec F S512 .f32 := Host.absf main_arg19
  let main_cst_15 : FVec F S_ .f32 := constant S_ .f32 0x7F800000#32
  let main_v51 : FVec F S512 .f32 := broadcastInDim S512 ![] bcast_S_S512 main_cst_15
  let main_v52 : IVec S512 1 := cmpf .olt main_v50 main_v51
  let main_v53 : FVec F S512 .f32 := Host.absf main_arg22
  let main_cst_16 : FVec F S_ .f32 := constant S_ .f32 0x7F800000#32
  fn_part3 (F := F) main_arg23 main_v2 main_v5 main_v12 main_v19 main_v22 main_v25 main_v28 main_v31 main_v34 main_v37 main_v40 main_v43 main_v46 main_v49 main_v52 main_v53 main_cst_16

def fn_part1 {F : FTy → Type} [FloatOps F] (main_arg2 : FVec F S512 .f32) (main_arg3 : FVec F S512 .f32) (main_arg6 : FVec F S512 .f32) (main_arg7 : FVec F S512 .f32) (main_arg10 : FVec F S512 .f32) (main_arg11 : FVec F S512 .f32) (main_arg14 : FVec F S512 .f32) (main_arg15 : FVec F S512 .f32) (main_arg18 : FVec F S512 .f32) (main_arg19 : FVec F S512 .f32) (main_arg21 : FVec F S512x262144 .f32) (main_arg22 : FVec F S512 .f32) (main_arg23 : FVec F S512 .f32) (main_v2 : IVec S16x1x400x40 1) (main_v5 : IVec S512x40x5 1) (main_v12 : IVec S512x512x3 1) (main_v15 : IVec S512x512 1) (main_v16 : FVec F S512x512 .f32) (main_v17 : FVec F S512x512 .f32) : IVec S16x1x400x40 1 × IVec S512x40x5 1 × IVec S512x512x3 1 × IVec S512x512 1 × IVec S512x262144 1 × IVec S512 1 :=
  let main_v18 : IVec S512x512 1 := cmpf .olt main_v16 main_v17
  let main_v19 : IVec S512x512 1 := andi main_v15 main_v18
  let main_v20 : FVec F S512x262144 .f32 := Host.absf main_arg21
  let main_cst_5 : FVec F S_ .f32 := constant S_ .f32 0x7F800000#32
  let main_v21 : FVec F S512x262144 .f32 := broadcastInDim S512x262144 ![] bcast_S_S512x262144 main_cst_5
  let main_v22 : IVec S512x262144 1 := cmpf .olt main_v20 main_v21
  let main_v23 : FVec F S512 .f32 := Host.absf main_arg2
  let main_cst_6 : FVec F S_ .f32 := constant S_ .f32 0x7F800000#32
  let main_v24 : FVec F S512 .f32 := broadcastInDim S512 ![] bcast_S_S512 main_cst_6
  let main_v25 : IVec S512 1 := cmpf .olt main_v23 main_v24
  let main_v26 : FVec F S512 .f32 := Host.absf main_arg3
  let main_cst_7 : FVec F S_ .f32 := constant S_ .f32 0x7F800000#32
  let main_v27 : FVec F S512 .f32 := broadcastInDim S512 ![] bcast_S_S512 main_cst_7
  let main_v28 : IVec S512 1 := cmpf .olt main_v26 main_v27
  let main_v29 : FVec F S512 .f32 := Host.absf main_arg6
  let main_cst_8 : FVec F S_ .f32 := constant S_ .f32 0x7F800000#32
  let main_v30 : FVec F S512 .f32 := broadcastInDim S512 ![] bcast_S_S512 main_cst_8
  let main_v31 : IVec S512 1 := cmpf .olt main_v29 main_v30
  let main_v32 : FVec F S512 .f32 := Host.absf main_arg7
  let main_cst_9 : FVec F S_ .f32 := constant S_ .f32 0x7F800000#32
  let main_v33 : FVec F S512 .f32 := broadcastInDim S512 ![] bcast_S_S512 main_cst_9
  let main_v34 : IVec S512 1 := cmpf .olt main_v32 main_v33
  let main_v35 : FVec F S512 .f32 := Host.absf main_arg10
  let main_cst_10 : FVec F S_ .f32 := constant S_ .f32 0x7F800000#32
  fn_part2 (F := F) main_arg11 main_arg14 main_arg15 main_arg18 main_arg19 main_arg22 main_arg23 main_v2 main_v5 main_v12 main_v19 main_v22 main_v25 main_v28 main_v31 main_v34 main_v35 main_cst_10

def fn {F : FTy → Type} [FloatOps F] (main_arg0 : FVec F S16x1x400x40 .f32) (main_arg1 : FVec F S512x40x5 .f32) (main_arg2 : FVec F S512 .f32) (main_arg3 : FVec F S512 .f32) (main_arg4 : FVec F S512 .f32) (main_arg5 : FVec F S512x512x3 .f32) (main_arg6 : FVec F S512 .f32) (main_arg7 : FVec F S512 .f32) (main_arg8 : FVec F S512 .f32) (main_arg9 : FVec F S512x512x3 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512x512 .f32) (main_arg18 : FVec F S512 .f32) (main_arg19 : FVec F S512 .f32) (main_arg20 : FVec F S512 .f32) (main_arg21 : FVec F S512x262144 .f32) (main_arg22 : FVec F S512 .f32) (main_arg23 : FVec F S512 .f32) (main_arg24 : FVec F S512 .f32) (main_arg25 : FVec F S512x512 .f32) (main_arg26 : FVec F S512 .f32) : IVec S16x1x400x40 1 × IVec S512x40x5 1 × IVec S512x512x3 1 × IVec S512x512 1 × IVec S512x262144 1 × IVec S512 1 :=
  let main_v0 : FVec F S16x1x400x40 .f32 := Host.absf main_arg0
  let main_cst : FVec F S_ .f32 := constant S_ .f32 0x7F800000#32
  let main_v1 : FVec F S16x1x400x40 .f32 := broadcastInDim S16x1x400x40 ![] bcast_S_S16x1x400x40 main_cst
  let main_v2 : IVec S16x1x400x40 1 := cmpf .olt main_v0 main_v1
  let main_v3 : FVec F S512x40x5 .f32 := Host.absf main_arg1
  let main_cst_0 : FVec F S_ .f32 := constant S_ .f32 0x7F800000#32
  let main_v4 : FVec F S512x40x5 .f32 := broadcastInDim S512x40x5 ![] bcast_S_S512x40x5 main_cst_0
  let main_v5 : IVec S512x40x5 1 := cmpf .olt main_v3 main_v4
  let main_v6 : FVec F S512x512x3 .f32 := Host.absf main_arg5
  let main_cst_1 : FVec F S_ .f32 := constant S_ .f32 0x7F800000#32
  let main_v7 : FVec F S512x512x3 .f32 := broadcastInDim S512x512x3 ![] bcast_S_S512x512x3 main_cst_1
  let main_v8 : IVec S512x512x3 1 := cmpf .olt main_v6 main_v7
  let main_v9 : FVec F S512x512x3 .f32 := Host.absf main_arg9
  let main_cst_2 : FVec F S_ .f32 := constant S_ .f32 0x7F800000#32
  let main_v10 : FVec F S512x512x3 .f32 := broadcastInDim S512x512x3 ![] bcast_S_S512x512x3 main_cst_2
  let main_v11 : IVec S512x512x3 1 := cmpf .olt main_v9 main_v10
  let main_v12 : IVec S512x512x3 1 := andi main_v8 main_v11
  let main_v13 : FVec F S512x512 .f32 := Host.absf main_arg13
  let main_cst_3 : FVec F S_ .f32 := constant S_ .f32 0x7F800000#32
  let main_v14 : FVec F S512x512 .f32 := broadcastInDim S512x512 ![] bcast_S_S512x512 main_cst_3
  let main_v15 : IVec S512x512 1 := cmpf .olt main_v13 main_v14
  let main_v16 : FVec F S512x512 .f32 := Host.absf main_arg17
  let main_cst_4 : FVec F S_ .f32 := constant S_ .f32 0x7F800000#32
  let main_v17 : FVec F S512x512 .f32 := broadcastInDim S512x512 ![] bcast_S_S512x512 main_cst_4
  fn_part1 (F := F) main_arg2 main_arg3 main_arg6 main_arg7 main_arg10 main_arg11 main_arg14 main_arg15 main_arg18 main_arg19 main_arg21 main_arg22 main_arg23 main_v2 main_v5 main_v12 main_v15 main_v16 main_v17
-- ==== Kernel.lean ====
abbrev S16x1x400x40 : Shape := ⟨4, ![16, 1, 400, 40]⟩
abbrev S512x40x5 : Shape := ⟨3, ![512, 40, 5]⟩
abbrev S512 : Shape := ⟨1, ![512]⟩
abbrev S512x512x3 : Shape := ⟨3, ![512, 512, 3]⟩
abbrev S512x512 : Shape := ⟨2, ![512, 512]⟩
abbrev S512x262144 : Shape := ⟨2, ![512, 262144]⟩
abbrev S16x400x40 : Shape := ⟨3, ![16, 400, 40]⟩
abbrev S6400x40 : Shape := ⟨2, ![6400, 40]⟩
abbrev S5x40x512 : Shape := ⟨3, ![5, 40, 512]⟩
abbrev S3x512x512 : Shape := ⟨3, ![3, 512, 512]⟩
abbrev S1x512 : Shape := ⟨2, ![1, 512]⟩
abbrev S16x512x512 : Shape := ⟨3, ![16, 512, 512]⟩
abbrev S6416x512 : Shape := ⟨2, ![6416, 512]⟩
abbrev S2x512x512 : Shape := ⟨3, ![2, 512, 512]⟩
abbrev S2 : Shape := ⟨1, ![2]⟩
abbrev S400x40 : Shape := ⟨2, ![400, 40]⟩
abbrev S1x40x512 : Shape := ⟨3, ![1, 40, 512]⟩
abbrev S40x512 : Shape := ⟨2, ![40, 512]⟩
abbrev S400x512 : Shape := ⟨2, ![400, 512]⟩
abbrev S396x512 : Shape := ⟨2, ![396, 512]⟩
abbrev S396x40 : Shape := ⟨2, ![396, 40]⟩
abbrev S1x512x512 : Shape := ⟨3, ![1, 512, 512]⟩
abbrev S392x512 : Shape := ⟨2, ![392, 512]⟩
abbrev S384x512 : Shape := ⟨2, ![384, 512]⟩
abbrev S1 : Shape := ⟨1, ![1]⟩
abbrev S_ : Shape := ⟨0, ![]⟩
abbrev S16x262144 : Shape := ⟨2, ![16, 262144]⟩
abbrev S16x512 : Shape := ⟨2, ![16, 512]⟩
abbrev S16x8192 : Shape := ⟨2, ![16, 8192]⟩
abbrev S512x8192 : Shape := ⟨2, ![512, 8192]⟩
abbrev S16 : Shape := ⟨1, ![16]⟩
abbrev S16x1 : Shape := ⟨2, ![16, 1]⟩

abbrev nBuf : Space → Nat
  | .hbm => 54
  | .vmem => 35
  | .smem => 0
  | _ => 0

abbrev bufTy : (tb : Table) → Fin (tcTables nBuf tb) → BufTy
  | .hbm, ⟨0, _⟩ => ⟨S16x1x400x40, .f32⟩
  | .hbm, ⟨1, _⟩ => ⟨S512x40x5, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512x3, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512x3, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512x262144, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512x512, .f32⟩
  | .hbm, ⟨26, _⟩ => ⟨S512, .f32⟩
  | .hbm, ⟨27, _⟩ => ⟨S16x400x40, .f32⟩
  | .hbm, ⟨28, _⟩ => ⟨S6400x40, .f32⟩
  | .hbm, ⟨29, _⟩ => ⟨S5x40x512, .f32⟩
  | .hbm, ⟨30, _⟩ => ⟨S3x512x512, .f32⟩
  | .hbm, ⟨31, _⟩ => ⟨S3x512x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S16x512x512, .f32⟩
  | .hbm, ⟨48, _⟩ => ⟨S16x262144, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S16x512, .f32⟩
  | .local _ .vmem, ⟨0, _⟩ => ⟨S6400x40, .f32⟩
  | .local _ .vmem, ⟨1, _⟩ => ⟨S5x40x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S3x512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S3x512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S6416x512, .f32⟩
  | .local _ .vmem, ⟨22, _⟩ => ⟨S6416x512, .f32⟩
  | .local _ .vmem, ⟨23, _⟩ => ⟨S2x512x512, .f32⟩
  | .local _ .vmem, ⟨24, _⟩ => ⟨S16x8192, .f32⟩
  | .local _ .vmem, ⟨25, _⟩ => ⟨S16x8192, .f32⟩
  | .local _ .vmem, ⟨26, _⟩ => ⟨S512x8192, .f32⟩
  | .local _ .vmem, ⟨27, _⟩ => ⟨S512x8192, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S512x512, .f32⟩
  | .local _ .vmem, ⟨32, _⟩ => ⟨S1x512, .f32⟩
  | .local _ .vmem, ⟨33, _⟩ => ⟨S16x512, .f32⟩
  | .local _ .vmem, ⟨34, _⟩ => ⟨S16x512, .f32⟩
  | _, _ => ⟨S16x1x400x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_scratch0 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32

abbrev nD : Nat := 1
abbrev τ : Topo := Topo.v7x

variable {F : FTy → Type} [FloatOps F]

abbrev grid0 : Pipeline.Grid := .none

abbrev stage0_0 : Fin 1 → Memref sig .tc .vmem S6400x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x40x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v12 : BitVec 1 := Scalar.cmpi .eq arg0 c31_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== KernelIdeal.lean ====
variable {F : FTy → Type} [FloatOps F] [Named F]
def κ : String → Option EReal := fun
  | "inv_6144" => some ((1 / 6144 : ℝ) : EReal)
  | "inv_6272" => some ((1 / 6272 : ℝ) : EReal)
  | "inv_6336" => some ((1 / 6336 : ℝ) : EReal)
  | _ => none
-- ==== ReferenceIdeal.lean ====
abbrev S16x1x400x40 : Shape := ⟨4, ![16, 1, 400, 40]⟩
abbrev S512x40x5 : Shape := ⟨3, ![512, 40, 5]⟩
abbrev S512 : Shape := ⟨1, ![512]⟩
abbrev S512x512x3 : Shape := ⟨3, ![512, 512, 3]⟩
abbrev S512x512 : Shape := ⟨2, ![512, 512]⟩
abbrev S512x262144 : Shape := ⟨2, ![512, 262144]⟩
abbrev S16x400x40 : Shape := ⟨3, ![16, 400, 40]⟩
abbrev S16x40x400 : Shape := ⟨3, ![16, 40, 400]⟩
abbrev S16x40x396 : Shape := ⟨3, ![16, 40, 396]⟩
abbrev S512x40x1 : Shape := ⟨3, ![512, 40, 1]⟩
abbrev S512x40 : Shape := ⟨2, ![512, 40]⟩
abbrev S512x16x396 : Shape := ⟨3, ![512, 16, 396]⟩
abbrev S16x512x396 : Shape := ⟨3, ![16, 512, 396]⟩
abbrev S_ : Shape := ⟨0, ![]⟩
abbrev S1x512x1 : Shape := ⟨3, ![1, 512, 1]⟩
abbrev S16x512x392 : Shape := ⟨3, ![16, 512, 392]⟩
abbrev S512x512x1 : Shape := ⟨3, ![512, 512, 1]⟩
abbrev S512x16x392 : Shape := ⟨3, ![512, 16, 392]⟩
abbrev S16x512x384 : Shape := ⟨3, ![16, 512, 384]⟩
abbrev S512x16x384 : Shape := ⟨3, ![512, 16, 384]⟩
abbrev S16x512x512 : Shape := ⟨3, ![16, 512, 512]⟩
abbrev S16x262144 : Shape := ⟨2, ![16, 262144]⟩
abbrev S262144x512 : Shape := ⟨2, ![262144, 512]⟩
abbrev S16x512 : Shape := ⟨2, ![16, 512]⟩
abbrev S1x512 : Shape := ⟨2, ![1, 512]⟩
abbrev S16 : Shape := ⟨1, ![16]⟩
abbrev S16x1 : Shape := ⟨2, ![16, 1]⟩

abbrev nBuf : Space → Nat
  | .hbm => 457
  | .vmem => 0
  | .smem => 0
  | _ => 0

abbrev hbmTy0_0 (i : Nat) : BufTy := match i % 128 with
  | 0 => ⟨S16x1x400x40, .f32⟩
  | 1 => ⟨S512x40x5, .f32⟩
  | 2 => ⟨S512, .f32⟩
  | 3 => ⟨S512, .f32⟩
  | 4 => ⟨S512, .f32⟩
  | 5 => ⟨S512x512x3, .f32⟩
  | 6 => ⟨S512, .f32⟩
  | 7 => ⟨S512, .f32⟩
  | 8 => ⟨S512, .f32⟩
  | 9 => ⟨S512x512x3, .f32⟩
  | 10 => ⟨S512, .f32⟩
  | 11 => ⟨S512, .f32⟩
  | 12 => ⟨S512, .f32⟩
  | 13 => ⟨S512x512, .f32⟩
  | 14 => ⟨S512, .f32⟩
  | 15 => ⟨S512, .f32⟩
  | 16 => ⟨S512, .f32⟩
  | 17 => ⟨S512x512, .f32⟩
  | 18 => ⟨S512, .f32⟩
  | 19 => ⟨S512, .f32⟩
  | 20 => ⟨S512, .f32⟩
  | 21 => ⟨S512x262144, .f32⟩
  | 22 => ⟨S512, .f32⟩
  | 23 => ⟨S512, .f32⟩
  | 24 => ⟨S512, .f32⟩
  | 25 => ⟨S512x512, .f32⟩
  | 26 => ⟨S512, .f32⟩
  | 27 => ⟨S16x400x40, .f32⟩
  | 28 => ⟨S16x40x400, .f32⟩
  | 29 => ⟨S16x40x396, .f32⟩
  | 30 => ⟨S512x40x1, .f32⟩
  | 31 => ⟨S512x40, .f32⟩
  | 32 => ⟨S512x16x396, .f32⟩
  | 33 => ⟨S16x512x396, .f32⟩
  | 34 => ⟨S_, .f32⟩
  | 35 => ⟨S16x512x396, .f32⟩
  | 36 => ⟨S16x512x396, .f32⟩
  | 37 => ⟨S16x40x396, .f32⟩
  | 38 => ⟨S512x40x1, .f32⟩
  | 39 => ⟨S512x40, .f32⟩
  | 40 => ⟨S512x16x396, .f32⟩
  | 41 => ⟨S16x512x396, .f32⟩
  | 42 => ⟨S16x512x396, .f32⟩
  | 43 => ⟨S16x40x396, .f32⟩
  | 44 => ⟨S512x40x1, .f32⟩
  | 45 => ⟨S512x40, .f32⟩
  | 46 => ⟨S512x16x396, .f32⟩
  | 47 => ⟨S16x512x396, .f32⟩
  | 48 => ⟨S16x512x396, .f32⟩
  | 49 => ⟨S16x40x396, .f32⟩
  | 50 => ⟨S512x40x1, .f32⟩
  | 51 => ⟨S512x40, .f32⟩
  | 52 => ⟨S512x16x396, .f32⟩
  | 53 => ⟨S16x512x396, .f32⟩
  | 54 => ⟨S16x512x396, .f32⟩
  | 55 => ⟨S16x40x396, .f32⟩
  | 56 => ⟨S512x40x1, .f32⟩
  | 57 => ⟨S512x40, .f32⟩
  | 58 => ⟨S512x16x396, .f32⟩
  | 59 => ⟨S16x512x396, .f32⟩
  | 60 => ⟨S16x512x396, .f32⟩
  | 61 => ⟨S1x512x1, .f32⟩
  | 62 => ⟨S16x512x396, .f32⟩
  | 63 => ⟨S16x512x396, .f32⟩
  | 64 => ⟨S_, .f32⟩
  | 65 => ⟨S512, .f32⟩
  | 66 => ⟨S1x512x1, .f32⟩
  | 67 => ⟨S_, .f32⟩
  | 68 => ⟨S1x512x1, .f32⟩
  | 69 => ⟨S1x512x1, .f32⟩
  | 70 => ⟨S_, .i32⟩
  | 71 => ⟨S_, .f32⟩
  | 72 => ⟨S512, .f32⟩
  | 73 => ⟨S1x512x1, .f32⟩
  | 74 => ⟨S_, .f32⟩
  | 75 => ⟨S1x512x1, .f32⟩
  | 76 => ⟨S1x512x1, .f32⟩
  | 77 => ⟨S16x512x396, .f32⟩
  | 78 => ⟨S16x512x396, .f32⟩
  | 79 => ⟨S16x512x396, .f32⟩
  | 80 => ⟨S_, .f32⟩
  | 81 => ⟨S_, .f32⟩
  | 82 => ⟨S_, .f32⟩
  | 83 => ⟨S_, .f32⟩
  | 84 => ⟨S512, .f32⟩
  | 85 => ⟨S1x512x1, .f32⟩
  | 86 => ⟨S1x512x1, .f32⟩
  | 87 => ⟨S1x512x1, .f32⟩
  | 88 => ⟨S_, .f32⟩
  | 89 => ⟨S_, .i1⟩
  | 90 => ⟨S_, .f32⟩
  | 91 => ⟨S_, .f32⟩
  | 92 => ⟨S1x512x1, .f32⟩
  | 93 => ⟨S1x512x1, .f32⟩
  | 94 => ⟨S1x512x1, .f32⟩
  | 95 => ⟨S16x512x396, .f32⟩
  | 96 => ⟨S16x512x396, .f32⟩
  | 97 => ⟨S16x512x396, .f32⟩
  | 98 => ⟨S16x512x396, .f32⟩
  | 99 => ⟨S_, .f32⟩
  | 100 => ⟨S1x512x1, .f32⟩
  | 101 => ⟨S1x512x1, .f32⟩
  | 102 => ⟨S1x512x1, .f32⟩
  | 103 => ⟨S16x512x396, .f32⟩
  | 104 => ⟨S16x512x396, .f32⟩
  | 105 => ⟨S1x512x1, .f32⟩
  | 106 => ⟨S16x512x396, .f32⟩
  | 107 => ⟨S16x512x396, .f32⟩
  | 108 => ⟨S_, .f32⟩
  | 109 => ⟨S_, .f32⟩
  | 110 => ⟨S_, .f32⟩
  | 111 => ⟨S16x512x396, .f32⟩
  | 112 => ⟨S16x512x396, .f32⟩
  | 113 => ⟨S_, .f32⟩
  | 114 => ⟨S16x512x396, .f32⟩
  | 115 => ⟨S16x512x396, .f32⟩
  | 116 => ⟨S16x512x392, .f32⟩
  | 117 => ⟨S512x512x1, .f32⟩
  | 118 => ⟨S512x512, .f32⟩
  | 119 => ⟨S512x16x392, .f32⟩
  | 120 => ⟨S16x512x392, .f32⟩
  | 121 => ⟨S_, .f32⟩
  | 122 => ⟨S16x512x392, .f32⟩
  | 123 => ⟨S16x512x392, .f32⟩
  | 124 => ⟨S16x512x392, .f32⟩
  | 125 => ⟨S512x512x1, .f32⟩
  | 126 => ⟨S512x512, .f32⟩
  | 127 => ⟨S512x16x392, .f32⟩
  | _ => ⟨S16x1x400x40, .f32⟩

abbrev hbmTy0_1 (i : Nat) : BufTy := match i % 128 with
  | 0 => ⟨S16x512x392, .f32⟩
  | 1 => ⟨S16x512x392, .f32⟩
  | 2 => ⟨S16x512x392, .f32⟩
  | 3 => ⟨S512x512x1, .f32⟩
  | 4 => ⟨S512x512, .f32⟩
  | 5 => ⟨S512x16x392, .f32⟩
  | 6 => ⟨S16x512x392, .f32⟩
  | 7 => ⟨S16x512x392, .f32⟩
  | 8 => ⟨S1x512x1, .f32⟩
  | 9 => ⟨S16x512x392, .f32⟩
  | 10 => ⟨S16x512x392, .f32⟩
  | 11 => ⟨S_, .f32⟩
  | 12 => ⟨S512, .f32⟩
  | 13 => ⟨S1x512x1, .f32⟩
  | 14 => ⟨S_, .f32⟩
  | 15 => ⟨S1x512x1, .f32⟩
  | 16 => ⟨S1x512x1, .f32⟩
  | 17 => ⟨S_, .i32⟩
  | 18 => ⟨S_, .f32⟩
  | 19 => ⟨S512, .f32⟩
  | 20 => ⟨S1x512x1, .f32⟩
  | 21 => ⟨S_, .f32⟩
  | 22 => ⟨S1x512x1, .f32⟩
  | 23 => ⟨S1x512x1, .f32⟩
  | 24 => ⟨S16x512x392, .f32⟩
  | 25 => ⟨S16x512x392, .f32⟩
  | 26 => ⟨S16x512x392, .f32⟩
  | 27 => ⟨S_, .f32⟩
  | 28 => ⟨S_, .f32⟩
  | 29 => ⟨S_, .f32⟩
  | 30 => ⟨S_, .f32⟩
  | 31 => ⟨S512, .f32⟩
  | 32 => ⟨S1x512x1, .f32⟩
  | 33 => ⟨S1x512x1, .f32⟩
  | 34 => ⟨S1x512x1, .f32⟩
  | 35 => ⟨S_, .f32⟩
  | 36 => ⟨S_, .i1⟩
  | 37 => ⟨S_, .f32⟩
  | 38 => ⟨S_, .f32⟩
  | 39 => ⟨S1x512x1, .f32⟩
  | 40 => ⟨S1x512x1, .f32⟩
  | 41 => ⟨S1x512x1, .f32⟩
  | 42 => ⟨S16x512x392, .f32⟩
  | 43 => ⟨S16x512x392, .f32⟩
  | 44 => ⟨S16x512x392, .f32⟩
  | 45 => ⟨S16x512x392, .f32⟩
  | 46 => ⟨S_, .f32⟩
  | 47 => ⟨S1x512x1, .f32⟩
  | 48 => ⟨S1x512x1, .f32⟩
  | 49 => ⟨S1x512x1, .f32⟩
  | 50 => ⟨S16x512x392, .f32⟩
  | 51 => ⟨S16x512x392, .f32⟩
  | 52 => ⟨S1x512x1, .f32⟩
  | 53 => ⟨S16x512x392, .f32⟩
  | 54 => ⟨S16x512x392, .f32⟩
  | 55 => ⟨S_, .f32⟩
  | 56 => ⟨S_, .f32⟩
  | 57 => ⟨S_, .f32⟩
  | 58 => ⟨S16x512x392, .f32⟩
  | 59 => ⟨S16x512x392, .f32⟩
  | 60 => ⟨S_, .f32⟩
  | 61 => ⟨S16x512x392, .f32⟩
  | 62 => ⟨S16x512x392, .f32⟩
  | 63 => ⟨S16x512x384, .f32⟩
  | 64 => ⟨S512x512x1, .f32⟩
  | 65 => ⟨S512x512, .f32⟩
  | 66 => ⟨S512x16x384, .f32⟩
  | 67 => ⟨S16x512x384, .f32⟩
  | 68 => ⟨S_, .f32⟩
  | 69 => ⟨S16x512x384, .f32⟩
  | 70 => ⟨S16x512x384, .f32⟩
  | 71 => ⟨S16x512x384, .f32⟩
  | 72 => ⟨S512x512x1, .f32⟩
  | 73 => ⟨S512x512, .f32⟩
  | 74 => ⟨S512x16x384, .f32⟩
  | 75 => ⟨S16x512x384, .f32⟩
  | 76 => ⟨S16x512x384, .f32⟩
  | 77 => ⟨S16x512x384, .f32⟩
  | 78 => ⟨S512x512x1, .f32⟩
  | 79 => ⟨S512x512, .f32⟩
  | 80 => ⟨S512x16x384, .f32⟩
  | 81 => ⟨S16x512x384, .f32⟩
  | 82 => ⟨S16x512x384, .f32⟩
  | 83 => ⟨S1x512x1, .f32⟩
  | 84 => ⟨S16x512x384, .f32⟩
  | 85 => ⟨S16x512x384, .f32⟩
  | 86 => ⟨S_, .f32⟩
  | 87 => ⟨S512, .f32⟩
  | 88 => ⟨S1x512x1, .f32⟩
  | 89 => ⟨S_, .f32⟩
  | 90 => ⟨S1x512x1, .f32⟩
  | 91 => ⟨S1x512x1, .f32⟩
  | 92 => ⟨S_, .i32⟩
  | 93 => ⟨S_, .f32⟩
  | 94 => ⟨S512, .f32⟩
  | 95 => ⟨S1x512x1, .f32⟩
  | 96 => ⟨S_, .f32⟩
  | 97 => ⟨S1x512x1, .f32⟩
  | 98 => ⟨S1x512x1, .f32⟩
  | 99 => ⟨S16x512x384, .f32⟩
  | 100 => ⟨S16x512x384, .f32⟩
  | 101 => ⟨S16x512x384, .f32⟩
  | 102 => ⟨S_, .f32⟩
  | 103 => ⟨S_, .f32⟩
  | 104 => ⟨S_, .f32⟩
  | 105 => ⟨S_, .f32⟩
  | 106 => ⟨S512, .f32⟩
  | 107 => ⟨S1x512x1, .f32⟩
  | 108 => ⟨S1x512x1, .f32⟩
  | 109 => ⟨S1x512x1, .f32⟩
  | 110 => ⟨S_, .f32⟩
  | 111 => ⟨S_, .i1⟩
  | 112 => ⟨S_, .f32⟩
  | 113 => ⟨S_, .f32⟩
  | 114 => ⟨S1x512x1, .f32⟩
  | 115 => ⟨S1x512x1, .f32⟩
  | 116 => ⟨S1x512x1, .f32⟩
  | 117 => ⟨S16x512x384, .f32⟩
  | 118 => ⟨S16x512x384, .f32⟩
  | 119 => ⟨S16x512x384, .f32⟩
  | 120 => ⟨S16x512x384, .f32⟩
  | 121 => ⟨S_, .f32⟩
  | 122 => ⟨S1x512x1, .f32⟩
  | 123 => ⟨S1x512x1, .f32⟩
  | 124 => ⟨S1x512x1, .f32⟩
  | 125 => ⟨S16x512x384, .f32⟩
  | 126 => ⟨S16x512x384, .f32⟩
  | 127 => ⟨S1x512x1, .f32⟩
  | _ => ⟨S16x1x400x40, .f32⟩

abbrev hbmTy0_2 (i : Nat) : BufTy := match i % 128 with
  | 0 => ⟨S16x512x384, .f32⟩
  | 1 => ⟨S16x512x384, .f32⟩
  | 2 => ⟨S_, .f32⟩
  | 3 => ⟨S_, .f32⟩
  | 4 => ⟨S_, .f32⟩
  | 5 => ⟨S16x512x384, .f32⟩
  | 6 => ⟨S16x512x384, .f32⟩
  | 7 => ⟨S_, .f32⟩
  | 8 => ⟨S16x512x384, .f32⟩
  | 9 => ⟨S16x512x384, .f32⟩
  | 10 => ⟨S512x16x384, .f32⟩
  | 11 => ⟨S16x512x384, .f32⟩
  | 12 => ⟨S1x512x1, .f32⟩
  | 13 => ⟨S16x512x384, .f32⟩
  | 14 => ⟨S16x512x384, .f32⟩
  | 15 => ⟨S_, .f32⟩
  | 16 => ⟨S512, .f32⟩
  | 17 => ⟨S1x512x1, .f32⟩
  | 18 => ⟨S_, .f32⟩
  | 19 => ⟨S1x512x1, .f32⟩
  | 20 => ⟨S1x512x1, .f32⟩
  | 21 => ⟨S_, .i32⟩
  | 22 => ⟨S_, .f32⟩
  | 23 => ⟨S512, .f32⟩
  | 24 => ⟨S1x512x1, .f32⟩
  | 25 => ⟨S_, .f32⟩
  | 26 => ⟨S1x512x1, .f32⟩
  | 27 => ⟨S1x512x1, .f32⟩
  | 28 => ⟨S16x512x384, .f32⟩
  | 29 => ⟨S16x512x384, .f32⟩
  | 30 => ⟨S16x512x384, .f32⟩
  | 31 => ⟨S_, .f32⟩
  | 32 => ⟨S_, .f32⟩
  | 33 => ⟨S_, .f32⟩
  | 34 => ⟨S_, .f32⟩
  | 35 => ⟨S512, .f32⟩
  | 36 => ⟨S1x512x1, .f32⟩
  | 37 => ⟨S1x512x1, .f32⟩
  | 38 => ⟨S1x512x1, .f32⟩
  | 39 => ⟨S_, .f32⟩
  | 40 => ⟨S_, .i1⟩
  | 41 => ⟨S_, .f32⟩
  | 42 => ⟨S_, .f32⟩
  | 43 => ⟨S1x512x1, .f32⟩
  | 44 => ⟨S1x512x1, .f32⟩
  | 45 => ⟨S1x512x1, .f32⟩
  | 46 => ⟨S16x512x384, .f32⟩
  | 47 => ⟨S16x512x384, .f32⟩
  | 48 => ⟨S16x512x384, .f32⟩
  | 49 => ⟨S16x512x384, .f32⟩
  | 50 => ⟨S_, .f32⟩
  | 51 => ⟨S1x512x1, .f32⟩
  | 52 => ⟨S1x512x1, .f32⟩
  | 53 => ⟨S1x512x1, .f32⟩
  | 54 => ⟨S16x512x384, .f32⟩
  | 55 => ⟨S16x512x384, .f32⟩
  | 56 => ⟨S1x512x1, .f32⟩
  | 57 => ⟨S16x512x384, .f32⟩
  | 58 => ⟨S16x512x384, .f32⟩
  | 59 => ⟨S_, .f32⟩
  | 60 => ⟨S_, .f32⟩
  | 61 => ⟨S_, .f32⟩
  | 62 => ⟨S16x512x384, .f32⟩
  | 63 => ⟨S16x512x384, .f32⟩
  | 64 => ⟨S_, .f32⟩
  | 65 => ⟨S16x512x384, .f32⟩
  | 66 => ⟨S16x512x384, .f32⟩
  | 67 => ⟨S512x16x384, .f32⟩
  | 68 => ⟨S16x512x384, .f32⟩
  | 69 => ⟨S1x512x1, .f32⟩
  | 70 => ⟨S16x512x384, .f32⟩
  | 71 => ⟨S16x512x384, .f32⟩
  | 72 => ⟨S_, .f32⟩
  | 73 => ⟨S512, .f32⟩
  | 74 => ⟨S1x512x1, .f32⟩
  | 75 => ⟨S_, .f32⟩
  | 76 => ⟨S1x512x1, .f32⟩
  | 77 => ⟨S1x512x1, .f32⟩
  | 78 => ⟨S_, .i32⟩
  | 79 => ⟨S_, .f32⟩
  | 80 => ⟨S512, .f32⟩
  | 81 => ⟨S1x512x1, .f32⟩
  | 82 => ⟨S_, .f32⟩
  | 83 => ⟨S1x512x1, .f32⟩
  | 84 => ⟨S1x512x1, .f32⟩
  | 85 => ⟨S16x512x384, .f32⟩
  | 86 => ⟨S16x512x384, .f32⟩
  | 87 => ⟨S16x512x384, .f32⟩
  | 88 => ⟨S_, .f32⟩
  | 89 => ⟨S_, .f32⟩
  | 90 => ⟨S_, .f32⟩
  | 91 => ⟨S_, .f32⟩
  | 92 => ⟨S512, .f32⟩
  | 93 => ⟨S1x512x1, .f32⟩
  | 94 => ⟨S1x512x1, .f32⟩
  | 95 => ⟨S1x512x1, .f32⟩
  | 96 => ⟨S_, .f32⟩
  | 97 => ⟨S_, .i1⟩
  | 98 => ⟨S_, .f32⟩
  | 99 => ⟨S_, .f32⟩
  | 100 => ⟨S1x512x1, .f32⟩
  | 101 => ⟨S1x512x1, .f32⟩
  | 102 => ⟨S1x512x1, .f32⟩
  | 103 => ⟨S16x512x384, .f32⟩
  | 104 => ⟨S16x512x384, .f32⟩
  | 105 => ⟨S16x512x384, .f32⟩
  | 106 => ⟨S16x512x384, .f32⟩
  | 107 => ⟨S_, .f32⟩
  | 108 => ⟨S1x512x1, .f32⟩
  | 109 => ⟨S1x512x1, .f32⟩
  | 110 => ⟨S1x512x1, .f32⟩
  | 111 => ⟨S16x512x384, .f32⟩
  | 112 => ⟨S16x512x384, .f32⟩
  | 113 => ⟨S1x512x1, .f32⟩
  | 114 => ⟨S16x512x384, .f32⟩
  | 115 => ⟨S16x512x384, .f32⟩
  | 116 => ⟨S_, .f32⟩
  | 117 => ⟨S_, .f32⟩
  | 118 => ⟨S_, .f32⟩
  | 119 => ⟨S16x512x384, .f32⟩
  | 120 => ⟨S16x512x384, .f32⟩
  | 121 => ⟨S_, .f32⟩
  | 122 => ⟨S16x512x384, .f32⟩
  | 123 => ⟨S16x512x384, .f32⟩
  | 124 => ⟨S16x512x512, .f32⟩
  | 125 => ⟨S16x262144, .f32⟩
  | 126 => ⟨S262144x512, .f32⟩
  | 127 => ⟨S16x512, .f32⟩
  | _ => ⟨S16x1x400x40, .f32⟩

abbrev hbmTy0_3 (i : Nat) : BufTy := match i % 128 with
  | 0 => ⟨S1x512, .f32⟩
  | 1 => ⟨S16x512, .f32⟩
  | 2 => ⟨S16x512, .f32⟩
  | 3 => ⟨S_, .f32⟩
  | 4 => ⟨S512, .f32⟩
  | 5 => ⟨S_, .f32⟩
  | 6 => ⟨S512, .f32⟩
  | 7 => ⟨S512, .f32⟩
  | 8 => ⟨S_, .i32⟩
  | 9 => ⟨S_, .f32⟩
  | 10 => ⟨S512, .f32⟩
  | 11 => ⟨S1x512, .f32⟩
  | 12 => ⟨S_, .f32⟩
  | 13 => ⟨S1x512, .f32⟩
  | 14 => ⟨S1x512, .f32⟩
  | 15 => ⟨S16x512, .f32⟩
  | 16 => ⟨S16x512, .f32⟩
  | 17 => ⟨S16x512, .f32⟩
  | 18 => ⟨S_, .f32⟩
  | 19 => ⟨S_, .f32⟩
  | 20 => ⟨S_, .f32⟩
  | 21 => ⟨S_, .f32⟩
  | 22 => ⟨S512, .f32⟩
  | 23 => ⟨S512, .f32⟩
  | 24 => ⟨S512, .f32⟩
  | 25 => ⟨S_, .f32⟩
  | 26 => ⟨S_, .i1⟩
  | 27 => ⟨S_, .f32⟩
  | 28 => ⟨S_, .f32⟩
  | 29 => ⟨S512, .f32⟩
  | 30 => ⟨S512, .f32⟩
  | 31 => ⟨S1x512, .f32⟩
  | 32 => ⟨S16x512, .f32⟩
  | 33 => ⟨S16x512, .f32⟩
  | 34 => ⟨S1x512, .f32⟩
  | 35 => ⟨S16x512, .f32⟩
  | 36 => ⟨S16x512, .f32⟩
  | 37 => ⟨S_, .f32⟩
  | 38 => ⟨S512, .f32⟩
  | 39 => ⟨S512, .f32⟩
  | 40 => ⟨S512, .f32⟩
  | 41 => ⟨S1x512, .f32⟩
  | 42 => ⟨S16x512, .f32⟩
  | 43 => ⟨S16x512, .f32⟩
  | 44 => ⟨S1x512, .f32⟩
  | 45 => ⟨S16x512, .f32⟩
  | 46 => ⟨S16x512, .f32⟩
  | 47 => ⟨S_, .f32⟩
  | 48 => ⟨S_, .f32⟩
  | 49 => ⟨S_, .f32⟩
  | 50 => ⟨S16x512, .f32⟩
  | 51 => ⟨S16x512, .f32⟩
  | 52 => ⟨S_, .f32⟩
  | 53 => ⟨S16x512, .f32⟩
  | 54 => ⟨S16x512, .f32⟩
  | 55 => ⟨S512x512, .f32⟩
  | 56 => ⟨S16x512, .f32⟩
  | 57 => ⟨S1x512, .f32⟩
  | 58 => ⟨S16x512, .f32⟩
  | 59 => ⟨S16x512, .f32⟩
  | 60 => ⟨S16x512, .f32⟩
  | 61 => ⟨S_, .f32⟩
  | 62 => ⟨S16, .f32⟩
  | 63 => ⟨S_, .f32⟩
  | 64 => ⟨S16, .f32⟩
  | 65 => ⟨S16, .f32⟩
  | 66 => ⟨S16, .f32⟩
  | 67 => ⟨S16x1, .f32⟩
  | 68 => ⟨S16x512, .f32⟩
  | 69 => ⟨S16x512, .f32⟩
  | 70 => ⟨S_, .f32⟩
  | 71 => ⟨S16x512, .f32⟩
  | 72 => ⟨S16x512, .f32⟩
  | _ => ⟨S16x1x400x40, .f32⟩

abbrev hbmTy (i : Nat) : BufTy := match i / 128 with
  | 0 => hbmTy0_0 i
  | 1 => hbmTy0_1 i
  | 2 => hbmTy0_2 i
  | 3 => hbmTy0_3 i
  | _ => ⟨S16x1x400x40, .f32⟩

abbrev bufTy : (tb : Table) → Fin (tcTables nBuf tb) → BufTy
  | .hbm, ⟨i, _⟩ => hbmTy i
  | _, _ => ⟨S16x1x400x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_0 : Ref sig .tc := ⟨.hbm, 64, rfl⟩
abbrev main_v36 : Ref sig .tc := ⟨.hbm, 65, rfl⟩
abbrev main_v37 : Ref sig .tc := ⟨.hbm, 66, rfl⟩
abbrev main_cst_1 : Ref sig .tc := ⟨.hbm, 67, rfl⟩
abbrev main_v38 : Ref sig .tc := ⟨.hbm, 68, rfl⟩
abbrev main_v39 : Ref sig .tc := ⟨.hbm, 69, rfl⟩
abbrev main_c : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_cst_1 : Ref sig .tc := ⟨.hbm, 81, rfl⟩
abbrev main_call0_v8 : Ref sig .tc := ⟨.hbm, 82, rfl⟩
abbrev main_call0_cst_2 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_v12 : Ref sig .tc := ⟨.hbm, 87, rfl⟩
abbrev main_call0_cst_3 : Ref sig .tc := ⟨.hbm, 88, rfl⟩
abbrev main_call0_v13 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_2 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_3 : Ref sig .tc := ⟨.hbm, 108, rfl⟩
abbrev main_cst_4 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_cst_5 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_6 : Ref sig .tc := ⟨.hbm, 139, rfl⟩
abbrev main_v77 : Ref sig .tc := ⟨.hbm, 140, rfl⟩
abbrev main_v78 : Ref sig .tc := ⟨.hbm, 141, rfl⟩
abbrev main_cst_7 : Ref sig .tc := ⟨.hbm, 142, rfl⟩
abbrev main_v79 : Ref sig .tc := ⟨.hbm, 143, rfl⟩
abbrev main_v80 : Ref sig .tc := ⟨.hbm, 144, rfl⟩
abbrev main_c_8 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_v12 : Ref sig .tc := ⟨.hbm, 162, rfl⟩
abbrev main_call2_cst_3 : Ref sig .tc := ⟨.hbm, 163, rfl⟩
abbrev main_call2_v13 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_cst_9 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_cst_10 : Ref sig .tc := ⟨.hbm, 183, rfl⟩
abbrev main_cst_11 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_cst_12 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_13 : Ref sig .tc := ⟨.hbm, 214, rfl⟩
abbrev main_v118 : Ref sig .tc := ⟨.hbm, 215, rfl⟩
abbrev main_v119 : Ref sig .tc := ⟨.hbm, 216, rfl⟩
abbrev main_cst_14 : Ref sig .tc := ⟨.hbm, 217, rfl⟩
abbrev main_v120 : Ref sig .tc := ⟨.hbm, 218, rfl⟩
abbrev main_v121 : Ref sig .tc := ⟨.hbm, 219, rfl⟩
abbrev main_c_15 : Ref sig .tc := ⟨.hbm, 220, rfl⟩
abbrev main_call4_cst : Ref sig .tc := ⟨.hbm, 221, rfl⟩
abbrev main_call4_v0 : Ref sig .tc := ⟨.hbm, 222, rfl⟩
abbrev main_call4_v1 : Ref sig .tc := ⟨.hbm, 223, rfl⟩
abbrev main_call4_cst_0 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_call4_v5 : Ref sig .tc := ⟨.hbm, 228, rfl⟩
abbrev main_call4_v6 : Ref sig .tc := ⟨.hbm, 229, rfl⟩
abbrev main_call4_v7 : Ref sig .tc := ⟨.hbm, 230, rfl⟩
abbrev main_call4_cst_1 : Ref sig .tc := ⟨.hbm, 231, rfl⟩
abbrev main_call4_v8 : Ref sig .tc := ⟨.hbm, 232, rfl⟩
abbrev main_call4_cst_2 : Ref sig .tc := ⟨.hbm, 233, rfl⟩
abbrev main_call4_v9 : Ref sig .tc := ⟨.hbm, 234, rfl⟩
abbrev main_call4_v10 : Ref sig .tc := ⟨.hbm, 235, rfl⟩
abbrev main_call4_v11 : Ref sig .tc := ⟨.hbm, 236, rfl⟩
abbrev main_call4_v12 : Ref sig .tc := ⟨.hbm, 237, rfl⟩
abbrev main_call4_cst_3 : Ref sig .tc := ⟨.hbm, 238, rfl⟩
abbrev main_call4_v13 : Ref sig .tc := ⟨.hbm, 239, rfl⟩
abbrev main_call4_cst_4 : Ref sig .tc := ⟨.hbm, 240, rfl⟩
abbrev main_call4_call0_v0 : Ref sig .tc := ⟨.hbm, 241, rfl⟩
abbrev main_call4_call0_v1 : Ref sig .tc := ⟨.hbm, 242, rfl⟩
abbrev main_v122 : Ref sig .tc := ⟨.hbm, 243, rfl⟩
abbrev main_v123 : Ref sig .tc := ⟨.hbm, 244, rfl⟩
abbrev main_v124 : Ref sig .tc := ⟨.hbm, 245, rfl⟩
abbrev main_v125 : Ref sig .tc := ⟨.hbm, 246, rfl⟩
abbrev main_v126 : Ref sig .tc := ⟨.hbm, 247, rfl⟩
abbrev main_v127 : Ref sig .tc := ⟨.hbm, 248, rfl⟩
abbrev main_cst_16 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_cst_17 : Ref sig .tc := ⟨.hbm, 258, rfl⟩
abbrev main_cst_18 : Ref sig .tc := ⟨.hbm, 259, rfl⟩
abbrev main_call5_v0 : Ref sig .tc := ⟨.hbm, 260, rfl⟩
abbrev main_call5_v1 : Ref sig .tc := ⟨.hbm, 261, rfl⟩
abbrev main_call5_v2 : Ref sig .tc := ⟨.hbm, 262, rfl⟩
abbrev main_call5_v3 : Ref sig .tc := ⟨.hbm, 263, rfl⟩
abbrev main_call5_v4 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_cst_19 : Ref sig .tc := ⟨.hbm, 271, rfl⟩
abbrev main_v142 : Ref sig .tc := ⟨.hbm, 272, rfl⟩
abbrev main_v143 : Ref sig .tc := ⟨.hbm, 273, rfl⟩
abbrev main_cst_20 : Ref sig .tc := ⟨.hbm, 274, rfl⟩
abbrev main_v144 : Ref sig .tc := ⟨.hbm, 275, rfl⟩
abbrev main_v145 : Ref sig .tc := ⟨.hbm, 276, rfl⟩
abbrev main_c_21 : Ref sig .tc := ⟨.hbm, 277, rfl⟩
abbrev main_call6_cst : Ref sig .tc := ⟨.hbm, 278, rfl⟩
abbrev main_call6_v0 : Ref sig .tc := ⟨.hbm, 279, rfl⟩
abbrev main_call6_v1 : Ref sig .tc := ⟨.hbm, 280, rfl⟩
abbrev main_call6_cst_0 : Ref sig .tc := ⟨.hbm, 281, rfl⟩
abbrev main_call6_v2 : Ref sig .tc := ⟨.hbm, 282, rfl⟩
abbrev main_call6_v3 : Ref sig .tc := ⟨.hbm, 283, rfl⟩
abbrev main_call6_v4 : Ref sig .tc := ⟨.hbm, 284, rfl⟩
abbrev main_call6_v5 : Ref sig .tc := ⟨.hbm, 285, rfl⟩
abbrev main_call6_v6 : Ref sig .tc := ⟨.hbm, 286, rfl⟩
abbrev main_call6_v7 : Ref sig .tc := ⟨.hbm, 287, rfl⟩
abbrev main_call6_cst_1 : Ref sig .tc := ⟨.hbm, 288, rfl⟩
abbrev main_call6_v8 : Ref sig .tc := ⟨.hbm, 289, rfl⟩
abbrev main_call6_cst_2 : Ref sig .tc := ⟨.hbm, 290, rfl⟩
abbrev main_call6_v9 : Ref sig .tc := ⟨.hbm, 291, rfl⟩
abbrev main_call6_v10 : Ref sig .tc := ⟨.hbm, 292, rfl⟩
abbrev main_call6_v11 : Ref sig .tc := ⟨.hbm, 293, rfl⟩
abbrev main_call6_v12 : Ref sig .tc := ⟨.hbm, 294, rfl⟩
abbrev main_call6_cst_3 : Ref sig .tc := ⟨.hbm, 295, rfl⟩
abbrev main_call6_v13 : Ref sig .tc := ⟨.hbm, 296, rfl⟩
abbrev main_call6_cst_4 : Ref sig .tc := ⟨.hbm, 297, rfl⟩
abbrev main_call6_call0_v0 : Ref sig .tc := ⟨.hbm, 298, rfl⟩
abbrev main_call6_call0_v1 : Ref sig .tc := ⟨.hbm, 299, rfl⟩
abbrev main_v146 : Ref sig .tc := ⟨.hbm, 300, rfl⟩
abbrev main_v147 : Ref sig .tc := ⟨.hbm, 301, rfl⟩
abbrev main_v148 : Ref sig .tc := ⟨.hbm, 302, rfl⟩
abbrev main_v149 : Ref sig .tc := ⟨.hbm, 303, rfl⟩
abbrev main_v150 : Ref sig .tc := ⟨.hbm, 304, rfl⟩
abbrev main_v151 : Ref sig .tc := ⟨.hbm, 305, rfl⟩
abbrev main_cst_22 : Ref sig .tc := ⟨.hbm, 306, rfl⟩
abbrev main_v152 : Ref sig .tc := ⟨.hbm, 307, rfl⟩
abbrev main_v153 : Ref sig .tc := ⟨.hbm, 308, rfl⟩
abbrev main_v154 : Ref sig .tc := ⟨.hbm, 309, rfl⟩
abbrev main_v155 : Ref sig .tc := ⟨.hbm, 310, rfl⟩
abbrev main_v156 : Ref sig .tc := ⟨.hbm, 311, rfl⟩
abbrev main_v157 : Ref sig .tc := ⟨.hbm, 312, rfl⟩
abbrev main_v158 : Ref sig .tc := ⟨.hbm, 313, rfl⟩
abbrev main_v159 : Ref sig .tc := ⟨.hbm, 314, rfl⟩
abbrev main_cst_23 : Ref sig .tc := ⟨.hbm, 315, rfl⟩
abbrev main_cst_24 : Ref sig .tc := ⟨.hbm, 316, rfl⟩
abbrev main_call7_v0 : Ref sig .tc := ⟨.hbm, 317, rfl⟩
abbrev main_call7_v1 : Ref sig .tc := ⟨.hbm, 318, rfl⟩
abbrev main_call7_v2 : Ref sig .tc := ⟨.hbm, 319, rfl⟩
abbrev main_call7_v3 : Ref sig .tc := ⟨.hbm, 320, rfl⟩
abbrev main_call7_v4 : Ref sig .tc := ⟨.hbm, 321, rfl⟩
abbrev main_v160 : Ref sig .tc := ⟨.hbm, 322, rfl⟩
abbrev main_v161 : Ref sig .tc := ⟨.hbm, 323, rfl⟩
abbrev main_v162 : Ref sig .tc := ⟨.hbm, 324, rfl⟩
abbrev main_v163 : Ref sig .tc := ⟨.hbm, 325, rfl⟩
abbrev main_v164 : Ref sig .tc := ⟨.hbm, 326, rfl⟩
abbrev main_v165 : Ref sig .tc := ⟨.hbm, 327, rfl⟩
abbrev main_cst_25 : Ref sig .tc := ⟨.hbm, 328, rfl⟩
abbrev main_v166 : Ref sig .tc := ⟨.hbm, 329, rfl⟩
abbrev main_v167 : Ref sig .tc := ⟨.hbm, 330, rfl⟩
abbrev main_cst_26 : Ref sig .tc := ⟨.hbm, 331, rfl⟩
abbrev main_v168 : Ref sig .tc := ⟨.hbm, 332, rfl⟩
abbrev main_v169 : Ref sig .tc := ⟨.hbm, 333, rfl⟩
abbrev main_c_27 : Ref sig .tc := ⟨.hbm, 334, rfl⟩
abbrev main_call8_cst : Ref sig .tc := ⟨.hbm, 335, rfl⟩
abbrev main_call8_v0 : Ref sig .tc := ⟨.hbm, 336, rfl⟩
abbrev main_call8_v1 : Ref sig .tc := ⟨.hbm, 337, rfl⟩
abbrev main_call8_cst_0 : Ref sig .tc := ⟨.hbm, 338, rfl⟩
abbrev main_call8_v2 : Ref sig .tc := ⟨.hbm, 339, rfl⟩
abbrev main_call8_v3 : Ref sig .tc := ⟨.hbm, 340, rfl⟩
abbrev main_call8_v4 : Ref sig .tc := ⟨.hbm, 341, rfl⟩
abbrev main_call8_v5 : Ref sig .tc := ⟨.hbm, 342, rfl⟩
abbrev main_call8_v6 : Ref sig .tc := ⟨.hbm, 343, rfl⟩
abbrev main_call8_v7 : Ref sig .tc := ⟨.hbm, 344, rfl⟩
abbrev main_call8_cst_1 : Ref sig .tc := ⟨.hbm, 345, rfl⟩
abbrev main_call8_v8 : Ref sig .tc := ⟨.hbm, 346, rfl⟩
abbrev main_call8_cst_2 : Ref sig .tc := ⟨.hbm, 347, rfl⟩
abbrev main_call8_v9 : Ref sig .tc := ⟨.hbm, 348, rfl⟩
abbrev main_call8_v10 : Ref sig .tc := ⟨.hbm, 349, rfl⟩
abbrev main_call8_v11 : Ref sig .tc := ⟨.hbm, 350, rfl⟩
abbrev main_call8_v12 : Ref sig .tc := ⟨.hbm, 351, rfl⟩
abbrev main_call8_cst_3 : Ref sig .tc := ⟨.hbm, 352, rfl⟩
abbrev main_call8_v13 : Ref sig .tc := ⟨.hbm, 353, rfl⟩
abbrev main_call8_cst_4 : Ref sig .tc := ⟨.hbm, 354, rfl⟩
abbrev main_call8_call0_v0 : Ref sig .tc := ⟨.hbm, 355, rfl⟩
abbrev main_call8_call0_v1 : Ref sig .tc := ⟨.hbm, 356, rfl⟩
abbrev main_v170 : Ref sig .tc := ⟨.hbm, 357, rfl⟩
abbrev main_v171 : Ref sig .tc := ⟨.hbm, 358, rfl⟩
abbrev main_v172 : Ref sig .tc := ⟨.hbm, 359, rfl⟩
abbrev main_v173 : Ref sig .tc := ⟨.hbm, 360, rfl⟩
abbrev main_v174 : Ref sig .tc := ⟨.hbm, 361, rfl⟩
abbrev main_v175 : Ref sig .tc := ⟨.hbm, 362, rfl⟩
abbrev main_cst_28 : Ref sig .tc := ⟨.hbm, 363, rfl⟩
abbrev main_v176 : Ref sig .tc := ⟨.hbm, 364, rfl⟩
abbrev main_v177 : Ref sig .tc := ⟨.hbm, 365, rfl⟩
abbrev main_v178 : Ref sig .tc := ⟨.hbm, 366, rfl⟩
abbrev main_v179 : Ref sig .tc := ⟨.hbm, 367, rfl⟩
abbrev main_v180 : Ref sig .tc := ⟨.hbm, 368, rfl⟩
abbrev main_v181 : Ref sig .tc := ⟨.hbm, 369, rfl⟩
abbrev main_v182 : Ref sig .tc := ⟨.hbm, 370, rfl⟩
abbrev main_v183 : Ref sig .tc := ⟨.hbm, 371, rfl⟩
abbrev main_cst_29 : Ref sig .tc := ⟨.hbm, 372, rfl⟩
abbrev main_cst_30 : Ref sig .tc := ⟨.hbm, 373, rfl⟩
abbrev main_call9_v0 : Ref sig .tc := ⟨.hbm, 374, rfl⟩
abbrev main_call9_v1 : Ref sig .tc := ⟨.hbm, 375, rfl⟩
abbrev main_call9_v2 : Ref sig .tc := ⟨.hbm, 376, rfl⟩
abbrev main_call9_v3 : Ref sig .tc := ⟨.hbm, 377, rfl⟩
abbrev main_call9_v4 : Ref sig .tc := ⟨.hbm, 378, rfl⟩
abbrev main_v184 : Ref sig .tc := ⟨.hbm, 379, rfl⟩
abbrev main_v185 : Ref sig .tc := ⟨.hbm, 380, rfl⟩
abbrev main_v186 : Ref sig .tc := ⟨.hbm, 381, rfl⟩
abbrev main_v187 : Ref sig .tc := ⟨.hbm, 382, rfl⟩
abbrev main_v188 : Ref sig .tc := ⟨.hbm, 383, rfl⟩
abbrev main_v189 : Ref sig .tc := ⟨.hbm, 384, rfl⟩
abbrev main_v190 : Ref sig .tc := ⟨.hbm, 385, rfl⟩
abbrev main_v191 : Ref sig .tc := ⟨.hbm, 386, rfl⟩
abbrev main_cst_31 : Ref sig .tc := ⟨.hbm, 387, rfl⟩
abbrev main_v192 : Ref sig .tc := ⟨.hbm, 388, rfl⟩
abbrev main_cst_32 : Ref sig .tc := ⟨.hbm, 389, rfl⟩
abbrev main_v193 : Ref sig .tc := ⟨.hbm, 390, rfl⟩
abbrev main_v194 : Ref sig .tc := ⟨.hbm, 391, rfl⟩
abbrev main_c_33 : Ref sig .tc := ⟨.hbm, 392, rfl⟩
abbrev main_call10_cst : Ref sig .tc := ⟨.hbm, 393, rfl⟩
abbrev main_call10_v0 : Ref sig .tc := ⟨.hbm, 394, rfl⟩
abbrev main_call10_v1 : Ref sig .tc := ⟨.hbm, 395, rfl⟩
abbrev main_call10_cst_0 : Ref sig .tc := ⟨.hbm, 396, rfl⟩
abbrev main_call10_v2 : Ref sig .tc := ⟨.hbm, 397, rfl⟩
abbrev main_call10_v3 : Ref sig .tc := ⟨.hbm, 398, rfl⟩
abbrev main_call10_v4 : Ref sig .tc := ⟨.hbm, 399, rfl⟩
abbrev main_call10_v5 : Ref sig .tc := ⟨.hbm, 400, rfl⟩
abbrev main_call10_v6 : Ref sig .tc := ⟨.hbm, 401, rfl⟩
abbrev main_call10_v7 : Ref sig .tc := ⟨.hbm, 402, rfl⟩
abbrev main_call10_cst_1 : Ref sig .tc := ⟨.hbm, 403, rfl⟩
abbrev main_call10_v8 : Ref sig .tc := ⟨.hbm, 404, rfl⟩
abbrev main_call10_cst_2 : Ref sig .tc := ⟨.hbm, 405, rfl⟩
abbrev main_call10_v9 : Ref sig .tc := ⟨.hbm, 406, rfl⟩
abbrev main_call10_v10 : Ref sig .tc := ⟨.hbm, 407, rfl⟩
abbrev main_call10_v11 : Ref sig .tc := ⟨.hbm, 408, rfl⟩
abbrev main_call10_cst_3 : Ref sig .tc := ⟨.hbm, 409, rfl⟩
abbrev main_call10_v12 : Ref sig .tc := ⟨.hbm, 410, rfl⟩
abbrev main_call10_cst_4 : Ref sig .tc := ⟨.hbm, 411, rfl⟩
abbrev main_call10_call0_v0 : Ref sig .tc := ⟨.hbm, 412, rfl⟩
abbrev main_call10_call0_v1 : Ref sig .tc := ⟨.hbm, 413, rfl⟩
abbrev main_v195 : Ref sig .tc := ⟨.hbm, 414, rfl⟩
abbrev main_v196 : Ref sig .tc := ⟨.hbm, 415, rfl⟩
abbrev main_v197 : Ref sig .tc := ⟨.hbm, 416, rfl⟩
abbrev main_v198 : Ref sig .tc := ⟨.hbm, 417, rfl⟩
abbrev main_v199 : Ref sig .tc := ⟨.hbm, 418, rfl⟩
abbrev main_v200 : Ref sig .tc := ⟨.hbm, 419, rfl⟩
abbrev main_v201 : Ref sig .tc := ⟨.hbm, 420, rfl⟩
abbrev main_cst_34 : Ref sig .tc := ⟨.hbm, 421, rfl⟩
abbrev main_v202 : Ref sig .tc := ⟨.hbm, 422, rfl⟩
abbrev main_v203 : Ref sig .tc := ⟨.hbm, 423, rfl⟩
abbrev main_v204 : Ref sig .tc := ⟨.hbm, 424, rfl⟩
abbrev main_v205 : Ref sig .tc := ⟨.hbm, 425, rfl⟩
abbrev main_v206 : Ref sig .tc := ⟨.hbm, 426, rfl⟩
abbrev main_v207 : Ref sig .tc := ⟨.hbm, 427, rfl⟩
abbrev main_v208 : Ref sig .tc := ⟨.hbm, 428, rfl⟩
abbrev main_v209 : Ref sig .tc := ⟨.hbm, 429, rfl⟩
abbrev main_v210 : Ref sig .tc := ⟨.hbm, 430, rfl⟩
abbrev main_cst_35 : Ref sig .tc := ⟨.hbm, 431, rfl⟩
abbrev main_cst_36 : Ref sig .tc := ⟨.hbm, 432, rfl⟩
abbrev main_call11_v0 : Ref sig .tc := ⟨.hbm, 433, rfl⟩
abbrev main_call11_v1 : Ref sig .tc := ⟨.hbm, 434, rfl⟩
abbrev main_call11_v2 : Ref sig .tc := ⟨.hbm, 435, rfl⟩
abbrev main_call11_v3 : Ref sig .tc := ⟨.hbm, 436, rfl⟩
abbrev main_call11_v4 : Ref sig .tc := ⟨.hbm, 437, rfl⟩
abbrev main_v211 : Ref sig .tc := ⟨.hbm, 438, rfl⟩
abbrev main_v212 : Ref sig .tc := ⟨.hbm, 439, rfl⟩
abbrev main_v213 : Ref sig .tc := ⟨.hbm, 440, rfl⟩
abbrev main_v214 : Ref sig .tc := ⟨.hbm, 441, rfl⟩
abbrev main_v215 : Ref sig .tc := ⟨.hbm, 442, rfl⟩
abbrev main_v216 : Ref sig .tc := ⟨.hbm, 443, rfl⟩
abbrev main_v217 : Ref sig .tc := ⟨.hbm, 444, rfl⟩
abbrev main_cst_37 : Ref sig .tc := ⟨.hbm, 445, rfl⟩
abbrev main_v218 : Ref sig .tc := ⟨.hbm, 446, rfl⟩
abbrev main_cst_38 : Ref sig .tc := ⟨.hbm, 447, rfl⟩
abbrev main_v219 : Ref sig .tc := ⟨.hbm, 448, rfl⟩
abbrev main_v220 : Ref sig .tc := ⟨.hbm, 449, rfl⟩
abbrev main_v221 : Ref sig .tc := ⟨.hbm, 450, rfl⟩
abbrev main_v222 : Ref sig .tc := ⟨.hbm, 451, rfl⟩
abbrev main_v223 : Ref sig .tc := ⟨.hbm, 452, rfl⟩
abbrev main_v224 : Ref sig .tc := ⟨.hbm, 453, rfl⟩
abbrev main_cst_39 : Ref sig .tc := ⟨.hbm, 454, rfl⟩
abbrev main_v225 : Ref sig .tc := ⟨.hbm, 455, rfl⟩
abbrev main_v226 : Ref sig .tc := ⟨.hbm, 456, rfl⟩

abbrev nD : Nat := 1
abbrev τ : Topo := Topo.v7x

variable {F : FTy → Type} [FloatOps F]
-- ==== Proof.Mega.lean ====
/-
  The first kernel of the program as a structured program: the five dense stages, each a fold over the sixteen
  chunks of 400 rows, and the sixteen Gram products with their copies out.
-/
module

public import Idealize.ShloMosaic.Lib.VecWindow
public import Idealize.ShloMosaic.PureOps

@[expose] public section

noncomputable section

namespace Mega

open Idealize.ShloMosaic Idealize.SL.Sem

abbrev S6416x512 : Shape := ⟨2, ![6416, 512]⟩
abbrev S6400x40 : Shape := ⟨2, ![6400, 40]⟩
abbrev S400x512 : Shape := ⟨2, ![400, 512]⟩
abbrev S396x512 : Shape := ⟨2, ![396, 512]⟩
abbrev S392x512 : Shape := ⟨2, ![392, 512]⟩
abbrev S384x512 : Shape := ⟨2, ![384, 512]⟩
abbrev S400x40 : Shape := ⟨2, ![400, 40]⟩
abbrev S396x40 : Shape := ⟨2, ![396, 40]⟩
abbrev S1x512 : Shape := ⟨2, ![1, 512]⟩
abbrev S512 : Shape := ⟨1, ![512]⟩
abbrev S512x512 : Shape := ⟨2, ![512, 512]⟩
abbrev S40x512 : Shape := ⟨2, ![40, 512]⟩
abbrev S1x40x512 : Shape := ⟨3, ![1, 40, 512]⟩
abbrev S5x40x512 : Shape := ⟨3, ![5, 40, 512]⟩
abbrev S1x512x512 : Shape := ⟨3, ![1, 512, 512]⟩
abbrev S3x512x512 : Shape := ⟨3, ![3, 512, 512]⟩
abbrev S2x512x512 : Shape := ⟨3, ![2, 512, 512]⟩
abbrev S16x512x512 : Shape := ⟨3, ![16, 512, 512]⟩
abbrev S2 : Shape := ⟨1, ![2]⟩
abbrev S1 : Shape := ⟨1, ![1]⟩
abbrev S_ : Shape := ⟨0, ![]⟩

/-! ## Where the accesses lie -/

theorem inbBig (c d : Nat) : ∀ a, (![400 * (c % 16) + d % 16, 0] : Fin 2 → Nat) a + S400x512.size a ≤ S6416x512.size a := by
  intro a; fin_cases a
  · show 400 * (c % 16) + d % 16 + 400 ≤ 6416; omega
  · show 0 + 512 ≤ 512; omega

theorem inbBig396 : ∀ a, (![6000, 0] : Fin 2 → Nat) a + S396x512.size a ≤ S6416x512.size a := by decide

theorem inbBig384 (c : Nat) : ∀ a, (![400 * (c % 16), 0] : Fin 2 → Nat) a + S384x512.size a ≤ S6416x512.size a := by
  intro a; fin_cases a
  · show 400 * (c % 16) + 384 ≤ 6416; omega
  · show 0 + 512 ≤ 512; omega

theorem inbX (c k : Nat) : ∀ a, (![400 * (c % 15) + k % 5, 0] : Fin 2 → Nat) a + S400x40.size a ≤ S6400x40.size a := by
  intro a; fin_cases a
  · show 400 * (c % 15) + k % 5 + 400 ≤ 6400; omega
  · show 0 + 40 ≤ 40; omega

theorem inbX396 (k : Nat) : ∀ a, (![6000 + k % 5, 0] : Fin 2 → Nat) a + S396x40.size a ≤ S6400x40.size a := by
  intro a; fin_cases a
  · show 6000 + k % 5 + 396 ≤ 6400; omega
  · show 0 + 40 ≤ 40; omega

theorem inbW1 (k : Nat) : ∀ a, (![k % 5, 0, 0] : Fin 3 → Nat) a + S1x40x512.size a ≤ S5x40x512.size a := by
  intro a; fin_cases a
  · show k % 5 + 1 ≤ 5; omega
  · show 0 + 40 ≤ 40; omega
  · show 0 + 512 ≤ 512; omega

theorem inbW3 (k : Nat) : ∀ a, (![k % 3, 0, 0] : Fin 3 → Nat) a + S1x512x512.size a ≤ S3x512x512.size a := by
  intro a; fin_cases a
  · show k % 3 + 1 ≤ 3; omega
  · show 0 + 512 ≤ 512; omega
  · show 0 + 512 ≤ 512; omega

theorem inbStg (k : Nat) : ∀ a, (![k % 2, 0, 0] : Fin 3 → Nat) a + S1x512x512.size a ≤ S2x512x512.size a := by
  intro a; fin_cases a
  · show k % 2 + 1 ≤ 2; omega
  · show 0 + 512 ≤ 512; omega
  · show 0 + 512 ≤ 512; omega

theorem inbM (k : Nat) : ∀ a, (![k % 16, 0, 0] : Fin 3 → Nat) a + S1x512x512.size a ≤ S16x512x512.size a := by
  intro a; fin_cases a
  · show k % 16 + 1 ≤ 16; omega
  · show 0 + 512 ≤ 512; omega
  · show 0 + 512 ≤ 512; omega

theorem inbRow : ∀ a, (![0, 0] : Fin 2 → Nat) a + S1x512.size a ≤ S1x512.size a := by decide
theorem inbSq : ∀ a, (![0, 0] : Fin 2 → Nat) a + S512x512.size a ≤ S512x512.size a := by decide
theorem inbSem (k : Nat) : ∀ a, (![k % 2] : Fin 1 → Nat) a + S1.size a ≤ S2.size a := by
  intro a; fin_cases a
  show k % 2 + 1 ≤ 2; omega

theorem pos_big : 0 < S400x512.numel := by decide
theorem pos_396 : 0 < S396x512.numel := by decide
theorem pos_384 : 0 < S384x512.numel := by decide
theorem pos_x : 0 < S400x40.numel := by decide
theorem pos_x396 : 0 < S396x40.numel := by decide
theorem pos_w1 : 0 < S1x40x512.numel := by decide
theorem pos_w3 : 0 < S1x512x512.numel := by decide
theorem pos_sq : 0 < S512x512.numel := by decide
theorem pos_row : 0 < S1x512.numel := by decide

/-! ## The products -/

def dotX : DotDims S400x40 S40x512 S400x512 where
  lhsContracting := [1]
  rhsContracting := [0]
  lhsNonContracting := [0]
  rhsNonContracting := [1]
  lhsBatch := []
  rhsBatch := []
  wf := by decide
def dotX396 : DotDims S396x40 S40x512 S396x512 where
  lhsContracting := [1]
  rhsContracting := [0]
  lhsNonContracting := [0]
  rhsNonContracting := [1]
  lhsBatch := []
  rhsBatch := []
  wf := by decide
def dotC : DotDims S400x512 S512x512 S400x512 where
  lhsContracting := [1]
  rhsContracting := [0]
  lhsNonContracting := [0]
  rhsNonContracting := [1]
  lhsBatch := []
  rhsBatch := []
  wf := by decide
def dotL : DotDims S400x512 S512x512 S400x512 where
  lhsContracting := [1]
  rhsContracting := [1]
  lhsNonContracting := [0]
  rhsNonContracting := [0]
  lhsBatch := []
  rhsBatch := []
  wf := by decide
def dotG : DotDims S384x512 S384x512 S512x512 where
  lhsContracting := [0]
  rhsContracting := [0]
  lhsNonContracting := [1]
  rhsNonContracting := [1]
  lhsBatch := []
  rhsBatch := []
  wf := by decide

variable {F : FTy → Type} [FloatOps F]

/-! ## The pure parts -/

/-- A row of 512. -/
abbrev Row (F : FTy → Type) := FVec F S1x512 .f32
abbrev Chunk (F : FTy → Type) := FVec F S400x512 .f32

theorem castsX : S400x40.ShapeCasts S400x40 := by decide
theorem castsX396 : S396x40.ShapeCasts S396x40 := by decide
theorem castsW1 : S1x40x512.ShapeCasts S40x512 := by decide
theorem castsW3 : S1x512x512.ShapeCasts S512x512 := by decide
theorem castsG : S512x512.ShapeCasts S1x512x512 := by decide
theorem castsRow : S1x512.ShapeCasts S1x512 := by decide
theorem castsSum : S512.ShapeCasts S1x512 := by decide
theorem castsC : S400x512.ShapeCasts S400x512 := by decide
theorem casts396 : S396x512.ShapeCasts S396x512 := by decide
theorem bcRow : S1x512.Broadcasts S400x512 := by decide
theorem bcRow396 : S1x512.Broadcasts S396x512 := by decide
theorem sl396 : S400x512.Slices ![0, 0] S396x512 := by decide
theorem sl392 : S400x512.Slices ![0, 0] S392x512 := by decide
theorem sl384 : S400x512.Slices ![0, 0] S384x512 := by decide
theorem red396 : S396x512.Reduces [0] S512 := by decide
theorem red392 : S392x512.Reduces [0] S512 := by decide
theorem red384 : S384x512.Reduces [0] S512 := by decide
theorem sqM : S1x512x512.Squeezes S512x512 := by decide
theorem sqSem : S1.Squeezes S_ := by decide

def tapX (x : Vec F S400x40 .f32) (w : Vec F S1x40x512 .f32) : Chunk F :=
  matmul dotX none (shapeCast S400x40 x castsX) (shapeCast S40x512 w castsW1) (constant S400x512 .f32 0x00000000#32)
def tapX396 (x : Vec F S396x40 .f32) (w : Vec F S1x40x512 .f32) : FVec F S396x512 .f32 :=
  matmul dotX396 none (shapeCast S396x40 x castsX396) (shapeCast S40x512 w castsW1) (constant S396x512 .f32 0x00000000#32)
def tapC (x : Vec F S400x512 .f32) (w : Vec F S1x512x512 .f32) : Chunk F :=
  matmul dotC none x (shapeCast S512x512 w castsW3) (constant S400x512 .f32 0x00000000#32)
def mulL (x : Vec F S400x512 .f32) (w : Vec F S512x512 .f32) : Chunk F :=
  matmul dotL none x w (constant S400x512 .f32 0x00000000#32)
def gram (b a : Vec F S384x512 .f32) : FVec F S512x512 .f32 :=
  matmul dotG none b a (constant S512x512 .f32 0x00000000#32)

def addRow (y : Chunk F) (b : Vec F S1x512 .f32) : Chunk F :=
  addf y (broadcastTo S400x512 (shapeCast S1x512 b castsRow) bcRow)
def addRow396 (y : FVec F S396x512 .f32) (b : Vec F S1x512 .f32) : FVec F S396x512 .f32 :=
  addf y (broadcastTo S396x512 (shapeCast S1x512 b castsRow) bcRow396)

/-- The column sums of the valid rows and of their squares. -/
def sums396 (v : FVec F S396x512 .f32) : Row F × Row F :=
  (shapeCast S1x512 (multiReduction .add [0] S512 v 0x00000000#32 red396 (.inl rfl) rfl) castsSum,
   shapeCast S1x512 (multiReduction .add [0] S512 (mulf v v) 0x00000000#32 red396 (.inl rfl) rfl) castsSum)
def stats396 (y : Chunk F) : Row F × Row F := sums396 (extractStridedSlice S396x512 ![0, 0] y sl396)
def stats392 (y : Chunk F) : Row F × Row F :=
  (shapeCast S1x512 (multiReduction .add [0] S512 (extractStridedSlice S392x512 ![0, 0] y sl392) 0x00000000#32 red392 (.inl rfl) rfl) castsSum,
   shapeCast S1x512 (multiReduction .add [0] S512
     (mulf (extractStridedSlice S392x512 ![0, 0] y sl392) (extractStridedSlice S392x512 ![0, 0] y sl392)) 0x00000000#32 red392 (.inl rfl) rfl) castsSum)
def stats384 (y : Chunk F) : Row F × Row F :=
  (shapeCast S1x512 (multiReduction .add [0] S512 (extractStridedSlice S384x512 ![0, 0] y sl384) 0x00000000#32 red384 (.inl rfl) rfl) castsSum,
   shapeCast S1x512 (multiReduction .add [0] S512
     (mulf (extractStridedSlice S384x512 ![0, 0] y sl384) (extractStridedSlice S384x512 ![0, 0] y sl384)) 0x00000000#32 red384 (.inl rfl) rfl) castsSum)

/-- Scale and shift of a batch norm, from the sums and the reciprocal `k` of the count. -/
def affScale (k : F .f32) (g : Vec F S1x512 .f32) (s : Row F × Row F) : Row F :=
  mulf (shapeCast S1x512 g castsRow)
    (rsqrt (addf (subf (mulf s.2 (broadcast S1x512 k)) (mulf (mulf s.1 (broadcast S1x512 k)) (mulf s.1 (broadcast S1x512 k))))
      (broadcast S1x512 (Scalar.ofBits .f32 0x3727C5AC#32))))
def affShift (k : F .f32) (g t : Vec F S1x512 .f32) (s : Row F × Row F) : Row F :=
  subf (shapeCast S1x512 t castsRow) (mulf (mulf s.1 (broadcast S1x512 k)) (affScale k g s))

/-- A chunk through a scale, a shift and the clip to [0, 20]. -/
def normed (a : Row F × Row F) (y : Vec F S400x512 .f32) : Chunk F :=
  shapeCast S400x512 (minimumf (broadcast S400x512 (Scalar.ofBits .f32 0x41A00000#32))
    (maximumf (broadcast S400x512 (Scalar.ofBits .f32 0x00000000#32))
      (addf (mulf y (broadcastTo S400x512 a.1 bcRow)) (broadcastTo S400x512 a.2 bcRow)))) castsC

/-! ## The program -/

section Program

variable {nD : Nat} {τ : Topo} {sig : RefSig} {Λ : Labels}

abbrev Pr (nD : Nat) (τ : Topo) (sig : RefSig) (F : FTy → Type) (Λ : Labels) := Prog (TpuEff nD τ sig (Elt F) Λ .tc)

abbrev Big (sig : RefSig) := Memref sig .tc .vmem S6416x512 .f32
abbrev RowRef (sig : RefSig) := Memref sig .tc .vmem S1x512 .f32

def ldBig (m : Big sig) (c d : Nat) : Pr nD τ sig F Λ (Vec F S400x512 .f32) :=
  Prog.lift (.load m (Rect.unit (s := S6416x512) ![400 * (c % 16) + d % 16, 0] S400x512.size (inbBig c d)).toLoadRect (View.loadsAt_vmem pos_big))
def stBig (m : Big sig) (c : Nat) (v : Chunk F) : Pr nD τ sig F Λ PUnit :=
  Prog.lift (.store m (Rect.unit (s := S6416x512) ![400 * (c % 16) + 0 % 16, 0] S400x512.size (inbBig c 0)) v Finset.univ (View.stores_vmem_bits_univ pos_big rfl) (.inl rfl))
def ldRow (m : RowRef sig) : Pr nD τ sig F Λ (Vec F S1x512 .f32) :=
  Prog.lift (.load m (Rect.unit (s := S1x512) ![0, 0] S1x512.size inbRow).toLoadRect (View.loadsAt_vmem pos_row))
def ldX (m : Memref sig .tc .vmem S6400x40 .f32) (c k : Nat) : Pr nD τ sig F Λ (Vec F S400x40 .f32) :=
  Prog.lift (.load m (Rect.unit (s := S6400x40) ![400 * (c % 15) + k % 5, 0] S400x40.size (inbX c k)).toLoadRect (View.loadsAt_vmem pos_x))
def ldX396 (m : Memref sig .tc .vmem S6400x40 .f32) (k : Nat) : Pr nD τ sig F Λ (Vec F S396x40 .f32) :=
  Prog.lift (.load m (Rect.unit (s := S6400x40) ![6000 + k % 5, 0] S396x40.size (inbX396 k)).toLoadRect (View.loadsAt_vmem pos_x396))
def ldW1 (m : Memref sig .tc .vmem S5x40x512 .f32) (k : Nat) : Pr nD τ sig F Λ (Vec F S1x40x512 .f32) :=
  Prog.lift (.load m (Rect.unit (s := S5x40x512) ![k % 5, 0, 0] S1x40x512.size (inbW1 k)).toLoadRect (View.loadsAt_vmem pos_w1))
def ldW3 (m : Memref sig .tc .vmem S3x512x512 .f32) (k : Nat) : Pr nD τ sig F Λ (Vec F S1x512x512 .f32) :=
  Prog.lift (.load m (Rect.unit (s := S3x512x512) ![k % 3, 0, 0] S1x512x512.size (inbW3 k)).toLoadRect (View.loadsAt_vmem pos_w3))
def ldSq (m : Memref sig .tc .vmem S512x512 .f32) : Pr nD τ sig F Λ (Vec F S512x512 .f32) :=
  Prog.lift (.load m (Rect.unit (s := S512x512) ![0, 0] S512x512.size inbSq).toLoadRect (View.loadsAt_vmem pos_sq))
def ld384 (m : Big sig) (c : Nat) : Pr nD τ sig F Λ (Vec F S384x512 .f32) :=
  Prog.lift (.load m (Rect.unit (s := S6416x512) ![400 * (c % 16), 0] S384x512.size (inbBig384 c)).toLoadRect (View.loadsAt_vmem pos_384))

/-- One chunk normalised in place. -/
def normChunk (m : Big sig) (a : Row F × Row F) (c : Nat) : Pr nD τ sig F Λ PUnit := do
  let y ← ldBig m c 0
  let _ ← ldBig m c 0
  stBig m c (normed a y)

def normOpt (m : Big sig) (a : Row F × Row F) : Option Nat → Pr nD τ sig F Λ PUnit
  | none => pure ⟨⟩
  | some c => normChunk m a c

def convX (x : Memref sig .tc .vmem S6400x40 .f32) (w : Memref sig .tc .vmem S5x40x512 .f32) (b : RowRef sig) (c : Nat) :
    Pr nD τ sig F Λ (Chunk F) := do
  let x0 ← ldX x c 0
  let w0 ← ldW1 w 0
  let x1 ← ldX x c 1
  let w1 ← ldW1 w 1
  let x2 ← ldX x c 2
  let w2 ← ldW1 w 2
  let x3 ← ldX x c 3
  let w3 ← ldW1 w 3
  let x4 ← ldX x c 4
  let w4 ← ldW1 w 4
  let r ← ldRow b
  pure (addRow (addf (addf (addf (addf (tapX x0 w0) (tapX x1 w1)) (tapX x2 w2)) (tapX x3 w3)) (tapX x4 w4)) r)

def convX396 (x : Memref sig .tc .vmem S6400x40 .f32) (w : Memref sig .tc .vmem S5x40x512 .f32) (b : RowRef sig) :
    Pr nD τ sig F Λ (FVec F S396x512 .f32) := do
  let x0 ← ldX396 x 0
  let w0 ← ldW1 w 0
  let x1 ← ldX396 x 1
  let w1 ← ldW1 w 1
  let x2 ← ldX396 x 2
  let w2 ← ldW1 w 2
  let x3 ← ldX396 x 3
  let w3 ← ldW1 w 3
  let x4 ← ldX396 x 4
  let w4 ← ldW1 w 4
  let r ← ldRow b
  pure (addRow396 (addf (addf (addf (addf (tapX396 x0 w0) (tapX396 x1 w1)) (tapX396 x2 w2)) (tapX396 x3 w3)) (tapX396 x4 w4)) r)

def convC (d : Nat) (i : Big sig) (w : Memref sig .tc .vmem S3x512x512 .f32) (b : RowRef sig) (c : Nat) : Pr nD τ sig F Λ (Chunk F) := do
  let x0 ← ldBig i c 0
  let w0 ← ldW3 w 0
  let x1 ← ldBig i c d
  let w1 ← ldW3 w 1
  let x2 ← ldBig i c (2 * d)
  let w2 ← ldW3 w 2
  let r ← ldRow b
  pure (addRow (addf (addf (tapC x0 w0) (tapC x1 w1)) (tapC x2 w2)) r)

def linC (i : Big sig) (w : Memref sig .tc .vmem S512x512 .f32) (b : RowRef sig) (c : Nat) : Pr nD τ sig F Λ (Chunk F) := do
  let x ← ldBig i c 0
  let v ← ldSq w
  let r ← ldRow b
  pure (addRow (mulL x v) r)

/-- One chunk of a stage: normalise ahead, compute, store, and sum. -/
def step (nrm : Option Nat → Pr nD τ sig F Λ PUnit) (dot : Nat → Pr nD τ sig F Λ (Chunk F)) (st : Chunk F → Row F × Row F) (o : Big sig)
    (p : Nat × Option Nat) : Pr nD τ sig F Λ (Row F × Row F) := do
  nrm p.2
  let y ← dot p.1
  let _ ← ldBig (F := F) o p.1 0
  stBig o p.1 (shapeCast S400x512 y castsC)
  pure (st y)

def loop (f : Nat × Option Nat → Pr nD τ sig F Λ (Row F × Row F)) :
    List (Nat × Option Nat) → Row F × Row F → Pr nD τ sig F Λ (Row F × Row F)
  | [], s => pure s
  | p :: l, s => do
    let t ← f p
    loop f l (addf s.1 t.1, addf s.2 t.2)

def lastX (x : Memref sig .tc .vmem S6400x40 .f32) (w : Memref sig .tc .vmem S5x40x512 .f32) (b : RowRef sig) (o : Big sig)
    (s : Row F × Row F) : Pr nD τ sig F Λ (Row F × Row F) := do
  let y ← convX396 (F := F) x w b
  let _ : Vec F S396x512 .f32 ← Prog.lift (.load o (Rect.unit (s := S6416x512) ![6000, 0] S396x512.size inbBig396).toLoadRect (View.loadsAt_vmem pos_396))
  Prog.lift (.store o (Rect.unit (s := S6416x512) ![6000, 0] S396x512.size inbBig396) (shapeCast S396x512 y casts396) Finset.univ (View.stores_vmem_bits_univ pos_396 rfl) (.inl rfl))
  pure (addf s.1 (sums396 y).1, addf s.2 (sums396 y).2)

def affine (k : F .f32) (g t : RowRef sig) (s : Row F × Row F) : Pr nD τ sig F Λ (Row F × Row F) := do
  let gv ← ldRow (F := F) g
  let tv ← ldRow (F := F) t
  pure (affScale k gv s, affShift k gv tv s)

/-- The chunks of the first stage after its first, before its last. -/
def chunks1 : List (Nat × Option Nat) :=
  [(1, none), (2, none), (3, none), (4, none), (5, none), (6, none), (7, none), (8, none), (9, none), (10, none), (11, none), (12, none),
   (13, none), (14, none)]
/-- The chunks of a later stage after its first, each with the chunk normalised ahead of it. -/
def chunks2 : List (Nat × Option Nat) :=
  [(1, some 3), (2, some 4), (3, some 5), (4, some 6), (5, some 7), (6, some 8), (7, some 9), (8, some 10), (9, some 11), (10, some 12),
   (11, some 13), (12, some 14), (13, some 15), (14, none), (15, none)]

def stage1 (x : Memref sig .tc .vmem S6400x40 .f32) (w : Memref sig .tc .vmem S5x40x512 .f32) (b : RowRef sig) (o : Big sig) :
    Pr nD τ sig F Λ (Row F × Row F) := do
  let s ← step (F := F) (fun _ => pure ⟨⟩) (convX x w b) stats396 o (0, none)
  let s ← loop (step (fun _ => pure ⟨⟩) (convX x w b) stats396 o) chunks1 s
  lastX x w b o s

def stage2 (i : Big sig) (a : Row F × Row F) (dot : Nat → Pr nD τ sig F Λ (Chunk F)) (st : Chunk F → Row F × Row F) (o : Big sig) :
    Pr nD τ sig F Λ (Row F × Row F) := do
  normChunk i a 0
  normChunk i a 1
  let s ← step (normOpt i a) dot st o (0, some 2)
  loop (step (normOpt i a) dot st o) chunks2 s

/-- One slot of the staging buffer, one plane of the result, one of the two semaphores. -/
abbrev slot (g : Memref sig .tc .vmem S2x512x512 .f32) (k : Nat) : Memref sig .tc .vmem S512x512 .f32 :=
  (g.slice (Rect.unit (s := S2x512x512) ![k % 2, 0, 0] S1x512x512.size (inbStg k)) (fun _ => rfl)).squeeze S512x512 sqM
abbrev plane (r : Memref sig .tc .hbm S16x512x512 .f32) (k : Nat) : Memref sig .tc .hbm S512x512 .f32 :=
  (r.slice (Rect.unit (s := S16x512x512) ![k % 16, 0, 0] S1x512x512.size (inbM k)) (fun _ => rfl)).squeeze S512x512 sqM
abbrev cell (s : DmaSems sig S2) (k : Nat) : DmaSems sig S_ :=
  (s.slice (Rect.unit (s := S2) ![k % 2] S1.size (inbSem k))).squeeze S_ sqSem

def waitPlane (r : Memref sig .tc .hbm S16x512x512 .f32) (g : Memref sig .tc .vmem S2x512x512 .f32) (s : DmaSems sig S2) (k : Nat) :
    Pr nD τ sig F Λ PUnit :=
  Prog.lift (.waitDma2 (cell s k).sem (slot g k) (plane r k) ((View.wordExact_bits rfl).reshape _ _) ((View.wordExact_bits rfl).reshape _ _))

def waitOpt (r : Memref sig .tc .hbm S16x512x512 .f32) (g : Memref sig .tc .vmem S2x512x512 .f32) (s : DmaSems sig S2) :
    Option Nat → Pr nD τ sig F Λ PUnit
  | none => pure ⟨⟩
  | some k => waitPlane r g s k

def gramStep (b a : Big sig) (af : Row F × Row F) (r : Memref sig .tc .hbm S16x512x512 .f32) (g : Memref sig .tc .vmem S2x512x512 .f32)
    (s : DmaSems sig S2) (p : Nat × Option Nat × Option Nat) : Pr nD τ sig F Λ PUnit := do
  normOpt a af p.2.1
  waitOpt r g s p.2.2
  let vb ← ld384 (F := F) b p.1
  let va ← ld384 (F := F) a p.1
  let _ : Vec F S1x512x512 .f32 ← Prog.lift (.load g (Rect.unit (s := S2x512x512) ![p.1 % 2, 0, 0] S1x512x512.size (inbStg p.1)).toLoadRect (View.loadsAt_vmem pos_w3))
  Prog.lift (.store g (Rect.unit (s := S2x512x512) ![p.1 % 2, 0, 0] S1x512x512.size (inbStg p.1)) (shapeCast S1x512x512 (gram vb va) castsG) Finset.univ
    (View.stores_vmem_bits_univ pos_w3 rfl) (.inl rfl))
  Prog.lift (.enqueueDma (slot g p.1) (.here (plane r p.1)) (.dma (cell s p.1).sem) ((View.wordExact_bits rfl).reshape _ _) ((View.wordExact_bits rfl).reshape _ _)
    ⟨Or.inl rfl, trivial⟩)

def gramLoop (f : Nat × Option Nat × Option Nat → Pr nD τ sig F Λ PUnit) : List (Nat × Option Nat × Option Nat) → Pr nD τ sig F Λ PUnit
  | [] => pure ⟨⟩
  | p :: l => do f p; gramLoop f l

/-- The sixteen products: each with the chunk normalised ahead and the plane waited for. -/
def grams : List (Nat × Option Nat × Option Nat) :=
  [(0, some 1, none), (1, some 2, none), (2, some 3, some 0), (3, some 4, some 1), (4, some 5, some 2), (5, some 6, some 3), (6, some 7, some 4),
   (7, some 8, some 5), (8, some 9, some 6), (9, some 10, some 7), (10, some 11, some 8), (11, some 12, some 9), (12, some 13, some 10),
   (13, some 14, some 11), (14, some 15, some 12), (15, none, some 13)]

def tail (b a : Big sig) (af : Row F × Row F) (r : Memref sig .tc .hbm S16x512x512 .f32) (g : Memref sig .tc .vmem S2x512x512 .f32)
    (s : DmaSems sig S2) : Pr nD τ sig F Λ PUnit := do
  normChunk a af 0
  gramLoop (gramStep b a af r g s) grams
  waitPlane r g s 14
  waitPlane r g s 15

/-- The five stages and the products. -/
def run (k1 k2 k3 : F .f32)
    (x : Memref sig .tc .vmem S6400x40 .f32)
    (w1 : Memref sig .tc .vmem S5x40x512 .f32) (b1 g1 t1 : RowRef sig)
    (w2 : Memref sig .tc .vmem S3x512x512 .f32) (b2 g2 t2 : RowRef sig)
    (w3 : Memref sig .tc .vmem S3x512x512 .f32) (b3 g3 t3 : RowRef sig)
    (w4 : Memref sig .tc .vmem S512x512 .f32) (b4 g4 t4 : RowRef sig)
    (w5 : Memref sig .tc .vmem S512x512 .f32) (b5 g5 t5 : RowRef sig)
    (r : Memref sig .tc .hbm S16x512x512 .f32) (a b : Big sig) (g : Memref sig .tc .vmem S2x512x512 .f32) (s : DmaSems sig S2) :
    Pr nD τ sig F Λ PUnit := do
  let s1 ← stage1 (F := F) x w1 b1 a
  let a1 ← affine k1 g1 t1 s1
  let s2 ← stage2 a a1 (convC 2 a w2 b2) stats392 b
  let a2 ← affine k2 g2 t2 s2
  let s3 ← stage2 b a2 (convC 4 b w3 b3) stats384 a
  let a3 ← affine k3 g3 t3 s3
  let s4 ← stage2 a a3 (linC a w4 b4) stats384 b
  let a4 ← affine k3 g4 t4 s4
  let s5 ← stage2 b a4 (linC b w5 b5) stats384 a
  let a5 ← affine k3 g5 t5 s5
  tail b a a5 r g s

end Program

end Mega

end
-- ==== Proof.MegaK.lean ====
/-
  The structured program with its continuations passed along, one operation after the next.
-/
module

public import proofs.«01_k».proof.Proof.Mega

@[expose] public section

noncomputable section

namespace Mega

open Idealize.ShloMosaic Idealize.SL.Sem

variable {F : FTy → Type} [FloatOps F] {nD : Nat} {τ : Topo} {sig : RefSig} {Λ : Labels} {α : Type}

def ldBigK (m : Big sig) (c d : Nat) (κ : (Vec F S400x512 .f32) → Pr nD τ sig F Λ α) : Pr nD τ sig F Λ α :=
  .op (.load m (Rect.unit (s := S6416x512) ![400 * (c % 16) + d % 16, 0] S400x512.size (inbBig c d)).toLoadRect (View.loadsAt_vmem pos_big)) κ
def stBigK (m : Big sig) (c : Nat) (v : Chunk F) (κ : PUnit.{1} → Pr nD τ sig F Λ α) : Pr nD τ sig F Λ α :=
  .op (.store m (Rect.unit (s := S6416x512) ![400 * (c % 16) + 0 % 16, 0] S400x512.size (inbBig c 0)) v Finset.univ (View.stores_vmem_bits_univ pos_big rfl) (.inl rfl)) κ
def ldRowK (m : RowRef sig) (κ : (Vec F S1x512 .f32) → Pr nD τ sig F Λ α) : Pr nD τ sig F Λ α :=
  .op (.load m (Rect.unit (s := S1x512) ![0, 0] S1x512.size inbRow).toLoadRect (View.loadsAt_vmem pos_row)) κ
def ldXK (m : Memref sig .tc .vmem S6400x40 .f32) (c k : Nat) (κ : (Vec F S400x40 .f32) → Pr nD τ sig F Λ α) : Pr nD τ sig F Λ α :=
  .op (.load m (Rect.unit (s := S6400x40) ![400 * (c % 15) + k % 5, 0] S400x40.size (inbX c k)).toLoadRect (View.loadsAt_vmem pos_x)) κ
def ldX396K (m : Memref sig .tc .vmem S6400x40 .f32) (k : Nat) (κ : (Vec F S396x40 .f32) → Pr nD τ sig F Λ α) : Pr nD τ sig F Λ α :=
  .op (.load m (Rect.unit (s := S6400x40) ![6000 + k % 5, 0] S396x40.size (inbX396 k)).toLoadRect (View.loadsAt_vmem pos_x396)) κ
def ldW1K (m : Memref sig .tc .vmem S5x40x512 .f32) (k : Nat) (κ : (Vec F S1x40x512 .f32) → Pr nD τ sig F Λ α) : Pr nD τ sig F Λ α :=
  .op (.load m (Rect.unit (s := S5x40x512) ![k % 5, 0, 0] S1x40x512.size (inbW1 k)).toLoadRect (View.loadsAt_vmem pos_w1)) κ
def ldW3K (m : Memref sig .tc .vmem S3x512x512 .f32) (k : Nat) (κ : (Vec F S1x512x512 .f32) → Pr nD τ sig F Λ α) : Pr nD τ sig F Λ α :=
  .op (.load m (Rect.unit (s := S3x512x512) ![k % 3, 0, 0] S1x512x512.size (inbW3 k)).toLoadRect (View.loadsAt_vmem pos_w3)) κ
def ldSqK (m : Memref sig .tc .vmem S512x512 .f32) (κ : (Vec F S512x512 .f32) → Pr nD τ sig F Λ α) : Pr nD τ sig F Λ α :=
  .op (.load m (Rect.unit (s := S512x512) ![0, 0] S512x512.size inbSq).toLoadRect (View.loadsAt_vmem pos_sq)) κ
def ld384K (m : Big sig) (c : Nat) (κ : (Vec F S384x512 .f32) → Pr nD τ sig F Λ α) : Pr nD τ sig F Λ α :=
  .op (.load m (Rect.unit (s := S6416x512) ![400 * (c % 16), 0] S384x512.size (inbBig384 c)).toLoadRect (View.loadsAt_vmem pos_384)) κ
def waitPlaneK (r : Memref sig .tc .hbm S16x512x512 .f32) (g : Memref sig .tc .vmem S2x512x512 .f32) (s : DmaSems sig S2) (k : Nat) (κ : PUnit.{1} → Pr nD τ sig F Λ α) : Pr nD τ sig F Λ α :=
  .op (.waitDma2 (cell s k).sem (slot g k) (plane r k) ((View.wordExact_bits rfl).reshape _ _) ((View.wordExact_bits rfl).reshape _ _)) κ

def normChunkK (m : Big sig) (a : Row F × Row F) (c : Nat) (κ : PUnit.{1} → Pr nD τ sig F Λ α) : Pr nD τ sig F Λ α :=
  ldBigK m c 0 fun y => ldBigK m c 0 fun _ => stBigK m c (normed a y) κ

def normOptK (m : Big sig) (a : Row F × Row F) : Option Nat → (PUnit.{1} → Pr nD τ sig F Λ α) → Pr nD τ sig F Λ α
  | none, κ => κ ⟨⟩
  | some c, κ => normChunkK m a c κ

def convXK (x : Memref sig .tc .vmem S6400x40 .f32) (w : Memref sig .tc .vmem S5x40x512 .f32) (b : RowRef sig) (c : Nat)
    (κ : Chunk F → Pr nD τ sig F Λ α) : Pr nD τ sig F Λ α :=
  ldXK x c 0 fun x0 => ldW1K w 0 fun w0 => ldXK x c 1 fun x1 => ldW1K w 1 fun w1 => ldXK x c 2 fun x2 => ldW1K w 2 fun w2 =>
  ldXK x c 3 fun x3 => ldW1K w 3 fun w3 => ldXK x c 4 fun x4 => ldW1K w 4 fun w4 => ldRowK b fun r =>
  κ (addRow (addf (addf (addf (addf (tapX x0 w0) (tapX x1 w1)) (tapX x2 w2)) (tapX x3 w3)) (tapX x4 w4)) r)

def convX396K (x : Memref sig .tc .vmem S6400x40 .f32) (w : Memref sig .tc .vmem S5x40x512 .f32) (b : RowRef sig)
    (κ : FVec F S396x512 .f32 → Pr nD τ sig F Λ α) : Pr nD τ sig F Λ α :=
  ldX396K x 0 fun x0 => ldW1K w 0 fun w0 => ldX396K x 1 fun x1 => ldW1K w 1 fun w1 => ldX396K x 2 fun x2 => ldW1K w 2 fun w2 =>
  ldX396K x 3 fun x3 => ldW1K w 3 fun w3 => ldX396K x 4 fun x4 => ldW1K w 4 fun w4 => ldRowK b fun r =>
  κ (addRow396 (addf (addf (addf (addf (tapX396 x0 w0) (tapX396 x1 w1)) (tapX396 x2 w2)) (tapX396 x3 w3)) (tapX396 x4 w4)) r)

def convCK (d : Nat) (i : Big sig) (w : Memref sig .tc .vmem S3x512x512 .f32) (b : RowRef sig) (c : Nat)
    (κ : Chunk F → Pr nD τ sig F Λ α) : Pr nD τ sig F Λ α :=
  ldBigK i c 0 fun x0 => ldW3K w 0 fun w0 => ldBigK i c d fun x1 => ldW3K w 1 fun w1 => ldBigK i c (2 * d) fun x2 => ldW3K w 2 fun w2 =>
  ldRowK b fun r => κ (addRow (addf (addf (tapC x0 w0) (tapC x1 w1)) (tapC x2 w2)) r)

def linCK (i : Big sig) (w : Memref sig .tc .vmem S512x512 .f32) (b : RowRef sig) (c : Nat)
    (κ : Chunk F → Pr nD τ sig F Λ α) : Pr nD τ sig F Λ α :=
  ldBigK i c 0 fun x => ldSqK w fun v => ldRowK b fun r => κ (addRow (mulL x v) r)

def stepK (nrm : Option Nat → (PUnit.{1} → Pr nD τ sig F Λ α) → Pr nD τ sig F Λ α) (dot : Nat → (Chunk F → Pr nD τ sig F Λ α) → Pr nD τ sig F Λ α)
    (st : Chunk F → Row F × Row F) (o : Big sig) (p : Nat × Option Nat) (κ : Row F × Row F → Pr nD τ sig F Λ α) : Pr nD τ sig F Λ α :=
  nrm p.2 fun _ => dot p.1 fun y => ldBigK (F := F) o p.1 0 fun _ => stBigK o p.1 (shapeCast S400x512 y castsC) fun _ => κ (st y)

def loopK (f : Nat × Option Nat → (Row F × Row F → Pr nD τ sig F Λ α) → Pr nD τ sig F Λ α) :
    List (Nat × Option Nat) → Row F × Row F → (Row F × Row F → Pr nD τ sig F Λ α) → Pr nD τ sig F Λ α
  | [], s, κ => κ s
  | p :: l, s, κ => f p fun t => loopK f l (addf s.1 t.1, addf s.2 t.2) κ

def lastXK (x : Memref sig .tc .vmem S6400x40 .f32) (w : Memref sig .tc .vmem S5x40x512 .f32) (b : RowRef sig) (o : Big sig)
    (s : Row F × Row F) (κ : Row F × Row F → Pr nD τ sig F Λ α) : Pr nD τ sig F Λ α :=
  convX396K (F := F) x w b fun y =>
    .op (.load o (Rect.unit (s := S6416x512) ![6000, 0] S396x512.size inbBig396).toLoadRect (View.loadsAt_vmem pos_396)) fun _ =>
    .op (.store o (Rect.unit (s := S6416x512) ![6000, 0] S396x512.size inbBig396) (shapeCast S396x512 y casts396) Finset.univ (View.stores_vmem_bits_univ pos_396 rfl) (.inl rfl)) fun _ =>
    κ (addf s.1 (sums396 y).1, addf s.2 (sums396 y).2)

def affineK (k : F .f32) (g t : RowRef sig) (s : Row F × Row F) (κ : Row F × Row F → Pr nD τ sig F Λ α) : Pr nD τ sig F Λ α :=
  ldRowK g fun gv => ldRowK t fun tv => κ (affScale k gv s, affShift k gv tv s)

def stage1K (x : Memref sig .tc .vmem S6400x40 .f32) (w : Memref sig .tc .vmem S5x40x512 .f32) (b : RowRef sig) (o : Big sig)
    (κ : Row F × Row F → Pr nD τ sig F Λ α) : Pr nD τ sig F Λ α :=
  stepK (F := F) (fun _ κ => κ ⟨⟩) (convXK x w b) stats396 o (0, none) fun s =>
  loopK (stepK (fun _ κ => κ ⟨⟩) (convXK x w b) stats396 o) chunks1 s fun s => lastXK x w b o s κ

def stage2K (i : Big sig) (a : Row F × Row F) (dot : Nat → (Chunk F → Pr nD τ sig F Λ α) → Pr nD τ sig F Λ α) (st : Chunk F → Row F × Row F)
    (o : Big sig) (κ : Row F × Row F → Pr nD τ sig F Λ α) : Pr nD τ sig F Λ α :=
  normChunkK i a 0 fun _ => normChunkK i a 1 fun _ => stepK (normOptK i a) dot st o (0, some 2) fun s =>
  loopK (stepK (normOptK i a) dot st o) chunks2 s κ

def waitOptK (r : Memref sig .tc .hbm S16x512x512 .f32) (g : Memref sig .tc .vmem S2x512x512 .f32) (s : DmaSems sig S2) :
    Option Nat → (PUnit.{1} → Pr nD τ sig F Λ α) → Pr nD τ sig F Λ α
  | none, κ => κ ⟨⟩
  | some k, κ => waitPlaneK r g s k κ

def gramStepK (b a : Big sig) (af : Row F × Row F) (r : Memref sig .tc .hbm S16x512x512 .f32) (g : Memref sig .tc .vmem S2x512x512 .f32)
    (s : DmaSems sig S2) (p : Nat × Option Nat × Option Nat) (κ : PUnit.{1} → Pr nD τ sig F Λ α) : Pr nD τ sig F Λ α :=
  normOptK a af p.2.1 fun _ => waitOptK r g s p.2.2 fun _ => ld384K (F := F) b p.1 fun vb => ld384K (F := F) a p.1 fun va =>
  .op (.load g (Rect.unit (s := S2x512x512) ![p.1 % 2, 0, 0] S1x512x512.size (inbStg p.1)).toLoadRect (View.loadsAt_vmem pos_w3)) fun _ =>
  .op (.store g (Rect.unit (s := S2x512x512) ![p.1 % 2, 0, 0] S1x512x512.size (inbStg p.1)) (shapeCast S1x512x512 (gram vb va) castsG) Finset.univ
    (View.stores_vmem_bits_univ pos_w3 rfl) (.inl rfl)) fun _ =>
  .op (.enqueueDma (slot g p.1) (.here (plane r p.1)) (.dma (cell s p.1).sem) ((View.wordExact_bits rfl).reshape _ _) ((View.wordExact_bits rfl).reshape _ _)
    ⟨Or.inl rfl, trivial⟩) κ

def gramLoopK (f : Nat × Option Nat × Option Nat → (PUnit.{1} → Pr nD τ sig F Λ α) → Pr nD τ sig F Λ α) :
    List (Nat × Option Nat × Option Nat) → (PUnit.{1} → Pr nD τ sig F Λ α) → Pr nD τ sig F Λ α
  | [], κ => κ ⟨⟩
  | p :: l, κ => f p fun _ => gramLoopK f l κ

def tailK (b a : Big sig) (af : Row F × Row F) (r : Memref sig .tc .hbm S16x512x512 .f32) (g : Memref sig .tc .vmem S2x512x512 .f32)
    (s : DmaSems sig S2) (κ : PUnit.{1} → Pr nD τ sig F Λ α) : Pr nD τ sig F Λ α :=
  normChunkK a af 0 fun _ => gramLoopK (gramStepK b a af r g s) grams fun _ => waitPlaneK r g s 14 fun _ => waitPlaneK r g s 15 κ

def runK (k1 k2 k3 : F .f32)
    (x : Memref sig .tc .vmem S6400x40 .f32)
    (w1 : Memref sig .tc .vmem S5x40x512 .f32) (b1 g1 t1 : RowRef sig)
    (w2 : Memref sig .tc .vmem S3x512x512 .f32) (b2 g2 t2 : RowRef sig)
    (w3 : Memref sig .tc .vmem S3x512x512 .f32) (b3 g3 t3 : RowRef sig)
    (w4 : Memref sig .tc .vmem S512x512 .f32) (b4 g4 t4 : RowRef sig)
    (w5 : Memref sig .tc .vmem S512x512 .f32) (b5 g5 t5 : RowRef sig)
    (r : Memref sig .tc .hbm S16x512x512 .f32) (a b : Big sig) (g : Memref sig .tc .vmem S2x512x512 .f32) (s : DmaSems sig S2) :
    Pr nD τ sig F Λ PUnit :=
  stage1K (F := F) x w1 b1 a fun s1 => affineK k1 g1 t1 s1 fun a1 =>
  stage2K a a1 (convCK 2 a w2 b2) stats392 b fun s2 => affineK k2 g2 t2 s2 fun a2 =>
  stage2K b a2 (convCK 4 b w3 b3) stats384 a fun s3 => affineK k3 g3 t3 s3 fun a3 =>
  stage2K a a3 (linCK a w4 b4) stats384 b fun s4 => affineK k3 g4 t4 s4 fun a4 =>
  stage2K b a4 (linCK b w5 b5) stats384 a fun s5 => affineK k3 g5 t5 s5 fun a5 =>
  tailK b a a5 r g s fun _ => pure ⟨⟩

/-! ## It is the same program -/

theorem ldBig_k (m : Big sig) (c d : Nat) (κ : (Vec F S400x512 .f32) → Pr nD τ sig F Λ α) : ldBig m c d >>= κ = ldBigK m c d κ := rfl
theorem stBig_k (m : Big sig) (c : Nat) (v : Chunk F) (κ : PUnit.{1} → Pr nD τ sig F Λ α) : stBig m c v >>= κ = stBigK m c v κ := rfl
theorem ldRow_k (m : RowRef sig) (κ : (Vec F S1x512 .f32) → Pr nD τ sig F Λ α) : ldRow m >>= κ = ldRowK m κ := rfl
theorem ldX_k (m : Memref sig .tc .vmem S6400x40 .f32) (c k : Nat) (κ : (Vec F S400x40 .f32) → Pr nD τ sig F Λ α) : ldX m c k >>= κ = ldXK m c k κ := rfl
theorem ldX396_k (m : Memref sig .tc .vmem S6400x40 .f32) (k : Nat) (κ : (Vec F S396x40 .f32) → Pr nD τ sig F Λ α) : ldX396 m k >>= κ = ldX396K m k κ := rfl
theorem ldW1_k (m : Memref sig .tc .vmem S5x40x512 .f32) (k : Nat) (κ : (Vec F S1x40x512 .f32) → Pr nD τ sig F Λ α) : ldW1 m k >>= κ = ldW1K m k κ := rfl
theorem ldW3_k (m : Memref sig .tc .vmem S3x512x512 .f32) (k : Nat) (κ : (Vec F S1x512x512 .f32) → Pr nD τ sig F Λ α) : ldW3 m k >>= κ = ldW3K m k κ := rfl
theorem ldSq_k (m : Memref sig .tc .vmem S512x512 .f32) (κ : (Vec F S512x512 .f32) → Pr nD τ sig F Λ α) : ldSq m >>= κ = ldSqK m κ := rfl
theorem ld384_k (m : Big sig) (c : Nat) (κ : (Vec F S384x512 .f32) → Pr nD τ sig F Λ α) : ld384 m c >>= κ = ld384K m c κ := rfl
theorem waitPlane_k (r : Memref sig .tc .hbm S16x512x512 .f32) (g : Memref sig .tc .vmem S2x512x512 .f32) (s : DmaSems sig S2) (k : Nat) (κ : PUnit.{1} → Pr nD τ sig F Λ α) : waitPlane r g s k >>= κ = waitPlaneK r g s k κ := rfl
theorem normChunk_k (m : Big sig) (a : Row F × Row F) (c : Nat) (κ : PUnit.{1} → Pr nD τ sig F Λ α) : normChunk m a c >>= κ = normChunkK m a c κ := by
  rfl
theorem normOpt_k (m : Big sig) (a : Row F × Row F) (o : Option Nat) (κ : PUnit.{1} → Pr nD τ sig F Λ α) : normOpt m a o >>= κ = normOptK m a o κ := by
  cases o <;> rfl
theorem convX_k (x : Memref sig .tc .vmem S6400x40 .f32) (w : Memref sig .tc .vmem S5x40x512 .f32) (b : RowRef sig) (c : Nat)
    (κ : Chunk F → Pr nD τ sig F Λ α) : convX x w b c >>= κ = convXK x w b c κ := by
  rfl
theorem convX396_k (x : Memref sig .tc .vmem S6400x40 .f32) (w : Memref sig .tc .vmem S5x40x512 .f32) (b : RowRef sig)
    (κ : FVec F S396x512 .f32 → Pr nD τ sig F Λ α) : convX396 x w b >>= κ = convX396K x w b κ := by
  rfl
theorem convC_k (d : Nat) (i : Big sig) (w : Memref sig .tc .vmem S3x512x512 .f32) (b : RowRef sig) (c : Nat)
    (κ : Chunk F → Pr nD τ sig F Λ α) : convC d i w b c >>= κ = convCK d i w b c κ := by
  rfl
theorem linC_k (i : Big sig) (w : Memref sig .tc .vmem S512x512 .f32) (b : RowRef sig) (c : Nat)
    (κ : Chunk F → Pr nD τ sig F Λ α) : linC i w b c >>= κ = linCK i w b c κ := by
  rfl
theorem step_k (nrm : Option Nat → Pr nD τ sig F Λ PUnit) (dot : Nat → Pr nD τ sig F Λ (Chunk F))
    (nrmK : Option Nat → (PUnit.{1} → Pr nD τ sig F Λ α) → Pr nD τ sig F Λ α) (dotK : Nat → (Chunk F → Pr nD τ sig F Λ α) → Pr nD τ sig F Λ α)
    (hn : ∀ o κ, nrm o >>= κ = nrmK o κ) (hd : ∀ c κ, dot c >>= κ = dotK c κ) (st : Chunk F → Row F × Row F) (o : Big sig) (p : Nat × Option Nat)
    (κ : Row F × Row F → Pr nD τ sig F Λ α) : step nrm dot st o p >>= κ = stepK nrmK dotK st o p κ := by
  unfold step stepK; simp only [bind_assoc]; simp only [pure_bind]; simp only [hn, hd, ldBig_k, stBig_k]
theorem loop_k (f : Nat × Option Nat → Pr nD τ sig F Λ (Row F × Row F))
    (fK : Nat × Option Nat → (Row F × Row F → Pr nD τ sig F Λ α) → Pr nD τ sig F Λ α) (hf : ∀ p κ, f p >>= κ = fK p κ)
    (l : List (Nat × Option Nat)) (s : Row F × Row F) (κ : Row F × Row F → Pr nD τ sig F Λ α) : loop f l s >>= κ = loopK fK l s κ := by
  induction l generalizing s with
  | nil => rfl
  | cons p l ih => unfold loop loopK; simp only [bind_assoc]; simp only [hf, ih]
theorem lastX_k (x : Memref sig .tc .vmem S6400x40 .f32) (w : Memref sig .tc .vmem S5x40x512 .f32) (b : RowRef sig) (o : Big sig)
    (s : Row F × Row F) (κ : Row F × Row F → Pr nD τ sig F Λ α) : lastX x w b o s >>= κ = lastXK x w b o s κ := by
  unfold lastX lastXK; simp only [bind_assoc]; simp only [convX396_k]; rfl
theorem affine_k (k : F .f32) (g t : RowRef sig) (s : Row F × Row F) (κ : Row F × Row F → Pr nD τ sig F Λ α) : affine k g t s >>= κ = affineK k g t s κ := by
  rfl
theorem stage1_k (x : Memref sig .tc .vmem S6400x40 .f32) (w : Memref sig .tc .vmem S5x40x512 .f32) (b : RowRef sig) (o : Big sig)
    (κ : Row F × Row F → Pr nD τ sig F Λ α) : stage1 x w b o >>= κ = stage1K x w b o κ := by
  unfold stage1 stage1K
  have hs := step_k (α := α) (F := F) (fun _ => pure ⟨⟩) (convX (nD := nD) (τ := τ) (Λ := Λ) x w b) (fun _ κ => κ ⟨⟩) (convXK x w b) (fun _ _ => rfl) (convX_k x w b) stats396 o
  simp only [bind_assoc]; simp only [hs, loop_k _ _ hs, lastX_k]
theorem stage2_k (i : Big sig) (a : Row F × Row F) (dot : Nat → Pr nD τ sig F Λ (Chunk F)) (dotK : Nat → (Chunk F → Pr nD τ sig F Λ α) → Pr nD τ sig F Λ α)
    (hd : ∀ c κ, dot c >>= κ = dotK c κ) (st : Chunk F → Row F × Row F)
    (o : Big sig) (κ : Row F × Row F → Pr nD τ sig F Λ α) : stage2 i a dot st o >>= κ = stage2K i a dotK st o κ := by
  unfold stage2 stage2K
  have hs := step_k (α := α) _ dot _ dotK (normOpt_k i a) hd st o
  simp only [bind_assoc]; simp only [normChunk_k, hs, loop_k _ _ hs]
theorem waitOpt_k (r : Memref sig .tc .hbm S16x512x512 .f32) (g : Memref sig .tc .vmem S2x512x512 .f32) (s : DmaSems sig S2) (o : Option Nat)
    (κ : PUnit.{1} → Pr nD τ sig F Λ α) : waitOpt r g s o >>= κ = waitOptK r g s o κ := by
  cases o <;> rfl
theorem gramStep_k (b a : Big sig) (af : Row F × Row F) (r : Memref sig .tc .hbm S16x512x512 .f32) (g : Memref sig .tc .vmem S2x512x512 .f32)
    (s : DmaSems sig S2) (p : Nat × Option Nat × Option Nat) (κ : PUnit.{1} → Pr nD τ sig F Λ α) : gramStep b a af r g s p >>= κ = gramStepK b a af r g s p κ := by
  unfold gramStep gramStepK; simp only [bind_assoc]; simp only [normOpt_k, waitOpt_k, ld384_k]; rfl
theorem gramLoop_k (f : Nat × Option Nat × Option Nat → Pr nD τ sig F Λ PUnit)
    (fK : Nat × Option Nat × Option Nat → (PUnit.{1} → Pr nD τ sig F Λ α) → Pr nD τ sig F Λ α) (hf : ∀ p κ, f p >>= κ = fK p κ)
    (l : List (Nat × Option Nat × Option Nat)) (κ : PUnit.{1} → Pr nD τ sig F Λ α) : gramLoop f l >>= κ = gramLoopK fK l κ := by
  induction l with
  | nil => rfl
  | cons p l ih => unfold gramLoop gramLoopK; simp only [bind_assoc]; simp only [hf, ih]
theorem tail_k (b a : Big sig) (af : Row F × Row F) (r : Memref sig .tc .hbm S16x512x512 .f32) (g : Memref sig .tc .vmem S2x512x512 .f32)
    (s : DmaSems sig S2) (κ : PUnit.{1} → Pr nD τ sig F Λ α) : tail b a af r g s >>= κ = tailK b a af r g s κ := by
  unfold tail tailK; simp only [bind_assoc]; simp only [normChunk_k, gramLoop_k _ _ (gramStep_k b a af r g s), waitPlane_k]

theorem run_k (k1 k2 k3 : F .f32)
    (x : Memref sig .tc .vmem S6400x40 .f32)
    (w1 : Memref sig .tc .vmem S5x40x512 .f32) (b1 g1 t1 : RowRef sig)
    (w2 : Memref sig .tc .vmem S3x512x512 .f32) (b2 g2 t2 : RowRef sig)
    (w3 : Memref sig .tc .vmem S3x512x512 .f32) (b3 g3 t3 : RowRef sig)
    (w4 : Memref sig .tc .vmem S512x512 .f32) (b4 g4 t4 : RowRef sig)
    (w5 : Memref sig .tc .vmem S512x512 .f32) (b5 g5 t5 : RowRef sig)
    (r : Memref sig .tc .hbm S16x512x512 .f32) (a b : Big sig) (g : Memref sig .tc .vmem S2x512x512 .f32) (s : DmaSems sig S2) :
    run (nD := nD) (τ := τ) (Λ := Λ) k1 k2 k3 x w1 b1 g1 t1 w2 b2 g2 t2 w3 b3 g3 t3 w4 b4 g4 t4 w5 b5 g5 t5 r a b g s = runK k1 k2 k3 x w1 b1 g1 t1 w2 b2 g2 t2 w3 b3 g3 t3 w4 b4 g4 t4 w5 b5 g5 t5 r a b g s := by
  rw [← bind_pure (run k1 k2 k3 x w1 b1 g1 t1 w2 b2 g2 t2 w3 b3 g3 t3 w4 b4 g4 t4 w5 b5 g5 t5 r a b g s)]
  unfold run runK
  simp only [bind_assoc]; simp only [stage1_k, affine_k, stage2_k _ _ _ _ (convC_k _ _ _ _), stage2_k _ _ _ _ (linC_k _ _ _), tail_k]

end Mega

end
-- ==== Proof.MegaEqIdeal.lean ====
/-
  The printed body of the first kernel is the structured program.
-/
module

public import proofs.«01_k».proof.Proof.Gen.KernelIdeal
public import proofs.«01_k».proof.Proof.MegaK

@[expose] public section

set_option maxRecDepth 65536
set_option maxHeartbeats 0
set_option Elab.async false

noncomputable section

namespace Cert.KernelIdeal.Hand

open Idealize.ShloMosaic Idealize.SL.Sem Cert.KernelIdeal Cert.KernelIdeal.Gen

variable {F : FTy → Type} [FloatOps F] [Named F]

theorem mega_eq (arg0 : Memref sig .tc .vmem S6400x40 .f32) (harg0 : arg0.IsWhole) (arg1 : Memref sig .tc .vmem S5x40x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S3x512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .hbm S16x512x512 .f32) (harg21 : arg21.IsWhole) (arg22 : Memref sig .tc .vmem S6416x512 .f32) (harg22 : arg22.IsWhole) (arg23 : Memref sig .tc .vmem S6416x512 .f32) (harg23 : arg23.IsWhole) (arg24 : Memref sig .tc .vmem S2x512x512 .f32) (harg24 : arg24.IsWhole) (arg25 : DmaSems sig S2) :
    cc0_mega (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 =
      Mega.runK (Named.named κ "inv_6336" 0x39257EB5#32) (Named.named κ "inv_6272" 0x39272F05#32) (Named.named κ "inv_6144" 0x392AAAAB#32) arg0 arg1 arg2 arg3 arg4 arg5 arg6 arg7 arg8 arg9 arg10 arg11 arg12 arg13 arg14 arg15 arg16 arg17 arg18 arg19 arg20 arg21 arg22 arg23 arg24 arg25 := rfl

end Cert.KernelIdeal.Hand

end
-- ==== Proof.MegaRun.lean ====
/-
  What the structured program does: each piece as a function of the buffers it reads and writes, and the rule
  that runs it.
-/
module

public import proofs.«01_k».proof.Proof.Mega
public import Idealize.ShloMosaic.Lib.Transfers
public import Idealize.ShloMosaic.Lib.Writes
public import Idealize.ShloMosaic.Lib.Memref
public import Idealize.ShloMosaic.Lib.VecWindow
public import Idealize.ShloMosaic.Lib.Tactic

@[expose] public section

noncomputable section

namespace Mega

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The functions -/

abbrev Buf512 (F : FTy → Type) := S6416x512.Idx → Elt F .f32

def rd (X : Buf512 F) (c d : Nat) : Vec F S400x512 .f32 :=
  VecWindow.window X ![400 * (c % 16) + d % 16, 0] S400x512.size (inbBig c d)
def wr (X : Buf512 F) (c : Nat) (v : Chunk F) : Buf512 F :=
  VecWindow.put X ![400 * (c % 16) + 0 % 16, 0] S400x512.size v
def rd384 (X : Buf512 F) (c : Nat) : Vec F S384x512 .f32 :=
  VecWindow.window X ![400 * (c % 16), 0] S384x512.size (inbBig384 c)
def rdX (X : S6400x40.Idx → Elt F .f32) (c k : Nat) : Vec F S400x40 .f32 :=
  VecWindow.window X ![400 * (c % 15) + k % 5, 0] S400x40.size (inbX c k)
def rdX396 (X : S6400x40.Idx → Elt F .f32) (k : Nat) : Vec F S396x40 .f32 :=
  VecWindow.window X ![6000 + k % 5, 0] S396x40.size (inbX396 k)
def rdW1 (X : S5x40x512.Idx → Elt F .f32) (k : Nat) : Vec F S1x40x512 .f32 :=
  VecWindow.window X ![k % 5, 0, 0] S1x40x512.size (inbW1 k)
def rdW3 (X : S3x512x512.Idx → Elt F .f32) (k : Nat) : Vec F S1x512x512 .f32 :=
  VecWindow.window X ![k % 3, 0, 0] S1x512x512.size (inbW3 k)
def rdRow (X : S1x512.Idx → Elt F .f32) : Vec F S1x512 .f32 :=
  VecWindow.window X ![0, 0] S1x512.size inbRow
def rdSq (X : S512x512.Idx → Elt F .f32) : Vec F S512x512 .f32 :=
  VecWindow.window X ![0, 0] S512x512.size inbSq

def normF (a : Row F × Row F) (c : Nat) (X : Buf512 F) : Buf512 F := wr X c (normed a (rd X c 0))
def normOptF (a : Row F × Row F) : Option Nat → Buf512 F → Buf512 F
  | none, X => X
  | some c, X => normF a c X

def convXF (x : S6400x40.Idx → Elt F .f32) (w : S5x40x512.Idx → Elt F .f32) (b : S1x512.Idx → Elt F .f32) (c : Nat) : Chunk F :=
  addRow (addf (addf (addf (addf (tapX (rdX x c 0) (rdW1 w 0)) (tapX (rdX x c 1) (rdW1 w 1))) (tapX (rdX x c 2) (rdW1 w 2)))
    (tapX (rdX x c 3) (rdW1 w 3))) (tapX (rdX x c 4) (rdW1 w 4))) (rdRow b)
def convX396F (x : S6400x40.Idx → Elt F .f32) (w : S5x40x512.Idx → Elt F .f32) (b : S1x512.Idx → Elt F .f32) : FVec F S396x512 .f32 :=
  addRow396 (addf (addf (addf (addf (tapX396 (rdX396 x 0) (rdW1 w 0)) (tapX396 (rdX396 x 1) (rdW1 w 1))) (tapX396 (rdX396 x 2) (rdW1 w 2)))
    (tapX396 (rdX396 x 3) (rdW1 w 3))) (tapX396 (rdX396 x 4) (rdW1 w 4))) (rdRow b)
def convCF (d : Nat) (w : S3x512x512.Idx → Elt F .f32) (b : S1x512.Idx → Elt F .f32) (c : Nat) (X : Buf512 F) : Chunk F :=
  addRow (addf (addf (tapC (rd X c 0) (rdW3 w 0)) (tapC (rd X c d) (rdW3 w 1))) (tapC (rd X c (2 * d)) (rdW3 w 2))) (rdRow b)
def linCF (w : S512x512.Idx → Elt F .f32) (b : S1x512.Idx → Elt F .f32) (c : Nat) (X : Buf512 F) : Chunk F :=
  addRow (mulL (rd X c 0) (rdSq w)) (rdRow b)

/-- One chunk of a stage on its input state `I` and its output buffer `O`. -/
def stepF {σ : Type} (nrm : Option Nat → σ → σ) (dot : Nat → σ → Chunk F) (st : Chunk F → Row F × Row F)
    (p : Nat × Option Nat) (q : σ × Buf512 F) : (σ × Buf512 F) × (Row F × Row F) :=
  ((nrm p.2 q.1, wr q.2 p.1 (shapeCast S400x512 (dot p.1 (nrm p.2 q.1)) castsC)), st (dot p.1 (nrm p.2 q.1)))
def loopF {σ : Type} (f : Nat × Option Nat → σ → σ × (Row F × Row F)) :
    List (Nat × Option Nat) → σ → Row F × Row F → σ × (Row F × Row F)
  | [], q, s => (q, s)
  | p :: l, q, s => loopF f l (f p q).1 (addf s.1 (f p q).2.1, addf s.2 (f p q).2.2)

def stage1F (x : S6400x40.Idx → Elt F .f32) (w : S5x40x512.Idx → Elt F .f32) (b : S1x512.Idx → Elt F .f32) (O : Buf512 F) :
    Buf512 F × (Row F × Row F) :=
  let f := stepF (σ := PUnit) (fun _ u => u) (fun c _ => convXF x w b c) stats396
  let r0 := f (0, none) (⟨⟩, O)
  let r := loopF f chunks1 r0.1 r0.2
  let y := convX396F x w b
  (VecWindow.put r.1.2 ![6000, 0] S396x512.size (shapeCast S396x512 y casts396), (addf r.2.1 (sums396 y).1, addf r.2.2 (sums396 y).2))

def stage2F (a : Row F × Row F) (dot : Nat → Buf512 F → Chunk F) (st : Chunk F → Row F × Row F) (I O : Buf512 F) :
    (Buf512 F × Buf512 F) × (Row F × Row F) :=
  let f := stepF (normOptF a) dot st
  let r0 := f (0, some 2) (normF a 1 (normF a 0 I), O)
  loopF f chunks2 r0.1 r0.2

def affF (k : F .f32) (g t : S1x512.Idx → Elt F .f32) (s : Row F × Row F) : Row F × Row F :=
  (affScale k (rdRow g) s, affShift k (rdRow g) (rdRow t) s)

/-! ## The rules -/

variable {nD : Nat} {τ : Topo} {sig : RefSig} {Λ : Labels}
variable {Ix : Type} [DecidableEq Ix] {Name : Type} [DecidableEq Name] {U : Type} [URA U] {Lvl : Type} [Preorder Lvl]
variable (defs : Defs nD τ sig (Elt F) Λ) (𝒱 : Variants) (c : Dev nD) (bd : Option 𝒱.V)

local notation "𝕄" => MT nD τ sig Ix (Elt F) Name U Lvl

/-- Owned whole. -/
abbrev own {sp : Space} {s : Shape} {e : EltTy} (m : Memref sig .tc sp s e) (X : s.Idx → Elt F e) : sProp 𝕄 :=
  owns (c : Thread nD τ) m fullShare X

theorem wp_ld {s : Shape} {e : EltTy} {m : Memref sig .tc .vmem s e} {off size : Fin s.rank → Nat} {inb : ∀ a, off a + size a ≤ s.size a}
    {hl : m.view.LoadsAt (Rect.unit off size inb).toLoadRect} {X : s.Idx → Elt F e} {K : ((Rect.unit off size inb).shape.Idx → Elt F e) → sProp 𝕄} :
    own (Ix := Ix) (Name := Name) (U := U) (Lvl := Lvl) c m X
      ⊢ iprop((own c m X -∗ K (VecWindow.window X off size inb)) -∗
        wp frame (wpE defs 𝒱 (c : Thread nD τ) bd) Set.univ (Prog.lift (.load m (Rect.unit off size inb).toLoadRect hl)) K) := by
  unfold own owns
  iintro ⟨%f, %hf, H⟩ Hk
  iapply (wp_load (defs := defs) 𝒱 (c : Thread nD τ) bd Set.univ (m := m) (r := (Rect.unit off size inb).toLoadRect) (S := m.view.set)
    (View.setOn_subset_set _ _)) $$ H
  iintro H
  rw [View.readAt_unit _ _ inb rfl inb, hf, wp_ret]
  imodintro
  iapply Hk
  iexists f
  isplitr
  · ipureintro; exact hf
  iexact H

theorem wp_st {s : Shape} {e : EltTy} {m : Memref sig .tc .vmem s e} {off size : Fin s.rank → Nat} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {X : s.Idx → Elt F e} {K : PUnit → sProp 𝕄} :
    own (Ix := Ix) (Name := Name) (U := U) (Lvl := Lvl) c m X
      ⊢ iprop((own c m (VecWindow.put X off size w) -∗ K ⟨⟩) -∗
        wp frame (wpE defs 𝒱 (c : Thread nD τ) bd) Set.univ (Prog.lift (.store m (Rect.unit off size inb) w Finset.univ hx hm)) K) := by
  unfold own owns
  iintro ⟨%f, %hf, H⟩ Hk
  iapply (wp_store_writes₀ (defs := defs) 𝒱 (c : Thread nD τ) bd Set.univ (m := m) (r := Rect.unit off size inb) (w := w) (hx := hx) (hm := hm) (S := m.view.set) (f := f)
    (View.set_slice_subset _ _)) $$ H
  iintro H
  rw [wp_ret]
  imodintro
  iapply Hk
  iexists _
  isplitr
  swap
  · iexact H
  · ipureintro
    rw [View.read_writes_cons_put _ _ inb w [] rfl, View.writes_nil, hf]

/-- A program that runs from `P` to `P'` with the result `r`. -/
def Runs {α : Type} (p : Pr nD τ sig F Λ α) (P P' : sProp 𝕄) (r : α) : Prop :=
  ∀ K : α → sProp 𝕄, P ⊢ iprop((P' -∗ K r) -∗ wp frame (wpE defs 𝒱 (c : Thread nD τ) bd) Set.univ p K)

variable {defs 𝒱 c bd}

theorem Runs.ret {α : Type} (r : α) (P : sProp 𝕄) : Runs defs 𝒱 c bd (F := F) (pure r) P P r := by
  intro K
  iintro H Hk
  rw [wp_pure]
  imodintro
  iapply Hk
  iexact H

theorem Runs.bind {α β : Type} {p : Pr nD τ sig F Λ α} {k : α → Pr nD τ sig F Λ β} {P P' P'' : sProp 𝕄} {a : α} {b : β}
    (h : Runs defs 𝒱 c bd p P P' a) (h' : Runs defs 𝒱 c bd (k a) P' P'' b) : Runs defs 𝒱 c bd (p >>= k) P P'' b := by
  intro K
  iintro H Hk
  rw [wp_bind]
  iapply (h (fun a => wp frame (wpE defs 𝒱 (c : Thread nD τ) bd) Set.univ (k a) K)) $$ H
  iintro H
  iapply (h' K) $$ H
  iexact Hk

theorem Runs.frame_r {α : Type} {p : Pr nD τ sig F Λ α} {P P' : sProp 𝕄} {a : α} (R : sProp 𝕄)
    (h : Runs defs 𝒱 c bd p P P' a) : Runs defs 𝒱 c bd p iprop(P ∗ R) iprop(P' ∗ R) a := by
  intro K
  iintro ⟨H, HR⟩ Hk
  iapply (h K) $$ H
  iintro H
  iapply Hk
  isplitl [H]
  · iexact H
  iexact HR

theorem Runs.conv {α : Type} {p : Pr nD τ sig F Λ α} {P P' Q Q' : sProp 𝕄} {a : α}
    (h : Runs defs 𝒱 c bd p P P' a) (h1 : Q ⊢ P) (h2 : P' ⊢ Q') : Runs defs 𝒱 c bd p Q Q' a := by
  intro K
  iintro H Hk
  ihave H := h1 $$ H
  iapply (h K) $$ H
  iintro H
  iapply Hk
  iapply h2 $$ H

/-! ### The accesses -/

theorem ldBig_run (m : Big sig) (i d : Nat) (X : Buf512 F) : Runs defs 𝒱 c bd (ldBig m i d) (own (Ix := Ix) (Name := Name) (U := U) (Lvl := Lvl) c m X) (own c m X) (rd X i d) :=
  fun _ => wp_ld defs 𝒱 c bd
theorem stBig_run (m : Big sig) (i : Nat) (v : Chunk F) (X : Buf512 F) : Runs defs 𝒱 c bd (stBig m i v) (own (Ix := Ix) (Name := Name) (U := U) (Lvl := Lvl) c m X) (own c m (wr X i v)) ⟨⟩ :=
  fun _ => wp_st defs 𝒱 c bd
theorem ldRow_run (m : RowRef sig) (X : S1x512.Idx → Elt F .f32) : Runs defs 𝒱 c bd (ldRow m) (own (Ix := Ix) (Name := Name) (U := U) (Lvl := Lvl) c m X) (own c m X) (rdRow X) :=
  fun _ => wp_ld defs 𝒱 c bd
theorem ldX_run (m : Memref sig .tc .vmem S6400x40 .f32) (i k : Nat) (X : S6400x40.Idx → Elt F .f32) :
    Runs defs 𝒱 c bd (ldX m i k) (own (Ix := Ix) (Name := Name) (U := U) (Lvl := Lvl) c m X) (own c m X) (rdX X i k) :=
  fun _ => wp_ld defs 𝒱 c bd
theorem ldX396_run (m : Memref sig .tc .vmem S6400x40 .f32) (k : Nat) (X : S6400x40.Idx → Elt F .f32) :
    Runs defs 𝒱 c bd (ldX396 m k) (own (Ix := Ix) (Name := Name) (U := U) (Lvl := Lvl) c m X) (own c m X) (rdX396 X k) :=
  fun _ => wp_ld defs 𝒱 c bd
theorem ldW1_run (m : Memref sig .tc .vmem S5x40x512 .f32) (k : Nat) (X : S5x40x512.Idx → Elt F .f32) :
    Runs defs 𝒱 c bd (ldW1 m k) (own (Ix := Ix) (Name := Name) (U := U) (Lvl := Lvl) c m X) (own c m X) (rdW1 X k) :=
  fun _ => wp_ld defs 𝒱 c bd
theorem ldW3_run (m : Memref sig .tc .vmem S3x512x512 .f32) (k : Nat) (X : S3x512x512.Idx → Elt F .f32) :
    Runs defs 𝒱 c bd (ldW3 m k) (own (Ix := Ix) (Name := Name) (U := U) (Lvl := Lvl) c m X) (own c m X) (rdW3 X k) :=
  fun _ => wp_ld defs 𝒱 c bd
theorem ldSq_run (m : Memref sig .tc .vmem S512x512 .f32) (X : S512x512.Idx → Elt F .f32) :
    Runs defs 𝒱 c bd (ldSq m) (own (Ix := Ix) (Name := Name) (U := U) (Lvl := Lvl) c m X) (own c m X) (rdSq X) :=
  fun _ => wp_ld defs 𝒱 c bd
theorem ld384_run (m : Big sig) (i : Nat) (X : Buf512 F) : Runs defs 𝒱 c bd (ld384 m i) (own (Ix := Ix) (Name := Name) (U := U) (Lvl := Lvl) c m X) (own c m X) (rd384 X i) :=
  fun _ => wp_ld defs 𝒱 c bd

/-! ### The pieces -/

theorem normChunk_run (m : Big sig) (a : Row F × Row F) (i : Nat) (X : Buf512 F) :
    Runs defs 𝒱 c bd (normChunk m a i) (own (Ix := Ix) (Name := Name) (U := U) (Lvl := Lvl) c m X) (own c m (normF a i X)) ⟨⟩ :=
  (ldBig_run m i 0 X).bind ((ldBig_run m i 0 X).bind (stBig_run m i _ X))

theorem normOpt_run (m : Big sig) (a : Row F × Row F) (o : Option Nat) (X : Buf512 F) :
    Runs defs 𝒱 c bd (normOpt m a o) (own (Ix := Ix) (Name := Name) (U := U) (Lvl := Lvl) c m X) (own c m (normOptF a o X)) ⟨⟩ := by
  cases o with
  | none => exact Runs.ret _ _
  | some i => exact normChunk_run m a i X

/-- The right factor first. -/
theorem Runs.frame_l {α : Type} {p : Pr nD τ sig F Λ α} {P P' : sProp 𝕄} {a : α} (R : sProp 𝕄)
    (h : Runs defs 𝒱 c bd p P P' a) : Runs defs 𝒱 c bd p iprop(R ∗ P) iprop(R ∗ P') a :=
  (h.frame_r R).conv BI.sep_comm BI.sep_comm

theorem convX_run (x : Memref sig .tc .vmem S6400x40 .f32) (w : Memref sig .tc .vmem S5x40x512 .f32) (b : RowRef sig) (i : Nat)
    (X : S6400x40.Idx → Elt F .f32) (W : S5x40x512.Idx → Elt F .f32) (B : S1x512.Idx → Elt F .f32) :
    Runs defs 𝒱 c bd (convX x w b i) iprop(own (Ix := Ix) (Name := Name) (U := U) (Lvl := Lvl) c x X ∗ own c w W ∗ own c b B)
      iprop(own c x X ∗ own c w W ∗ own c b B) (convXF X W B i) :=
  let hx := fun k => (ldX_run x i k X).frame_r iprop(own c w W ∗ own c b B)
  let hw := fun k => ((ldW1_run w k W).frame_r iprop(own c b B)).frame_l iprop(own c x X)
  (hx 0).bind <| (hw 0).bind <| (hx 1).bind <| (hw 1).bind <| (hx 2).bind <| (hw 2).bind <| (hx 3).bind <| (hw 3).bind <|
    (hx 4).bind <| (hw 4).bind <| (((ldRow_run b B).frame_l iprop(own c w W)).frame_l iprop(own c x X)).bind <| Runs.ret _ _

theorem convX396_run (x : Memref sig .tc .vmem S6400x40 .f32) (w : Memref sig .tc .vmem S5x40x512 .f32) (b : RowRef sig)
    (X : S6400x40.Idx → Elt F .f32) (W : S5x40x512.Idx → Elt F .f32) (B : S1x512.Idx → Elt F .f32) :
    Runs defs 𝒱 c bd (convX396 x w b) iprop(own (Ix := Ix) (Name := Name) (U := U) (Lvl := Lvl) c x X ∗ own c w W ∗ own c b B)
      iprop(own c x X ∗ own c w W ∗ own c b B) (convX396F X W B) :=
  let hx := fun k => (ldX396_run x k X).frame_r iprop(own c w W ∗ own c b B)
  let hw := fun k => ((ldW1_run w k W).frame_r iprop(own c b B)).frame_l iprop(own c x X)
  (hx 0).bind <| (hw 0).bind <| (hx 1).bind <| (hw 1).bind <| (hx 2).bind <| (hw 2).bind <| (hx 3).bind <| (hw 3).bind <|
    (hx 4).bind <| (hw 4).bind <| (((ldRow_run b B).frame_l iprop(own c w W)).frame_l iprop(own c x X)).bind <| Runs.ret _ _

theorem convC_run (d : Nat) (m : Big sig) (w : Memref sig .tc .vmem S3x512x512 .f32) (b : RowRef sig) (i : Nat)
    (X : Buf512 F) (W : S3x512x512.Idx → Elt F .f32) (B : S1x512.Idx → Elt F .f32) :
    Runs defs 𝒱 c bd (convC d m w b i) iprop(own (Ix := Ix) (Name := Name) (U := U) (Lvl := Lvl) c m X ∗ own c w W ∗ own c b B)
      iprop(own c m X ∗ own c w W ∗ own c b B) (convCF d W B i X) :=
  let hx := fun k => (ldBig_run m i k X).frame_r iprop(own c w W ∗ own c b B)
  let hw := fun k => ((ldW3_run w k W).frame_r iprop(own c b B)).frame_l iprop(own c m X)
  (hx 0).bind <| (hw 0).bind <| (hx d).bind <| (hw 1).bind <| (hx (2 * d)).bind <| (hw 2).bind <|
    (((ldRow_run b B).frame_l iprop(own c w W)).frame_l iprop(own c m X)).bind <| Runs.ret _ _

theorem linC_run (m : Big sig) (w : Memref sig .tc .vmem S512x512 .f32) (b : RowRef sig) (i : Nat)
    (X : Buf512 F) (W : S512x512.Idx → Elt F .f32) (B : S1x512.Idx → Elt F .f32) :
    Runs defs 𝒱 c bd (linC m w b i) iprop(own (Ix := Ix) (Name := Name) (U := U) (Lvl := Lvl) c m X ∗ own c w W ∗ own c b B)
      iprop(own c m X ∗ own c w W ∗ own c b B) (linCF W B i X) :=
  ((ldBig_run m i 0 X).frame_r iprop(own c w W ∗ own c b B)).bind <|
    (((ldSq_run w W).frame_r iprop(own c b B)).frame_l iprop(own c m X)).bind <|
    (((ldRow_run b B).frame_l iprop(own c w W)).frame_l iprop(own c m X)).bind <| Runs.ret _ _

theorem step_run {σ : Type} {R : σ → sProp 𝕄} {nrm : Option Nat → Pr nD τ sig F Λ PUnit} {dot : Nat → Pr nD τ sig F Λ (Chunk F)}
    {st : Chunk F → Row F × Row F} {nrmF : Option Nat → σ → σ} {dotF : Nat → σ → Chunk F} (o : Big sig) (hn : ∀ i q, Runs (Ix := Ix) (Name := Name) (U := U) (Lvl := Lvl) defs 𝒱 c bd (nrm i) (R q) (R (nrmF i q)) ⟨⟩)
    (hd : ∀ i q, Runs (Ix := Ix) (Name := Name) (U := U) (Lvl := Lvl) defs 𝒱 c bd (dot i) (R q) (R q) (dotF i q)) (p : Nat × Option Nat) (q : σ × Buf512 F) :
    Runs (Ix := Ix) (Name := Name) (U := U) (Lvl := Lvl) defs 𝒱 c bd (step nrm dot st o p) iprop(R q.1 ∗ own c o q.2)
      iprop(R (stepF nrmF dotF st p q).1.1 ∗ own c o (stepF nrmF dotF st p q).1.2) (stepF nrmF dotF st p q).2 :=
  ((hn p.2 q.1).frame_r _).bind <| ((hd p.1 _).frame_r _).bind <| ((ldBig_run o p.1 0 q.2).frame_l _).bind <|
    ((stBig_run o p.1 _ q.2).frame_l _).bind <| Runs.ret _ _

theorem loop_run {σ : Type} {R : σ → sProp 𝕄} {f : Nat × Option Nat → Pr nD τ sig F Λ (Row F × Row F)} {fF : Nat × Option Nat → σ → σ × (Row F × Row F)}
    (hf : ∀ p q, Runs (Ix := Ix) (Name := Name) (U := U) (Lvl := Lvl) defs 𝒱 c bd (f p) (R q) (R (fF p q).1) (fF p q).2) (l : List (Nat × Option Nat)) (q : σ) (s : Row F × Row F) :
    Runs (Ix := Ix) (Name := Name) (U := U) (Lvl := Lvl) defs 𝒱 c bd (loop f l s) (R q) (R (loopF fF l q s).1) (loopF fF l q s).2 := by
  induction l generalizing q s with
  | nil => exact Runs.ret _ _
  | cons p l ih => exact (hf p q).bind (ih _ _)

theorem stage1_run (x : Memref sig .tc .vmem S6400x40 .f32) (w : Memref sig .tc .vmem S5x40x512 .f32) (b : RowRef sig) (o : Big sig)
    (X : S6400x40.Idx → Elt F .f32) (W : S5x40x512.Idx → Elt F .f32) (B : S1x512.Idx → Elt F .f32) (O : Buf512 F) :
    Runs defs 𝒱 c bd (stage1 x w b o) iprop((own (Ix := Ix) (Name := Name) (U := U) (Lvl := Lvl) c x X ∗ own c w W ∗ own c b B) ∗ own c o O)
      iprop((own c x X ∗ own c w W ∗ own c b B) ∗ own c o (stage1F X W B O).1) (stage1F X W B O).2 :=
  have hs := step_run (c := c) (defs := defs) (𝒱 := 𝒱) (bd := bd) (σ := PUnit) (st := stats396 (F := F))
    (R := fun _ => iprop(own (Ix := Ix) (Name := Name) (U := U) (Lvl := Lvl) c x X ∗ own c w W ∗ own c b B)) o
    (nrm := fun _ => pure ⟨⟩) (nrmF := fun _ u => u) (dot := convX x w b) (dotF := fun i _ => convXF X W B i)
    (fun _ _ => Runs.ret _ _) (fun i _ => convX_run x w b i X W B)
  (hs (0, none) (⟨⟩, O)).bind <|
    (loop_run (R := fun q : PUnit × Buf512 F => iprop((own (Ix := Ix) (Name := Name) (U := U) (Lvl := Lvl) c x X ∗ own c w W ∗ own c b B) ∗ own c o q.2))
      hs chunks1 _ _).bind <|
    ((convX396_run x w b X W B).frame_r _).bind <| Runs.bind (Runs.frame_l _ fun _ => wp_ld defs 𝒱 c bd) <|
    Runs.bind (Runs.frame_l _ fun _ => wp_st defs 𝒱 c bd) <| Runs.ret _ _

theorem stage2_run (i : Big sig) (a : Row F × Row F) (o : Big sig) {st : Chunk F → Row F × Row F} {Q : sProp 𝕄}
    {dot : Nat → Pr nD τ sig F Λ (Chunk F)} {dotF : Nat → Buf512 F → Chunk F}
    (hd : ∀ k X, Runs defs 𝒱 c bd (dot k) iprop(own c i X ∗ Q) iprop(own c i X ∗ Q) (dotF k X)) (I O : Buf512 F) :
    Runs defs 𝒱 c bd (stage2 i a dot st o) iprop((own c i I ∗ Q) ∗ own c o O)
      iprop((own c i (stage2F a dotF st I O).1.1 ∗ Q) ∗ own c o (stage2F a dotF st I O).1.2) (stage2F a dotF st I O).2 :=
  have hs := step_run (c := c) (defs := defs) (𝒱 := 𝒱) (bd := bd) (st := st) (R := fun X => iprop(own c i X ∗ Q)) o
    (nrm := normOpt i a) (nrmF := normOptF a) (fun k X => (normOpt_run i a k X).frame_r Q) hd
  (((normChunk_run i a 0 I).frame_r Q).frame_r _).bind <| (((normChunk_run i a 1 _).frame_r Q).frame_r _).bind <|
    (hs (0, some 2) (_, O)).bind <|
    loop_run (R := fun q : Buf512 F × Buf512 F => iprop((own c i q.1 ∗ Q) ∗ own c o q.2)) hs chunks2 _ _

theorem affine_run (k : F .f32) (g t : RowRef sig) (s : Row F × Row F) (G T : S1x512.Idx → Elt F .f32) :
    Runs defs 𝒱 c bd (affine k g t s) iprop(own (Ix := Ix) (Name := Name) (U := U) (Lvl := Lvl) c g G ∗ own c t T) iprop(own c g G ∗ own c t T) (affF k G T s) :=
  ((ldRow_run g G).frame_r _).bind <| ((ldRow_run t T).frame_l _).bind <| Runs.ret _ _

/-! ### The products and their copies -/

section Copies

variable [Infinite Name] [CountersIn U]

/-- A slot of the staging buffer free, its semaphore at zero. -/
def Free (c : Dev nD) (g : Memref sig .tc .vmem S2x512x512 .f32) (s : DmaSems sig S2) (k : Nat) : sProp 𝕄 :=
  iprop((∃ X, own c (slot g k) X) ∗ semVal ((c : Thread nD τ), SemLoc.dma (cell s k).sem) 0)

/-- A slot in flight to its plane. -/
def Fly (c : Dev nD) (r : Memref sig .tc .hbm S16x512x512 .f32) (g : Memref sig .tc .vmem S2x512x512 .f32) (s : DmaSems sig S2) (ι : Ix)
    (k : Nat) (G : S512x512.Idx → Elt F .f32) : sProp 𝕄 :=
  Transfers.Flight (countersEmb (U := U)) (c : Thread nD τ) (SemLoc.dma (cell s k).sem) ι (plane r k).view.dmaCredit
    iprop(own c (plane r k) G ∗ ∃ X, own c (slot g k) X)

def Owes (c : Dev nD) : sProp 𝕄 := iprop(∃ W, owes (c : Thread nD τ) 0 W)

theorem waitPlane_run (r : Memref sig .tc .hbm S16x512x512 .f32) (g : Memref sig .tc .vmem S2x512x512 .f32) (s : DmaSems sig S2) (ι : Ix)
    (k : Nat) (G : S512x512.Idx → Elt F .f32) :
    Runs defs 𝒱 c bd (waitPlane r g s k) iprop(Fly (Ix := Ix) (Name := Name) (U := U) (Lvl := Lvl) c r g s ι k G ∗ Owes c)
      iprop((own c (plane r k) G ∗ Free c g s k) ∗ Owes c) ⟨⟩ := by
  intro K
  unfold Fly Owes Free
  iintro ⟨HF, %W, HO⟩ Hk
  iapply (Transfers.wp_waitLocal (countersEmb (U := U)) (defs := defs) 𝒱 (c : Thread nD τ) bd ι (N := (plane r k).view.dmaCredit) rfl) $$ [HF HO]
  · isplitl [HF]
    · iexact HF
    iexact HO
  iintro ⟨⟨Hp, Hs⟩, Hv, HO⟩
  rw [wp_ret]
  imodintro
  iapply Hk
  isplitr [HO]
  · isplitl [Hp]
    · iexact Hp
    isplitl [Hs]
    · iexact Hs
    iexact Hv
  iexists _
  iexact HO

theorem enqueue_run (r : Memref sig .tc .hbm S16x512x512 .f32) (g : Memref sig .tc .vmem S2x512x512 .f32) (s : DmaSems sig S2) (ι : Ix)
    (k : Nat) (G Y : S512x512.Idx → Elt F .f32) :
    Runs defs 𝒱 c bd (Prog.lift (.enqueueDma (slot g k) (.here (plane r k)) (.dma (cell s k).sem) ((View.wordExact_bits rfl).reshape _ _) ((View.wordExact_bits rfl).reshape _ _)
    ⟨Or.inl rfl, trivial⟩))
     iprop(own (Ix := Ix) (Name := Name) (U := U) (Lvl := Lvl) c (slot g k) G ∗ own c (plane r k) Y ∗ semVal ((c : Thread nD τ), SemLoc.dma (cell s k).sem) 0)
      (Fly c r g s ι k G) ⟨⟩ := by
  intro K
  unfold Fly own owns
  iintro ⟨⟨%f, %hf, Hs⟩, ⟨%y, %hy, Hp⟩, Hv⟩ Hk
  iapply (Transfers.wp_dmaLocal (countersEmb (U := U)) (defs := defs) 𝒱 (c : Thread nD τ) bd ι (plane r k).view.dmaCredit rfl
    (by rw [Nat.pos_iff_ne_zero]; intro h; exact absurd ((View.amount_eq_zero_iff _ (.dma (cell s k).sem)).mp h) (by decide)) (le_refl _)) $$ [Hs Hp Hv]
  · isplitl [Hs]
    · iexact Hs
    isplitl [Hp]
    · iexact Hp
    iexact Hv
  iintro HF
  rw [wp_ret]
  imodintro
  iapply Hk
  iapply (Transfers.Flight_mono _ (c : Thread nD τ) ?_) $$ HF
  iintro ⟨Hp, Hs⟩
  isplitl [Hp]
  · iexists _
    isplitr
    swap
    · iexact Hp
    ipureintro
    rw [View.read_write_univ, hf]
  iexists G
  iexists f
  isplitr
  · ipureintro; exact hf
  iexact Hs

end Copies

end Mega

end
-- ==== Proof.MegaTail.lean ====
/-
  A buffer of planes held plane by plane, and the last part of the kernel: the sixteen products copied out.
-/
module

public import proofs.«01_k».proof.Proof.MegaRun

@[expose] public section

noncomputable section

namespace Mega

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable {nD : Nat} {τ : Topo} {sig : RefSig} {Λ : Labels}
variable {Ix : Type} [DecidableEq Ix] {Name : Type} [DecidableEq Name] {U : Type} [URA U] {Lvl : Type} [Preorder Lvl]
variable {defs : Defs nD τ sig (Elt F) Λ} {𝒱 : Variants} {c : Dev nD} {bd : Option 𝒱.V}

local notation "𝕄" => MT nD τ sig Ix (Elt F) Name U Lvl

abbrev Sn (n : Nat) : Shape := ⟨3, ![n, 512, 512]⟩

abbrev slab {sp : Space} {n : Nat} (m : Memref sig .tc sp (Sn n) .f32)
    (inb : ∀ k a, (![k % n, 0, 0] : Fin 3 → Nat) a + S1x512x512.size a ≤ (Sn n).size a) (k : Nat) : Memref sig .tc sp S512x512 .f32 :=
  (m.slice (Rect.unit (s := Sn n) ![k % n, 0, 0] S1x512x512.size (inb k)) (fun _ => rfl)).squeeze S512x512 sqM

def ix2 (i j : Fin 512) : S512x512.Idx := fun a => match a with | 0 => i | 1 => j
def ix3 {n : Nat} (k : Fin n) (i j : Fin 512) : (Sn n).Idx := fun a => match a with | 0 => k | 1 => i | 2 => j

variable {sp : Space} {n : Nat} (m : Memref sig .tc sp (Sn n) .f32)
    (inb : ∀ k a, (![k % n, 0, 0] : Fin 3 → Nat) a + S1x512x512.size a ≤ (Sn n).size a)

theorem slab_emb (k : Fin n) (j : S512x512.Idx) : (slab m inb k.val).view.emb j = m.view.emb (ix3 k (j 0) (j 1)) := by
  show m.view.emb ((Rect.unit (s := Sn n) ![k.val % n, 0, 0] S1x512x512.size (inb k.val)).emb (Shape.reshapeEquiv _ j)) = _
  rw [Shape.reshapeEquiv_cons_one]
  congr 1
  funext a
  apply Fin.ext
  fin_cases a
  · show k.val % n + 1 * 0 = k.val
    rw [Nat.mod_eq_of_lt k.isLt]; rfl
  · show 0 + 1 * (j 0).val = (j 0).val
    omega
  · show 0 + 1 * (j 1).val = (j 1).val
    omega

theorem mem_slab {k : Fin n} {i : (Sn n).Idx} : m.view.emb i ∈ (slab m inb k.val).view.set ↔ i 0 = k := by
  have h : (slab m inb k.val).view.set = (m.view.slice (Rect.unit (s := Sn n) ![k.val % n, 0, 0] S1x512x512.size (inb k.val))).set :=
    View.set_reshape _ _
  rw [h, View.set_slice, Finset.mem_map', Rect.mem_set_unit]
  have hk := Nat.mod_eq_of_lt k.isLt
  constructor
  · intro h
    have h0 : k.val % n ≤ (i 0).val ∧ (i 0).val < k.val % n + 1 := h 0
    exact Fin.ext (by omega)
  · rintro rfl a
    fin_cases a
    · show (i 0).val % n ≤ (i 0).val ∧ (i 0).val < (i 0).val % n + 1
      omega
    · exact ⟨Nat.zero_le _, by show (i 1).val < 0 + 512; have h : (i 1).val < 512 := (i 1).isLt; omega⟩
    · exact ⟨Nat.zero_le _, by show (i 2).val < 0 + 512; have h : (i 2).val < 512 := (i 2).isLt; omega⟩

theorem slab_subset (k : Fin n) : (slab m inb k.val).view.set ⊆ m.view.set := by
  have h : (slab m inb k.val).view.set = (m.view.slice (Rect.unit (s := Sn n) ![k.val % n, 0, 0] S1x512x512.size (inb k.val))).set :=
    View.set_reshape _ _
  rw [h]; exact View.set_slice_subset _ _

theorem slab_disjoint (k k' : Fin n) (h : k ≠ k') : Disjoint (slab m inb k.val).view.set (slab m inb k'.val).view.set := by
  rw [Finset.disjoint_left]
  intro x hx hx'
  obtain ⟨i, -, rfl⟩ := Finset.mem_map.mp (slab_subset m inb k hx)
  exact h (((mem_slab m inb).mp hx).symm.trans ((mem_slab m inb).mp hx'))

theorem slab_cover : (Finset.univ.biUnion fun k : Fin n => (slab m inb k.val).view.set) = m.view.set := by
  apply Finset.Subset.antisymm
  · exact Finset.biUnion_subset.mpr fun k _ => slab_subset m inb k
  · intro x hx
    obtain ⟨i, -, rfl⟩ := Finset.mem_map.mp hx
    exact Finset.mem_biUnion.mpr ⟨i 0, Finset.mem_univ _, (mem_slab m inb).mpr rfl⟩

theorem slab_intro (k : Fin n) (f : Buf (Elt F) (m.view.loc (c : Thread nD τ))) :
    (m.view.loc (c : Thread nD τ) ↦[(slab m inb k.val).view.set]{fullShare} f : sProp 𝕄) ⊢ iprop(∃ X, own c (slab m inb k.val) X) := by
  unfold own owns
  iintro H
  iexists ((slab m inb k.val).view.read (Elt F) f)
  iexists f
  isplitr
  · ipureintro; rfl
  iexact H

theorem slab_rep (k : Fin n) (G : S512x512.Idx → Elt F .f32) :
    (own c (slab m inb k.val) G : sProp 𝕄)
      ⊢ (m.view.loc (c : Thread nD τ) ↦[(slab m inb k.val).view.set]{fullShare} (slab m inb k.val).view.rep G) := by
  unfold own owns
  iintro ⟨%f, %hf, H⟩
  iapply (pointsTo_rep_of_read (c : Thread nD τ) (slab m inb k.val) f fullShare G hf) $$ H

/-- A plane's elements. -/
abbrev slabSet (k : Fin n) : Finset (Idx (m.view.loc (c : Thread nD τ))) := (slab m inb k.val).view.set

theorem held_split (f : Buf (Elt F) (m.view.loc (c : Thread nD τ))) :
    (m.view.loc (c : Thread nD τ) ↦[m.view.set]{fullShare} f : sProp 𝕄)
      ⊢ bigSep Finset.univ fun k : Fin n => m.view.loc (c : Thread nD τ) ↦[slabSet (c := c) m inb k]{fullShare} f := by
  have h := pointsTo_biUnion (τ := τ) (ℓ := m.view.loc (c : Thread nD τ)) (Ix := Ix) (Name := Name) (U := U) (Lvl := Lvl) (f := f) (q := fullShare) Finset.univ
    (slabSet (c := c) m inb) (fun k _ k' _ hk => slab_disjoint m inb k k' hk)
  rw [show Finset.univ.biUnion (slabSet (c := c) m inb) = m.view.set from slab_cover m inb] at h
  rw [h]

theorem held_join (fs : Fin n → Buf (Elt F) (m.view.loc (c : Thread nD τ))) :
    (bigSep Finset.univ fun k : Fin n => m.view.loc (c : Thread nD τ) ↦[slabSet (c := c) m inb k]{fullShare} fs k : sProp 𝕄)
      ⊢ iprop(∃ g, ⌜∀ k : Fin n, ∀ x ∈ slabSet (c := c) m inb k, g x = fs k x⌝ ∗ m.view.loc (c : Thread nD τ) ↦[m.view.set]{fullShare} g) := by
  have h := pointsTo_biUnion_join (τ := τ) (ℓ := m.view.loc (c : Thread nD τ)) (Ix := Ix) (Name := Name) (U := U) (Lvl := Lvl) (q := fullShare) Finset.univ
    (slabSet (c := c) m inb) fs (m.view.rep fun _ => Scalar.ofBits .f32 0) (fun k _ k' _ hk => slab_disjoint m inb k k' hk)
  rw [show Finset.univ.biUnion (slabSet (c := c) m inb) = m.view.set from slab_cover m inb] at h
  refine h.trans ?_
  iintro ⟨%g, %hg, H⟩
  iexists g
  isplitr
  · ipureintro; exact fun k => hg k (Finset.mem_univ k)
  iexact H

theorem own_split (Y : (Sn n).Idx → Elt F .f32) :
    (own c m Y : sProp 𝕄) ⊢ bigSep Finset.univ fun k : Fin n => iprop(∃ X, own c (slab m inb k.val) X) := by
  have h : ∀ f, (m.view.loc (c : Thread nD τ) ↦[m.view.set]{fullShare} f : sProp 𝕄) ⊢ bigSep Finset.univ fun k : Fin n => iprop(∃ X, own c (slab m inb k.val) X) :=
    fun f => (held_split m inb f).trans (bigSep_mono (fun k _ => slab_intro m inb k f))
  iintro H
  unfold own owns
  icases H with ⟨%f, %hf, H⟩
  iapply (h f) $$ H

/-- The index of a plane's own element. -/
theorem ix3_eta (i : (Sn n).Idx) : ix3 (i 0) (i 1) (i 2) = i := by
  funext a; fin_cases a <;> rfl

theorem slab_read (i : (Sn n).Idx) (g : m.view.ty.Contents (Elt F)) :
    m.view.read (Elt F) g i = (slab m inb (i 0).val).view.read (Elt F) g (ix2 (i 1) (i 2)) := by
  have h3 : (slab m inb (i 0).val).view.emb (ix2 (i 1) (i 2)) = m.view.emb i :=
    (slab_emb m inb (i 0) (ix2 (i 1) (i 2))).trans (congrArg m.view.emb (ix3_eta i))
  rw [View.read_apply, View.read_apply, h3]

theorem own_join (G : Fin n → S512x512.Idx → Elt F .f32) :
    (bigSep Finset.univ fun k : Fin n => own c (slab m inb k.val) (G k) : sProp 𝕄) ⊢ own c m (fun i => G (i 0) (ix2 (i 1) (i 2))) := by
  have h : (bigSep Finset.univ fun k : Fin n => own c (slab m inb k.val) (G k) : sProp 𝕄)
      ⊢ bigSep Finset.univ fun k : Fin n => m.view.loc (c : Thread nD τ) ↦[slabSet (c := c) m inb k]{fullShare} (slab m inb k.val).view.rep (G k) :=
    bigSep_mono (fun k _ => slab_rep m inb k (G k))
  refine h.trans ((held_join m inb _).trans ?_)
  iintro ⟨%g, %hg, H⟩
  unfold own owns
  iexists g
  isplitr
  swap
  · iexact H
  ipureintro
  funext i
  rw [slab_read m inb i g]
  have h2 : (slab m inb (i 0).val).view.read (Elt F) g = G (i 0) := by
    rw [View.read_congr (g := (slab m inb (i 0).val).view.rep (G (i 0))) (fun x hx => hg (i 0) x hx), View.read_rep]
  exact congrFun h2 _

/-! ## The sixteen products -/

section Products

variable [Infinite Name] [CountersIn U]

/-- The store of a product into its slot: what the slot then holds. -/
theorem slot_read (g : Memref sig .tc .vmem S2x512x512 .f32) (k : Nat) (G : S512x512.Idx → Elt F .f32) (f : g.view.ty.Contents (Elt F)) :
    (slot g k).view.read (Elt F) (g.view.writes (Elt F) f
      [⟨Rect.unit (s := S2x512x512) ![k % 2, 0, 0] S1x512x512.size (inbStg k), shapeCast S1x512x512 G castsG⟩]) = G := by
  funext j
  have h : (slot g k).view.read (Elt F) (g.view.writes (Elt F) f
      [⟨Rect.unit (s := S2x512x512) ![k % 2, 0, 0] S1x512x512.size (inbStg k), shapeCast S1x512x512 G castsG⟩]) j
    = g.view.read (Elt F) (g.view.writes (Elt F) f
      [⟨Rect.unit (s := S2x512x512) ![k % 2, 0, 0] S1x512x512.size (inbStg k), shapeCast S1x512x512 G castsG⟩])
        ((Rect.unit (s := S2x512x512) ![k % 2, 0, 0] S1x512x512.size (inbStg k)).emb (Shape.reshapeEquiv sqM.numel_eq j)) := rfl
  rw [h, View.read_writes_cons_emb]
  show G (Shape.reshapeEquiv _ (Shape.reshapeEquiv _ j)) = G j
  rw [Shape.reshapeEquiv_reshapeEquiv, Shape.reshapeEquiv_self]

theorem slot_set (g : Memref sig .tc .vmem S2x512x512 .f32) (k : Nat) :
    (slot g k).view.set = (g.access (Rect.unit (s := S2x512x512) ![k % 2, 0, 0] S1x512x512.size (inbStg k))).set :=
  View.set_reshape _ _

/-- The program that puts one product in its slot. -/
def fill (g : Memref sig .tc .vmem S2x512x512 .f32) (k : Nat) (G : S512x512.Idx → Elt F .f32) : Pr nD τ sig F Λ PUnit :=
  Prog.lift (.load g (Rect.unit (s := S2x512x512) ![k % 2, 0, 0] S1x512x512.size (inbStg k)).toLoadRect (View.loadsAt_vmem pos_w3)) >>= fun _ =>
  Prog.lift (.store g (Rect.unit (s := S2x512x512) ![k % 2, 0, 0] S1x512x512.size (inbStg k)) (shapeCast S1x512x512 G castsG) Finset.univ
    (View.stores_vmem_bits_univ pos_w3 rfl) (.inl rfl))

theorem fill_run (g : Memref sig .tc .vmem S2x512x512 .f32) (k : Nat) (G : S512x512.Idx → Elt F .f32) :
    Runs (Ix := Ix) (Name := Name) (U := U) (Lvl := Lvl) defs 𝒱 c bd (fill g k G) iprop(∃ X, own c (slot g k) X) (own c (slot g k) G) ⟨⟩ := by
  intro K
  unfold fill own owns
  iintro ⟨%X, %f, %hf, H⟩ Hk
  rw [wp_bind]
  iapply (wp_load_rect (defs := defs) 𝒱 (c : Thread nD τ) bd Set.univ (m := g)
    (r := (Rect.unit (s := S2x512x512) ![k % 2, 0, 0] S1x512x512.size (inbStg k))) (S := (slot g k).view.set) (slot_set g k).ge) $$ H
  iintro H
  rw [wp_ret]
  imodintro
  iapply (wp_store_writes₀ (defs := defs) 𝒱 (c : Thread nD τ) bd Set.univ (m := g)
    (r := Rect.unit (s := S2x512x512) ![k % 2, 0, 0] S1x512x512.size (inbStg k)) (w := shapeCast S1x512x512 G castsG)
    (S := (slot g k).view.set) (f := f) (slot_set g k).ge) $$ H
  iintro H
  rw [wp_ret]
  imodintro
  iapply Hk
  iexists _
  isplitr
  swap
  · iexact H
  ipureintro
  exact slot_read g k G f

/-- One product without a wait. -/
theorem gramStep_run (b a : Big sig) (af : Row F × Row F) (r : Memref sig .tc .hbm S16x512x512 .f32) (g : Memref sig .tc .vmem S2x512x512 .f32)
    (s : DmaSems sig S2) (ι : Ix) (k : Nat) (o : Option Nat) (B A : Buf512 F) :
    Runs (Ix := Ix) (Name := Name) (U := U) (Lvl := Lvl) defs 𝒱 c bd (gramStep b a af r g s (k, o, none))
      iprop((own c b B ∗ own c a A) ∗ Free c g s k ∗ ∃ Y, own c (plane r k) Y)
      iprop((own c b B ∗ own c a (normOptF af o A)) ∗ Fly c r g s ι k (gram (rd384 B k) (rd384 (normOptF af o A) k))) ⟨⟩ := by
  intro K
  iintro ⟨⟨Hb, Ha⟩, HF, %Y, Hp⟩ Hk
  unfold Free
  icases HF with ⟨Hs, Hv⟩
  unfold gramStep
  rw [wp_bind]
  iapply (normOpt_run a af o A _) $$ Ha
  iintro Ha
  rw [wp_bind]
  iapply (Runs.ret (defs := defs) (𝒱 := 𝒱) (c := c) (bd := bd) PUnit.unit _ _) $$ Ha
  iintro Ha
  rw [wp_bind]
  iapply (ld384_run b k B _) $$ Hb
  iintro Hb
  rw [wp_bind]
  iapply (ld384_run a k _ _) $$ Ha
  iintro Ha
  have e : ∀ (p : Pr nD τ sig F Λ PUnit) (q : Pr nD τ sig F Λ PUnit) (l : Pr nD τ sig F Λ (Vec F S1x512x512 .f32)), (l >>= fun _ => p >>= fun _ => q) = ((l >>= fun _ => p) >>= fun _ => q) :=
    fun _ _ _ => (bind_assoc _ _ _).symm
  rw [e, wp_bind]
  iapply (fill_run g k (gram (rd384 B k) (rd384 (normOptF af o A) k)) _) $$ Hs
  iintro Hs
  iapply (enqueue_run r g s ι k (gram (rd384 B k) (rd384 (normOptF af o A) k)) Y _) $$ [Hs Hp Hv]
  · isplitl [Hs]
    · iexact Hs
    isplitl [Hp]
    · iexact Hp
    iexact Hv
  iintro HF
  iapply Hk
  isplitr [HF]
  · isplitl [Hb]
    · iexact Hb
    iexact Ha
  iexact HF

/-- One product that first waits for the one two before it. -/
theorem gramStep_wait_run (b a : Big sig) (af : Row F × Row F) (r : Memref sig .tc .hbm S16x512x512 .f32) (g : Memref sig .tc .vmem S2x512x512 .f32)
    (s : DmaSems sig S2) (ι : Ix) (j k : Nat) (o : Option Nat) (B A : Buf512 F) (G : S512x512.Idx → Elt F .f32)
    (hF : (Free c g s j : sProp 𝕄) ⊢ Free c g s k) :
    Runs (Ix := Ix) (Name := Name) (U := U) (Lvl := Lvl) defs 𝒱 c bd (gramStep b a af r g s (k, o, some j))
      iprop(((own c b B ∗ own c a A) ∗ Owes c) ∗ Fly c r g s ι j G ∗ ∃ Y, own c (plane r k) Y)
      iprop((((own c b B ∗ own c a (normOptF af o A)) ∗ Owes c) ∗ own c (plane r j) G)
        ∗ Fly c r g s ι k (gram (rd384 B k) (rd384 (normOptF af o A) k))) ⟨⟩ := by
  intro K
  iintro ⟨⟨⟨Hb, Ha⟩, HO⟩, HFl, Hp⟩ Hk
  have e : gramStep (nD := nD) (τ := τ) (Λ := Λ) b a af r g s (k, o, some j)
      = normOpt a af o >>= fun _ => waitPlane r g s j >>= fun _ => gramStep b a af r g s (k, none, none) := rfl
  rw [e, wp_bind]
  iapply (normOpt_run a af o A _) $$ Ha
  iintro Ha
  rw [wp_bind]
  iapply (waitPlane_run r g s ι j G _) $$ [HFl HO]
  · isplitl [HFl]
    · iexact HFl
    iexact HO
  iintro ⟨⟨Hj, HF⟩, HO⟩
  iapply (gramStep_run b a af r g s ι k none B (normOptF af o A) _) $$ [Hb Ha HF Hp]
  · isplitl [Hb Ha]
    · isplitl [Hb]
      · iexact Hb
      iexact Ha
    isplitl [HF]
    · iapply hF $$ HF
    iexact Hp
  iintro ⟨Hba, HFl⟩
  iapply Hk
  isplitr [HFl]
  · isplitr [Hj]
    · isplitl [Hba]
      · iexact Hba
      iexact HO
    iexact Hj
  iexact HFl

/-- The buffer of the last stage with its chunks up to `k` normalised. -/
def normTo (af : Row F × Row F) (A : Buf512 F) : Nat → Buf512 F
  | 0 => normF af 0 A
  | k + 1 => normF af (k + 1) (normTo af A k)

/-- The product of chunk `k`. -/
def gramF (af : Row F × Row F) (B A : Buf512 F) (k : Nat) : S512x512.Idx → Elt F .f32 :=
  gram (rd384 B k) (rd384 (normTo af A (min (k + 1) 15)) k)

/-- All the products. -/
def gramsF (af : Row F × Row F) (B A : Buf512 F) : S16x512x512.Idx → Elt F .f32 :=
  fun i => gramF af B A (i 0).val (ix2 (i 1) (i 2))

theorem planes_split (r : Memref sig .tc .hbm S16x512x512 .f32) (Y : S16x512x512.Idx → Elt F .f32) :
    (own c r Y : sProp 𝕄) ⊢ iprop((∃ X, own c (plane r 0) X) ∗ (∃ X, own c (plane r 1) X) ∗ (∃ X, own c (plane r 2) X) ∗ (∃ X, own c (plane r 3) X) ∗ (∃ X, own c (plane r 4) X) ∗ (∃ X, own c (plane r 5) X) ∗ (∃ X, own c (plane r 6) X) ∗ (∃ X, own c (plane r 7) X) ∗ (∃ X, own c (plane r 8) X) ∗ (∃ X, own c (plane r 9) X) ∗ (∃ X, own c (plane r 10) X) ∗ (∃ X, own c (plane r 11) X) ∗ (∃ X, own c (plane r 12) X) ∗ (∃ X, own c (plane r 13) X) ∗ (∃ X, own c (plane r 14) X) ∗ (∃ X, own c (plane r 15) X)) := by
  refine (own_split (n := 16) r inbM Y).trans ?_
  rw [bigSep_univ_eq_bigSepL ([0, 1, 2, 3, 4, 5, 6, 7, 8, 9, 10, 11, 12, 13, 14, 15] : List (Fin 16)) (by decide) (by decide)]
  exact Entails.rfl

theorem planes_join (r : Memref sig .tc .hbm S16x512x512 .f32) (af : Row F × Row F) (B A : Buf512 F) :
    iprop(own c (plane r 0) (gramF af B A 0) ∗ own c (plane r 1) (gramF af B A 1) ∗ own c (plane r 2) (gramF af B A 2) ∗ own c (plane r 3) (gramF af B A 3) ∗ own c (plane r 4) (gramF af B A 4) ∗ own c (plane r 5) (gramF af B A 5) ∗ own c (plane r 6) (gramF af B A 6) ∗ own c (plane r 7) (gramF af B A 7) ∗ own c (plane r 8) (gramF af B A 8) ∗ own c (plane r 9) (gramF af B A 9) ∗ own c (plane r 10) (gramF af B A 10) ∗ own c (plane r 11) (gramF af B A 11) ∗ own c (plane r 12) (gramF af B A 12) ∗ own c (plane r 13) (gramF af B A 13) ∗ own c (plane r 14) (gramF af B A 14) ∗ own c (plane r 15) (gramF af B A 15)) ⊢ (own c r (gramsF af B A) : sProp 𝕄) := by
  refine BIBase.Entails.trans ?_ (own_join (n := 16) r inbM (fun k => gramF af B A k.val))
  rw [bigSep_univ_eq_bigSepL ([0, 1, 2, 3, 4, 5, 6, 7, 8, 9, 10, 11, 12, 13, 14, 15] : List (Fin 16)) (by decide) (by decide)]
  exact Entails.rfl

theorem slots_split (g : Memref sig .tc .vmem S2x512x512 .f32) (Y : S2x512x512.Idx → Elt F .f32) :
    (own c g Y : sProp 𝕄) ⊢ iprop((∃ X, own c (slot g 0) X) ∗ ∃ X, own c (slot g 1) X) := by
  refine (own_split (n := 2) g inbStg Y).trans ?_
  rw [bigSep_univ_eq_bigSepL ([0, 1] : List (Fin 2)) (by decide) (by decide)]
  exact Entails.rfl

theorem slots_join (g : Memref sig .tc .vmem S2x512x512 .f32) (X0 X1 : S512x512.Idx → Elt F .f32) :
    iprop(own c (slot g 0) X0 ∗ own c (slot g 1) X1) ⊢ (own c g (fun i => (![X0, X1] : Fin 2 → _) (i 0) (ix2 (i 1) (i 2))) : sProp 𝕄) := by
  refine BIBase.Entails.trans ?_ (own_join (n := 2) g inbStg ![X0, X1])
  rw [bigSep_univ_eq_bigSepL ([0, 1] : List (Fin 2)) (by decide) (by decide)]
  exact Entails.rfl

theorem tail_run (b a : Big sig) (af : Row F × Row F) (r : Memref sig .tc .hbm S16x512x512 .f32) (g : Memref sig .tc .vmem S2x512x512 .f32)
    (s : DmaSems sig S2) (ι : Ix) (B A : Buf512 F) (M : S16x512x512.Idx → Elt F .f32) (X : S2x512x512.Idx → Elt F .f32) :
    Runs (Ix := Ix) (Name := Name) (U := U) (Lvl := Lvl) defs 𝒱 c bd (tail b a af r g s)
      iprop((own c b B ∗ own c a A) ∗ own c r M ∗ own c g X
        ∗ (semVal ((c : Thread nD τ), SemLoc.dma (cell s 0).sem) 0 ∗ semVal ((c : Thread nD τ), SemLoc.dma (cell s 1).sem) 0) ∗ Owes c)
      iprop((own c b B ∗ own c a (normTo af A 15)) ∗ own c r (gramsF af B A) ∗ (∃ X, own c g X)
        ∗ (semVal ((c : Thread nD τ), SemLoc.dma (cell s 0).sem) 0 ∗ semVal ((c : Thread nD τ), SemLoc.dma (cell s 1).sem) 0) ∗ Owes c) ⟨⟩ := by
  intro K
  iintro ⟨⟨Hb, Ha⟩, Hr, Hg, ⟨Hv0, Hv1⟩, HO⟩ Hk
  ihave Hr := (planes_split r M) $$ Hr
  icases Hr with ⟨Hp0, Hp1, Hp2, Hp3, Hp4, Hp5, Hp6, Hp7, Hp8, Hp9, Hp10, Hp11, Hp12, Hp13, Hp14, Hp15⟩
  ihave Hg := (slots_split g X) $$ Hg
  icases Hg with ⟨Hs0, Hs1⟩
  unfold tail
  rw [wp_bind]
  iapply (normChunk_run a af 0 A _) $$ Ha
  iintro Ha
  rw [wp_bind]
  unfold grams gramLoop
  rw [wp_bind]
  iapply (gramStep_run b a af r g s ι 0 (some 1) B (normTo af A 0) _) $$ [Hb Ha Hs0 Hv0 Hp0]
  · isplitl [Hb Ha]
    · isplitl [Hb]
      · iexact Hb
      iexact Ha
    unfold Free
    isplitl [Hs0 Hv0]
    · isplitl [Hs0]
      · iexact Hs0
      iexact Hv0
    iexact Hp0
  iintro ⟨⟨Hb, Ha⟩, HF0⟩
  unfold gramLoop
  rw [wp_bind]
  iapply (gramStep_run b a af r g s ι 1 (some 2) B (normTo af A 1) _) $$ [Hb Ha Hs1 Hv1 Hp1]
  · isplitl [Hb Ha]
    · isplitl [Hb]
      · iexact Hb
      iexact Ha
    unfold Free
    isplitl [Hs1 Hv1]
    · isplitl [Hs1]
      · iexact Hs1
      iexact Hv1
    iexact Hp1
  iintro ⟨⟨Hb, Ha⟩, HF1⟩
  unfold gramLoop
  rw [wp_bind]
  iapply (gramStep_wait_run b a af r g s ι 0 2 (some 3) B (normTo af A 2) (gramF af B A 0) Entails.rfl _) $$ [Hb Ha HO HF0 Hp2]
  · isplitl [Hb Ha HO]
    · isplitl [Hb Ha]
      · isplitl [Hb]
        · iexact Hb
        iexact Ha
      iexact HO
    isplitl [HF0]
    · iexact HF0
    iexact Hp2
  iintro ⟨⟨⟨⟨Hb, Ha⟩, HO⟩, Hp0⟩, HF2⟩
  unfold gramLoop
  rw [wp_bind]
  iapply (gramStep_wait_run b a af r g s ι 1 3 (some 4) B (normTo af A 3) (gramF af B A 1) Entails.rfl _) $$ [Hb Ha HO HF1 Hp3]
  · isplitl [Hb Ha HO]
    · isplitl [Hb Ha]
      · isplitl [Hb]
        · iexact Hb
        iexact Ha
      iexact HO
    isplitl [HF1]
    · iexact HF1
    iexact Hp3
  iintro ⟨⟨⟨⟨Hb, Ha⟩, HO⟩, Hp1⟩, HF3⟩
  unfold gramLoop
  rw [wp_bind]
  iapply (gramStep_wait_run b a af r g s ι 2 4 (some 5) B (normTo af A 4) (gramF af B A 2) Entails.rfl _) $$ [Hb Ha HO HF2 Hp4]
  · isplitl [Hb Ha HO]
    · isplitl [Hb Ha]
      · isplitl [Hb]
        · iexact Hb
        iexact Ha
      iexact HO
    isplitl [HF2]
    · iexact HF2
    iexact Hp4
  iintro ⟨⟨⟨⟨Hb, Ha⟩, HO⟩, Hp2⟩, HF4⟩
  unfold gramLoop
  rw [wp_bind]
  iapply (gramStep_wait_run b a af r g s ι 3 5 (some 6) B (normTo af A 5) (gramF af B A 3) Entails.rfl _) $$ [Hb Ha HO HF3 Hp5]
  · isplitl [Hb Ha HO]
    · isplitl [Hb Ha]
      · isplitl [Hb]
        · iexact Hb
        iexact Ha
      iexact HO
    isplitl [HF3]
    · iexact HF3
    iexact Hp5
  iintro ⟨⟨⟨⟨Hb, Ha⟩, HO⟩, Hp3⟩, HF5⟩
  unfold gramLoop
  rw [wp_bind]
  iapply (gramStep_wait_run b a af r g s ι 4 6 (some 7) B (normTo af A 6) (gramF af B A 4) Entails.rfl _) $$ [Hb Ha HO HF4 Hp6]
  · isplitl [Hb Ha HO]
    · isplitl [Hb Ha]
      · isplitl [Hb]
        · iexact Hb
        iexact Ha
      iexact HO
    isplitl [HF4]
    · iexact HF4
    iexact Hp6
  iintro ⟨⟨⟨⟨Hb, Ha⟩, HO⟩, Hp4⟩, HF6⟩
  unfold gramLoop
  rw [wp_bind]
  iapply (gramStep_wait_run b a af r g s ι 5 7 (some 8) B (normTo af A 7) (gramF af B A 5) Entails.rfl _) $$ [Hb Ha HO HF5 Hp7]
  · isplitl [Hb Ha HO]
    · isplitl [Hb Ha]
      · isplitl [Hb]
        · iexact Hb
        iexact Ha
      iexact HO
    isplitl [HF5]
    · iexact HF5
    iexact Hp7
  iintro ⟨⟨⟨⟨Hb, Ha⟩, HO⟩, Hp5⟩, HF7⟩
  unfold gramLoop
  rw [wp_bind]
  iapply (gramStep_wait_run b a af r g s ι 6 8 (some 9) B (normTo af A 8) (gramF af B A 6) Entails.rfl _) $$ [Hb Ha HO HF6 Hp8]
  · isplitl [Hb Ha HO]
    · isplitl [Hb Ha]
      · isplitl [Hb]
        · iexact Hb
        iexact Ha
      iexact HO
    isplitl [HF6]
    · iexact HF6
    iexact Hp8
  iintro ⟨⟨⟨⟨Hb, Ha⟩, HO⟩, Hp6⟩, HF8⟩
  unfold gramLoop
  rw [wp_bind]
  iapply (gramStep_wait_run b a af r g s ι 7 9 (some 10) B (normTo af A 9) (gramF af B A 7) Entails.rfl _) $$ [Hb Ha HO HF7 Hp9]
  · isplitl [Hb Ha HO]
    · isplitl [Hb Ha]
      · isplitl [Hb]
        · iexact Hb
        iexact Ha
      iexact HO
    isplitl [HF7]
    · iexact HF7
    iexact Hp9
  iintro ⟨⟨⟨⟨Hb, Ha⟩, HO⟩, Hp7⟩, HF9⟩
  unfold gramLoop
  rw [wp_bind]
  iapply (gramStep_wait_run b a af r g s ι 8 10 (some 11) B (normTo af A 10) (gramF af B A 8) Entails.rfl _) $$ [Hb Ha HO HF8 Hp10]
  · isplitl [Hb Ha HO]
    · isplitl [Hb Ha]
      · isplitl [Hb]
        · iexact Hb
        iexact Ha
      iexact HO
    isplitl [HF8]
    · iexact HF8
    iexact Hp10
  iintro ⟨⟨⟨⟨Hb, Ha⟩, HO⟩, Hp8⟩, HF10⟩
  unfold gramLoop
  rw [wp_bind]
  iapply (gramStep_wait_run b a af r g s ι 9 11 (some 12) B (normTo af A 11) (gramF af B A 9) Entails.rfl _) $$ [Hb Ha HO HF9 Hp11]
  · isplitl [Hb Ha HO]
    · isplitl [Hb Ha]
      · isplitl [Hb]
        · iexact Hb
        iexact Ha
      iexact HO
    isplitl [HF9]
    · iexact HF9
    iexact Hp11
  iintro ⟨⟨⟨⟨Hb, Ha⟩, HO⟩, Hp9⟩, HF11⟩
  unfold gramLoop
  rw [wp_bind]
  iapply (gramStep_wait_run b a af r g s ι 10 12 (some 13) B (normTo af A 12) (gramF af B A 10) Entails.rfl _) $$ [Hb Ha HO HF10 Hp12]
  · isplitl [Hb Ha HO]
    · isplitl [Hb Ha]
      · isplitl [Hb]
        · iexact Hb
        iexact Ha
      iexact HO
    isplitl [HF10]
    · iexact HF10
    iexact Hp12
  iintro ⟨⟨⟨⟨Hb, Ha⟩, HO⟩, Hp10⟩, HF12⟩
  unfold gramLoop
  rw [wp_bind]
  iapply (gramStep_wait_run b a af r g s ι 11 13 (some 14) B (normTo af A 13) (gramF af B A 11) Entails.rfl _) $$ [Hb Ha HO HF11 Hp13]
  · isplitl [Hb Ha HO]
    · isplitl [Hb Ha]
      · isplitl [Hb]
        · iexact Hb
        iexact Ha
      iexact HO
    isplitl [HF11]
    · iexact HF11
    iexact Hp13
  iintro ⟨⟨⟨⟨Hb, Ha⟩, HO⟩, Hp11⟩, HF13⟩
  unfold gramLoop
  rw [wp_bind]
  iapply (gramStep_wait_run b a af r g s ι 12 14 (some 15) B (normTo af A 14) (gramF af B A 12) Entails.rfl _) $$ [Hb Ha HO HF12 Hp14]
  · isplitl [Hb Ha HO]
    · isplitl [Hb Ha]
      · isplitl [Hb]
        · iexact Hb
        iexact Ha
      iexact HO
    isplitl [HF12]
    · iexact HF12
    iexact Hp14
  iintro ⟨⟨⟨⟨Hb, Ha⟩, HO⟩, Hp12⟩, HF14⟩
  unfold gramLoop
  rw [wp_bind]
  iapply (gramStep_wait_run b a af r g s ι 13 15 none B (normTo af A 15) (gramF af B A 13) Entails.rfl _) $$ [Hb Ha HO HF13 Hp15]
  · isplitl [Hb Ha HO]
    · isplitl [Hb Ha]
      · isplitl [Hb]
        · iexact Hb
        iexact Ha
      iexact HO
    isplitl [HF13]
    · iexact HF13
    iexact Hp15
  iintro ⟨⟨⟨⟨Hb, Ha⟩, HO⟩, Hp13⟩, HF15⟩
  unfold gramLoop
  rw [wp_pure]
  imodintro
  rw [wp_bind]
  iapply (waitPlane_run r g s ι 14 (gramF af B A 14) _) $$ [HF14 HO]
  · isplitl [HF14]
    · iexact HF14
    iexact HO
  iintro ⟨⟨Hp14, Hf14⟩, HO⟩
  iapply (waitPlane_run r g s ι 15 (gramF af B A 15) _) $$ [HF15 HO]
  · isplitl [HF15]
    · iexact HF15
    iexact HO
  iintro ⟨⟨Hp15, Hf15⟩, HO⟩
  unfold Free
  icases Hf14 with ⟨⟨%X0, Hs0⟩, Hv0⟩
  icases Hf15 with ⟨⟨%X1, Hs1⟩, Hv1⟩
  ihave Hr := (planes_join r af B A) $$ [Hp0 Hp1 Hp2 Hp3 Hp4 Hp5 Hp6 Hp7 Hp8 Hp9 Hp10 Hp11 Hp12 Hp13 Hp14 Hp15]
  · isplitl [Hp0]
    · iexact Hp0
    isplitl [Hp1]
    · iexact Hp1
    isplitl [Hp2]
    · iexact Hp2
    isplitl [Hp3]
    · iexact Hp3
    isplitl [Hp4]
    · iexact Hp4
    isplitl [Hp5]
    · iexact Hp5
    isplitl [Hp6]
    · iexact Hp6
    isplitl [Hp7]
    · iexact Hp7
    isplitl [Hp8]
    · iexact Hp8
    isplitl [Hp9]
    · iexact Hp9
    isplitl [Hp10]
    · iexact Hp10
    isplitl [Hp11]
    · iexact Hp11
    isplitl [Hp12]
    · iexact Hp12
    isplitl [Hp13]
    · iexact Hp13
    isplitl [Hp14]
    · iexact Hp14
    iexact Hp15
  ihave Hg := (slots_join g X0 X1) $$ [Hs0 Hs1]
  · isplitl [Hs0]
    · iexact Hs0
    iexact Hs1
  iapply Hk
  isplitl [Hb Ha]
  · isplitl [Hb]
    · iexact Hb
    iexact Ha
  isplitl [Hr]
  · iexact Hr
  isplitl [Hg]
  · iexists _
    iexact Hg
  isplitr [HO]
  · isplitl [Hv0]
    · iexact Hv0
    iexact Hv1
  iexact HO

end Products

end Mega

end
-- ==== Proof.MegaAll.lean ====
/-
  The whole first kernel: what it leaves in its result.
-/
module

public import proofs.«01_k».proof.Proof.MegaTail

@[expose] public section

noncomputable section

namespace Mega

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The values of the kernel's inputs. -/
structure Ins (F : FTy → Type) where
  x : S6400x40.Idx → Elt F .f32
  w1 : S5x40x512.Idx → Elt F .f32
  b1 : S1x512.Idx → Elt F .f32
  g1 : S1x512.Idx → Elt F .f32
  t1 : S1x512.Idx → Elt F .f32
  w2 : S3x512x512.Idx → Elt F .f32
  b2 : S1x512.Idx → Elt F .f32
  g2 : S1x512.Idx → Elt F .f32
  t2 : S1x512.Idx → Elt F .f32
  w3 : S3x512x512.Idx → Elt F .f32
  b3 : S1x512.Idx → Elt F .f32
  g3 : S1x512.Idx → Elt F .f32
  t3 : S1x512.Idx → Elt F .f32
  w4 : S512x512.Idx → Elt F .f32
  b4 : S1x512.Idx → Elt F .f32
  g4 : S1x512.Idx → Elt F .f32
  t4 : S1x512.Idx → Elt F .f32
  w5 : S512x512.Idx → Elt F .f32
  b5 : S1x512.Idx → Elt F .f32
  g5 : S1x512.Idx → Elt F .f32
  t5 : S1x512.Idx → Elt F .f32

/-! ## The stages one after the other -/

section Values

variable (k1 k2 k3 : F .f32) (V : Ins F) (A B : Buf512 F)

def st1 : Buf512 F × (Row F × Row F) := stage1F V.x V.w1 V.b1 A
def af1 : Row F × Row F := affF k1 V.g1 V.t1 (st1 V A).2
def st2 : (Buf512 F × Buf512 F) × (Row F × Row F) := stage2F (af1 k1 V A) (convCF 2 V.w2 V.b2) stats392 (st1 V A).1 B
def af2 : Row F × Row F := affF k2 V.g2 V.t2 (st2 k1 V A B).2
def st3 : (Buf512 F × Buf512 F) × (Row F × Row F) :=
  stage2F (af2 k1 k2 V A B) (convCF 4 V.w3 V.b3) stats384 (st2 k1 V A B).1.2 (st2 k1 V A B).1.1
def af3 : Row F × Row F := affF k3 V.g3 V.t3 (st3 k1 k2 V A B).2
def st4 : (Buf512 F × Buf512 F) × (Row F × Row F) :=
  stage2F (af3 k1 k2 k3 V A B) (linCF V.w4 V.b4) stats384 (st3 k1 k2 V A B).1.2 (st3 k1 k2 V A B).1.1
def af4 : Row F × Row F := affF k3 V.g4 V.t4 (st4 k1 k2 k3 V A B).2
def st5 : (Buf512 F × Buf512 F) × (Row F × Row F) :=
  stage2F (af4 k1 k2 k3 V A B) (linCF V.w5 V.b5) stats384 (st4 k1 k2 k3 V A B).1.2 (st4 k1 k2 k3 V A B).1.1
def af5 : Row F × Row F := affF k3 V.g5 V.t5 (st5 k1 k2 k3 V A B).2

/-- What the kernel leaves in its result. -/
def runF : S16x512x512.Idx → Elt F .f32 :=
  gramsF (af5 k1 k2 k3 V A B) (st5 k1 k2 k3 V A B).1.1 (st5 k1 k2 k3 V A B).1.2

end Values

variable {nD : Nat} {τ : Topo} {sig : RefSig} {Λ : Labels}
variable {Ix : Type} [DecidableEq Ix] {Name : Type} [DecidableEq Name] {U : Type} [URA U] {Lvl : Type} [Preorder Lvl]
variable {defs : Defs nD τ sig (Elt F) Λ} {𝒱 : Variants} {c : Dev nD} {bd : Option 𝒱.V}
variable [Infinite Name] [CountersIn U]

local notation "𝕄" => MT nD τ sig Ix (Elt F) Name U Lvl

/-- The inputs held at their values. -/
def Held (c : Dev nD) (x : Memref sig .tc .vmem S6400x40 .f32) (w1 : Memref sig .tc .vmem S5x40x512 .f32) (b1 : RowRef sig) (g1 : RowRef sig) (t1 : RowRef sig) (w2 : Memref sig .tc .vmem S3x512x512 .f32) (b2 : RowRef sig) (g2 : RowRef sig) (t2 : RowRef sig) (w3 : Memref sig .tc .vmem S3x512x512 .f32) (b3 : RowRef sig) (g3 : RowRef sig) (t3 : RowRef sig) (w4 : Memref sig .tc .vmem S512x512 .f32) (b4 : RowRef sig) (g4 : RowRef sig) (t4 : RowRef sig) (w5 : Memref sig .tc .vmem S512x512 .f32) (b5 : RowRef sig) (g5 : RowRef sig) (t5 : RowRef sig) (V : Ins F) : sProp 𝕄 :=
  iprop(own c x V.x ∗ own c w1 V.w1 ∗ own c b1 V.b1 ∗ own c g1 V.g1 ∗ own c t1 V.t1 ∗ own c w2 V.w2 ∗ own c b2 V.b2 ∗ own c g2 V.g2 ∗ own c t2 V.t2 ∗ own c w3 V.w3 ∗ own c b3 V.b3 ∗ own c g3 V.g3 ∗ own c t3 V.t3 ∗ own c w4 V.w4 ∗ own c b4 V.b4 ∗ own c g4 V.g4 ∗ own c t4 V.t4 ∗ own c w5 V.w5 ∗ own c b5 V.b5 ∗ own c g5 V.g5 ∗ own c t5 V.t5)

theorem run_run (k1 k2 k3 : F .f32) (x : Memref sig .tc .vmem S6400x40 .f32) (w1 : Memref sig .tc .vmem S5x40x512 .f32) (b1 : RowRef sig) (g1 : RowRef sig) (t1 : RowRef sig) (w2 : Memref sig .tc .vmem S3x512x512 .f32) (b2 : RowRef sig) (g2 : RowRef sig) (t2 : RowRef sig) (w3 : Memref sig .tc .vmem S3x512x512 .f32) (b3 : RowRef sig) (g3 : RowRef sig) (t3 : RowRef sig) (w4 : Memref sig .tc .vmem S512x512 .f32) (b4 : RowRef sig) (g4 : RowRef sig) (t4 : RowRef sig) (w5 : Memref sig .tc .vmem S512x512 .f32) (b5 : RowRef sig) (g5 : RowRef sig) (t5 : RowRef sig)
    (r : Memref sig .tc .hbm S16x512x512 .f32) (a b : Big sig) (g : Memref sig .tc .vmem S2x512x512 .f32) (s : DmaSems sig S2) (ι : Ix)
    (V : Ins F) (A B : Buf512 F) (M : S16x512x512.Idx → Elt F .f32) (X : S2x512x512.Idx → Elt F .f32) :
    Runs (Ix := Ix) (Name := Name) (U := U) (Lvl := Lvl) defs 𝒱 c bd (run k1 k2 k3 x w1 b1 g1 t1 w2 b2 g2 t2 w3 b3 g3 t3 w4 b4 g4 t4 w5 b5 g5 t5 r a b g s)
      iprop(Held c x w1 b1 g1 t1 w2 b2 g2 t2 w3 b3 g3 t3 w4 b4 g4 t4 w5 b5 g5 t5 V ∗ own c a A ∗ own c b B ∗ own c r M ∗ own c g X
        ∗ (semVal ((c : Thread nD τ), SemLoc.dma (cell s 0).sem) 0 ∗ semVal ((c : Thread nD τ), SemLoc.dma (cell s 1).sem) 0) ∗ Owes c)
      iprop(Held c x w1 b1 g1 t1 w2 b2 g2 t2 w3 b3 g3 t3 w4 b4 g4 t4 w5 b5 g5 t5 V ∗ (∃ A, own c a A) ∗ (∃ B, own c b B) ∗ own c r (runF k1 k2 k3 V A B) ∗ (∃ X, own c g X)
        ∗ (semVal ((c : Thread nD τ), SemLoc.dma (cell s 0).sem) 0 ∗ semVal ((c : Thread nD τ), SemLoc.dma (cell s 1).sem) 0) ∗ Owes c) ⟨⟩ := by
  intro K
  unfold Held
  iintro ⟨⟨Hx, Hw1, Hb1, Hg1, Ht1, Hw2, Hb2, Hg2, Ht2, Hw3, Hb3, Hg3, Ht3, Hw4, Hb4, Hg4, Ht4, Hw5, Hb5, Hg5, Ht5⟩, Ha, Hb, Hr, Hg, Hv, HO⟩ Hk
  unfold run
  rw [wp_bind]
  iapply (stage1_run x w1 b1 a V.x V.w1 V.b1 A _) $$ [Hx Hw1 Hb1 Ha]
  · isplitr [Ha]
    · isplitl [Hx]
      · iexact Hx
      isplitl [Hw1]
      · iexact Hw1
      iexact Hb1
    iexact Ha
  iintro ⟨⟨Hx, Hw1, Hb1⟩, Ha⟩
  rw [wp_bind]
  iapply (affine_run k1 g1 t1 _ V.g1 V.t1 _) $$ [Hg1 Ht1]
  · isplitl [Hg1]
    · iexact Hg1
    iexact Ht1
  iintro ⟨Hg1, Ht1⟩
  rw [wp_bind]
  iapply (stage2_run a _ b (Q := iprop(own c w2 V.w2 ∗ own c b2 V.b2)) (dotF := convCF 2 V.w2 V.b2) (fun k X => convC_run 2 a w2 b2 k X V.w2 V.b2) _ _ _) $$ [Ha Hw2 Hb2 Hb]
  · isplitr [Hb]
    · isplitl [Ha]
      · iexact Ha
      isplitl [Hw2]
      · iexact Hw2
      iexact Hb2
    iexact Hb
  iintro ⟨⟨Ha, Hw2, Hb2⟩, Hb⟩
  rw [wp_bind]
  iapply (affine_run k2 g2 t2 _ V.g2 V.t2 _) $$ [Hg2 Ht2]
  · isplitl [Hg2]
    · iexact Hg2
    iexact Ht2
  iintro ⟨Hg2, Ht2⟩
  rw [wp_bind]
  iapply (stage2_run b _ a (Q := iprop(own c w3 V.w3 ∗ own c b3 V.b3)) (dotF := convCF 4 V.w3 V.b3) (fun k X => convC_run 4 b w3 b3 k X V.w3 V.b3) _ _ _) $$ [Hb Hw3 Hb3 Ha]
  · isplitr [Ha]
    · isplitl [Hb]
      · iexact Hb
      isplitl [Hw3]
      · iexact Hw3
      iexact Hb3
    iexact Ha
  iintro ⟨⟨Hb, Hw3, Hb3⟩, Ha⟩
  rw [wp_bind]
  iapply (affine_run k3 g3 t3 _ V.g3 V.t3 _) $$ [Hg3 Ht3]
  · isplitl [Hg3]
    · iexact Hg3
    iexact Ht3
  iintro ⟨Hg3, Ht3⟩
  rw [wp_bind]
  iapply (stage2_run a _ b (Q := iprop(own c w4 V.w4 ∗ own c b4 V.b4)) (dotF := linCF V.w4 V.b4) (fun k X => linC_run a w4 b4 k X V.w4 V.b4) _ _ _) $$ [Ha Hw4 Hb4 Hb]
  · isplitr [Hb]
    · isplitl [Ha]
      · iexact Ha
      isplitl [Hw4]
      · iexact Hw4
      iexact Hb4
    iexact Hb
  iintro ⟨⟨Ha, Hw4, Hb4⟩, Hb⟩
  rw [wp_bind]
  iapply (affine_run k3 g4 t4 _ V.g4 V.t4 _) $$ [Hg4 Ht4]
  · isplitl [Hg4]
    · iexact Hg4
    iexact Ht4
  iintro ⟨Hg4, Ht4⟩
  rw [wp_bind]
  iapply (stage2_run b _ a (Q := iprop(own c w5 V.w5 ∗ own c b5 V.b5)) (dotF := linCF V.w5 V.b5) (fun k X => linC_run b w5 b5 k X V.w5 V.b5) _ _ _) $$ [Hb Hw5 Hb5 Ha]
  · isplitr [Ha]
    · isplitl [Hb]
      · iexact Hb
      isplitl [Hw5]
      · iexact Hw5
      iexact Hb5
    iexact Ha
  iintro ⟨⟨Hb, Hw5, Hb5⟩, Ha⟩
  rw [wp_bind]
  iapply (affine_run k3 g5 t5 _ V.g5 V.t5 _) $$ [Hg5 Ht5]
  · isplitl [Hg5]
    · iexact Hg5
    iexact Ht5
  iintro ⟨Hg5, Ht5⟩
  iapply (tail_run b a (af5 k1 k2 k3 V A B) r g s ι (st5 k1 k2 k3 V A B).1.1 (st5 k1 k2 k3 V A B).1.2 M X _) $$ [Ha Hb Hr Hg Hv HO]
  · isplitl [Ha Hb]
    · isplitl [Hb]
      · iexact Hb
      iexact Ha
    isplitl [Hr]
    · iexact Hr
    isplitl [Hg]
    · iexact Hg
    isplitl [Hv]
    · iexact Hv
    iexact HO
  iintro ⟨⟨Hb, Ha⟩, Hr, Hg, Hv, HO⟩
  iapply Hk
  isplitr [Ha Hb Hr Hg Hv HO]
  · isplitl [Hx]
    · iexact Hx
    isplitl [Hw1]
    · iexact Hw1
    isplitl [Hb1]
    · iexact Hb1
    isplitl [Hg1]
    · iexact Hg1
    isplitl [Ht1]
    · iexact Ht1
    isplitl [Hw2]
    · iexact Hw2
    isplitl [Hb2]
    · iexact Hb2
    isplitl [Hg2]
    · iexact Hg2
    isplitl [Ht2]
    · iexact Ht2
    isplitl [Hw3]
    · iexact Hw3
    isplitl [Hb3]
    · iexact Hb3
    isplitl [Hg3]
    · iexact Hg3
    isplitl [Ht3]
    · iexact Ht3
    isplitl [Hw4]
    · iexact Hw4
    isplitl [Hb4]
    · iexact Hb4
    isplitl [Hg4]
    · iexact Hg4
    isplitl [Ht4]
    · iexact Ht4
    isplitl [Hw5]
    · iexact Hw5
    isplitl [Hb5]
    · iexact Hb5
    isplitl [Hg5]
    · iexact Hg5
    iexact Ht5
  isplitl [Ha]
  · iexists _
    iexact Ha
  isplitl [Hb]
  · iexists _
    iexact Hb
  isplitl [Hr]
  · iexact Hr
  isplitl [Hg]
  · iexact Hg
  isplitl [Hv]
  · iexact Hv
  iexact HO

end Mega

end
-- ==== Proof.Region0Ideal.lean ====
/-
  The first pallas_call as a region of @main: its windows' contents, its body, and what it leaves.
-/
module

public import proofs.«01_k».proof.Proof.Gen.KernelIdeal.Launch
public import proofs.«01_k».proof.Proof.Gen.KernelIdeal.Points
public import proofs.«01_k».proof.Proof.MegaEqIdeal
public import proofs.«01_k».proof.Proof.MegaAll
public import Idealize.ShloMosaic.Lib.Pipeline.FrameBody
public import Idealize.ShloMosaic.Lib.Pipeline.RegionArraysD
public import Idealize.ShloMosaic.Lib.Tactic

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Mega

variable {F : FTy → Type} [FloatOps F] [Named F] {U : Type} [URA U] [CountersIn U]

local notation "𝕄" => MT nD τ sig Unit (Elt F) ℕ U ℕ

/-- The kernel's three named constants. -/
abbrev kA : F .f32 := Named.named κ "inv_6336" 0x39257EB5#32
abbrev kB : F .f32 := Named.named κ "inv_6272" 0x39272F05#32
abbrev kC : F .f32 := Named.named κ "inv_6144" 0x392AAAAB#32

/-- The kernel's own semaphores: one per transfer slot. -/
def osem0 (k : Fin 2) : SemLoc sig := SemLoc.dma (Mega.cell cc0_scratch3 k.val).sem

theorem osem0_facts : Pipeline.OwnSemFacts spec0 osem0 := by decide

variable (Vc : Dev nD → Valuation τ sig (Elt F))

/-- Window `w`'s block, read off its array. -/
def blk0 (c : Dev nD) (w : Fin cfg0.W) (t : Fin cfg0.N) : ((cfg0.win w).xblock (cfg0.grid.coords t)).Idx → Elt F (cfg0.win w).elt :=
  ((cfg0.win w).blk t).view.read (Elt F) (Vc c (Proc.devRef .tc (Pipeline.arrRef spec0 w)))

/-- The kernel's inputs at its one point. -/
def insOf (c : Dev nD) (t : Fin cfg0.N) : Ins F :=
  ⟨blk0 Vc c 0 t, blk0 Vc c 1 t, blk0 Vc c 2 t, blk0 Vc c 3 t, blk0 Vc c 4 t, blk0 Vc c 5 t, blk0 Vc c 6 t, blk0 Vc c 7 t, blk0 Vc c 8 t, blk0 Vc c 9 t, blk0 Vc c 10 t, blk0 Vc c 11 t, blk0 Vc c 12 t, blk0 Vc c 13 t, blk0 Vc c 14 t, blk0 Vc c 15 t, blk0 Vc c 16 t, blk0 Vc c 17 t, blk0 Vc c 18 t, blk0 Vc c 19 t, blk0 Vc c 20 t⟩

/-- The three scratch buffers, the two semaphores and the result's array. -/
def Scr (c : Dev nD) : sProp 𝕄 :=
  iprop((∃ A, own c (Memref.whole cc0_scratch0) A) ∗ (∃ B, own c (Memref.whole cc0_scratch1) B) ∗ (∃ X, own c (Memref.whole cc0_scratch2) X)
    ∗ (semVal ((c : Thread nD τ), SemLoc.dma (cell cc0_scratch3 0).sem) 0 ∗ semVal ((c : Thread nD τ), SemLoc.dma (cell cc0_scratch3 1).sem) 0))

/-- The other buffers the pipeline leaves alone. -/
def Oth (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f))

/-- What the region's invariant carries beside the scratch: before the point the result's array at anything, after it at what the kernel computes. -/
def Res0 (c : Dev nD) (n : ℕ) : sProp 𝕄 :=
  match n with
  | 0 => iprop(∃ M, own c (Memref.whole main_v20) M)
  | _ + 1 => iprop(∃ A B, own c (Memref.whole main_v20) (runF kA kB kC (insOf Vc c t0_0) A B))

def Phi0 (c : Dev nD) (n : ℕ) : sProp 𝕄 :=
  iprop(Scr c ∗ Oth c ∗ Res0 Vc c n ∗ ∃ r, prngReg c r)

/-- The region's proof data. -/
def dat0 (c : Dev nD) : Dat τ (Elt F) Unit ℕ U ℕ cfg0 c where
  A w := Vc c (Proc.devRef .tc (Pipeline.arrRef spec0 w))
  after w t := match w with
    | ⟨0, _⟩ => blk0 Vc c 0 t
    | ⟨1, _⟩ => blk0 Vc c 1 t
    | ⟨2, _⟩ => blk0 Vc c 2 t
    | ⟨3, _⟩ => blk0 Vc c 3 t
    | ⟨4, _⟩ => blk0 Vc c 4 t
    | ⟨5, _⟩ => blk0 Vc c 5 t
    | ⟨6, _⟩ => blk0 Vc c 6 t
    | ⟨7, _⟩ => blk0 Vc c 7 t
    | ⟨8, _⟩ => blk0 Vc c 8 t
    | ⟨9, _⟩ => blk0 Vc c 9 t
    | ⟨10, _⟩ => blk0 Vc c 10 t
    | ⟨11, _⟩ => blk0 Vc c 11 t
    | ⟨12, _⟩ => blk0 Vc c 12 t
    | ⟨13, _⟩ => blk0 Vc c 13 t
    | ⟨14, _⟩ => blk0 Vc c 14 t
    | ⟨15, _⟩ => blk0 Vc c 15 t
    | ⟨16, _⟩ => blk0 Vc c 16 t
    | ⟨17, _⟩ => blk0 Vc c 17 t
    | ⟨18, _⟩ => blk0 Vc c 18 t
    | ⟨19, _⟩ => blk0 Vc c 19 t
    | ⟨20, _⟩ => blk0 Vc c 20 t
    | ⟨n + 21, h⟩ => absurd h (by show ¬ (n + 21 < 21); omega)
  Φ t := Phi0 Vc c t.val
  q _ := fullShare
  owed _ := 0

theorem before0_0 (c : Dev nD) (t : Fin cfg0.N) (d) : (dat0 (U := U) Vc c).before 0 t d = blk0 Vc c 0 t := by
  unfold Dat.before; rw [if_pos (fetch0_0 t)]
  unfold Dat.fetched Dat.blockOf blk0; dsimp only [dat0]; try rfl
theorem leaves0_0 (c : Dev nD) (t : Fin cfg0.N) : (dat0 (U := U) Vc c).leavesExact 0 t = own c (win0_0.stage (cfg0.slots t 0)) (blk0 Vc c 0 t) := by
  unfold Dat.leavesExact; rw [show cfg0.idle 0 (grid0.coords t) = false from rfl]; dsimp only [dat0]; try rfl
theorem before0_1 (c : Dev nD) (t : Fin cfg0.N) (d) : (dat0 (U := U) Vc c).before 1 t d = blk0 Vc c 1 t := by
  unfold Dat.before; rw [if_pos (fetch0_1 t)]
  unfold Dat.fetched Dat.blockOf blk0; dsimp only [dat0]; try rfl
theorem leaves0_1 (c : Dev nD) (t : Fin cfg0.N) : (dat0 (U := U) Vc c).leavesExact 1 t = own c (win0_1.stage (cfg0.slots t 1)) (blk0 Vc c 1 t) := by
  unfold Dat.leavesExact; rw [show cfg0.idle 1 (grid0.coords t) = false from rfl]; dsimp only [dat0]; try rfl
theorem before0_2 (c : Dev nD) (t : Fin cfg0.N) (d) : (dat0 (U := U) Vc c).before 2 t d = blk0 Vc c 2 t := by
  unfold Dat.before; rw [if_pos (fetch0_2 t)]
  unfold Dat.fetched Dat.blockOf blk0; dsimp only [dat0]; try rfl
theorem leaves0_2 (c : Dev nD) (t : Fin cfg0.N) : (dat0 (U := U) Vc c).leavesExact 2 t = own c (win0_2.stage (cfg0.slots t 2)) (blk0 Vc c 2 t) := by
  unfold Dat.leavesExact; rw [show cfg0.idle 2 (grid0.coords t) = false from rfl]; dsimp only [dat0]; try rfl
theorem before0_3 (c : Dev nD) (t : Fin cfg0.N) (d) : (dat0 (U := U) Vc c).before 3 t d = blk0 Vc c 3 t := by
  unfold Dat.before; rw [if_pos (fetch0_3 t)]
  unfold Dat.fetched Dat.blockOf blk0; dsimp only [dat0]; try rfl
theorem leaves0_3 (c : Dev nD) (t : Fin cfg0.N) : (dat0 (U := U) Vc c).leavesExact 3 t = own c (win0_3.stage (cfg0.slots t 3)) (blk0 Vc c 3 t) := by
  unfold Dat.leavesExact; rw [show cfg0.idle 3 (grid0.coords t) = false from rfl]; dsimp only [dat0]; try rfl
theorem before0_4 (c : Dev nD) (t : Fin cfg0.N) (d) : (dat0 (U := U) Vc c).before 4 t d = blk0 Vc c 4 t := by
  unfold Dat.before; rw [if_pos (fetch0_4 t)]
  unfold Dat.fetched Dat.blockOf blk0; dsimp only [dat0]; try rfl
theorem leaves0_4 (c : Dev nD) (t : Fin cfg0.N) : (dat0 (U := U) Vc c).leavesExact 4 t = own c (win0_4.stage (cfg0.slots t 4)) (blk0 Vc c 4 t) := by
  unfold Dat.leavesExact; rw [show cfg0.idle 4 (grid0.coords t) = false from rfl]; dsimp only [dat0]; try rfl
theorem before0_5 (c : Dev nD) (t : Fin cfg0.N) (d) : (dat0 (U := U) Vc c).before 5 t d = blk0 Vc c 5 t := by
  unfold Dat.before; rw [if_pos (fetch0_5 t)]
  unfold Dat.fetched Dat.blockOf blk0; dsimp only [dat0]; try rfl
theorem leaves0_5 (c : Dev nD) (t : Fin cfg0.N) : (dat0 (U := U) Vc c).leavesExact 5 t = own c (win0_5.stage (cfg0.slots t 5)) (blk0 Vc c 5 t) := by
  unfold Dat.leavesExact; rw [show cfg0.idle 5 (grid0.coords t) = false from rfl]; dsimp only [dat0]; try rfl
theorem before0_6 (c : Dev nD) (t : Fin cfg0.N) (d) : (dat0 (U := U) Vc c).before 6 t d = blk0 Vc c 6 t := by
  unfold Dat.before; rw [if_pos (fetch0_6 t)]
  unfold Dat.fetched Dat.blockOf blk0; dsimp only [dat0]; try rfl
theorem leaves0_6 (c : Dev nD) (t : Fin cfg0.N) : (dat0 (U := U) Vc c).leavesExact 6 t = own c (win0_6.stage (cfg0.slots t 6)) (blk0 Vc c 6 t) := by
  unfold Dat.leavesExact; rw [show cfg0.idle 6 (grid0.coords t) = false from rfl]; dsimp only [dat0]; try rfl
theorem before0_7 (c : Dev nD) (t : Fin cfg0.N) (d) : (dat0 (U := U) Vc c).before 7 t d = blk0 Vc c 7 t := by
  unfold Dat.before; rw [if_pos (fetch0_7 t)]
  unfold Dat.fetched Dat.blockOf blk0; dsimp only [dat0]; try rfl
theorem leaves0_7 (c : Dev nD) (t : Fin cfg0.N) : (dat0 (U := U) Vc c).leavesExact 7 t = own c (win0_7.stage (cfg0.slots t 7)) (blk0 Vc c 7 t) := by
  unfold Dat.leavesExact; rw [show cfg0.idle 7 (grid0.coords t) = false from rfl]; dsimp only [dat0]; try rfl
theorem before0_8 (c : Dev nD) (t : Fin cfg0.N) (d) : (dat0 (U := U) Vc c).before 8 t d = blk0 Vc c 8 t := by
  unfold Dat.before; rw [if_pos (fetch0_8 t)]
  unfold Dat.fetched Dat.blockOf blk0; dsimp only [dat0]; try rfl
theorem leaves0_8 (c : Dev nD) (t : Fin cfg0.N) : (dat0 (U := U) Vc c).leavesExact 8 t = own c (win0_8.stage (cfg0.slots t 8)) (blk0 Vc c 8 t) := by
  unfold Dat.leavesExact; rw [show cfg0.idle 8 (grid0.coords t) = false from rfl]; dsimp only [dat0]; try rfl
theorem before0_9 (c : Dev nD) (t : Fin cfg0.N) (d) : (dat0 (U := U) Vc c).before 9 t d = blk0 Vc c 9 t := by
  unfold Dat.before; rw [if_pos (fetch0_9 t)]
  unfold Dat.fetched Dat.blockOf blk0; dsimp only [dat0]; try rfl
theorem leaves0_9 (c : Dev nD) (t : Fin cfg0.N) : (dat0 (U := U) Vc c).leavesExact 9 t = own c (win0_9.stage (cfg0.slots t 9)) (blk0 Vc c 9 t) := by
  unfold Dat.leavesExact; rw [show cfg0.idle 9 (grid0.coords t) = false from rfl]; dsimp only [dat0]; try rfl
theorem before0_10 (c : Dev nD) (t : Fin cfg0.N) (d) : (dat0 (U := U) Vc c).before 10 t d = blk0 Vc c 10 t := by
  unfold Dat.before; rw [if_pos (fetch0_10 t)]
  unfold Dat.fetched Dat.blockOf blk0; dsimp only [dat0]; try rfl
theorem leaves0_10 (c : Dev nD) (t : Fin cfg0.N) : (dat0 (U := U) Vc c).leavesExact 10 t = own c (win0_10.stage (cfg0.slots t 10)) (blk0 Vc c 10 t) := by
  unfold Dat.leavesExact; rw [show cfg0.idle 10 (grid0.coords t) = false from rfl]; dsimp only [dat0]; try rfl
theorem before0_11 (c : Dev nD) (t : Fin cfg0.N) (d) : (dat0 (U := U) Vc c).before 11 t d = blk0 Vc c 11 t := by
  unfold Dat.before; rw [if_pos (fetch0_11 t)]
  unfold Dat.fetched Dat.blockOf blk0; dsimp only [dat0]; try rfl
theorem leaves0_11 (c : Dev nD) (t : Fin cfg0.N) : (dat0 (U := U) Vc c).leavesExact 11 t = own c (win0_11.stage (cfg0.slots t 11)) (blk0 Vc c 11 t) := by
  unfold Dat.leavesExact; rw [show cfg0.idle 11 (grid0.coords t) = false from rfl]; dsimp only [dat0]; try rfl
theorem before0_12 (c : Dev nD) (t : Fin cfg0.N) (d) : (dat0 (U := U) Vc c).before 12 t d = blk0 Vc c 12 t := by
  unfold Dat.before; rw [if_pos (fetch0_12 t)]
  unfold Dat.fetched Dat.blockOf blk0; dsimp only [dat0]; try rfl
theorem leaves0_12 (c : Dev nD) (t : Fin cfg0.N) : (dat0 (U := U) Vc c).leavesExact 12 t = own c (win0_12.stage (cfg0.slots t 12)) (blk0 Vc c 12 t) := by
  unfold Dat.leavesExact; rw [show cfg0.idle 12 (grid0.coords t) = false from rfl]; dsimp only [dat0]; try rfl
theorem before0_13 (c : Dev nD) (t : Fin cfg0.N) (d) : (dat0 (U := U) Vc c).before 13 t d = blk0 Vc c 13 t := by
  unfold Dat.before; rw [if_pos (fetch0_13 t)]
  unfold Dat.fetched Dat.blockOf blk0; dsimp only [dat0]; try rfl
theorem leaves0_13 (c : Dev nD) (t : Fin cfg0.N) : (dat0 (U := U) Vc c).leavesExact 13 t = own c (win0_13.stage (cfg0.slots t 13)) (blk0 Vc c 13 t) := by
  unfold Dat.leavesExact; rw [show cfg0.idle 13 (grid0.coords t) = false from rfl]; dsimp only [dat0]; try rfl
theorem before0_14 (c : Dev nD) (t : Fin cfg0.N) (d) : (dat0 (U := U) Vc c).before 14 t d = blk0 Vc c 14 t := by
  unfold Dat.before; rw [if_pos (fetch0_14 t)]
  unfold Dat.fetched Dat.blockOf blk0; dsimp only [dat0]; try rfl
theorem leaves0_14 (c : Dev nD) (t : Fin cfg0.N) : (dat0 (U := U) Vc c).leavesExact 14 t = own c (win0_14.stage (cfg0.slots t 14)) (blk0 Vc c 14 t) := by
  unfold Dat.leavesExact; rw [show cfg0.idle 14 (grid0.coords t) = false from rfl]; dsimp only [dat0]; try rfl
theorem before0_15 (c : Dev nD) (t : Fin cfg0.N) (d) : (dat0 (U := U) Vc c).before 15 t d = blk0 Vc c 15 t := by
  unfold Dat.before; rw [if_pos (fetch0_15 t)]
  unfold Dat.fetched Dat.blockOf blk0; dsimp only [dat0]; try rfl
theorem leaves0_15 (c : Dev nD) (t : Fin cfg0.N) : (dat0 (U := U) Vc c).leavesExact 15 t = own c (win0_15.stage (cfg0.slots t 15)) (blk0 Vc c 15 t) := by
  unfold Dat.leavesExact; rw [show cfg0.idle 15 (grid0.coords t) = false from rfl]; dsimp only [dat0]; try rfl
theorem before0_16 (c : Dev nD) (t : Fin cfg0.N) (d) : (dat0 (U := U) Vc c).before 16 t d = blk0 Vc c 16 t := by
  unfold Dat.before; rw [if_pos (fetch0_16 t)]
  unfold Dat.fetched Dat.blockOf blk0; dsimp only [dat0]; try rfl
theorem leaves0_16 (c : Dev nD) (t : Fin cfg0.N) : (dat0 (U := U) Vc c).leavesExact 16 t = own c (win0_16.stage (cfg0.slots t 16)) (blk0 Vc c 16 t) := by
  unfold Dat.leavesExact; rw [show cfg0.idle 16 (grid0.coords t) = false from rfl]; dsimp only [dat0]; try rfl
theorem before0_17 (c : Dev nD) (t : Fin cfg0.N) (d) : (dat0 (U := U) Vc c).before 17 t d = blk0 Vc c 17 t := by
  unfold Dat.before; rw [if_pos (fetch0_17 t)]
  unfold Dat.fetched Dat.blockOf blk0; dsimp only [dat0]; try rfl
theorem leaves0_17 (c : Dev nD) (t : Fin cfg0.N) : (dat0 (U := U) Vc c).leavesExact 17 t = own c (win0_17.stage (cfg0.slots t 17)) (blk0 Vc c 17 t) := by
  unfold Dat.leavesExact; rw [show cfg0.idle 17 (grid0.coords t) = false from rfl]; dsimp only [dat0]; try rfl
theorem before0_18 (c : Dev nD) (t : Fin cfg0.N) (d) : (dat0 (U := U) Vc c).before 18 t d = blk0 Vc c 18 t := by
  unfold Dat.before; rw [if_pos (fetch0_18 t)]
  unfold Dat.fetched Dat.blockOf blk0; dsimp only [dat0]; try rfl
theorem leaves0_18 (c : Dev nD) (t : Fin cfg0.N) : (dat0 (U := U) Vc c).leavesExact 18 t = own c (win0_18.stage (cfg0.slots t 18)) (blk0 Vc c 18 t) := by
  unfold Dat.leavesExact; rw [show cfg0.idle 18 (grid0.coords t) = false from rfl]; dsimp only [dat0]; try rfl
theorem before0_19 (c : Dev nD) (t : Fin cfg0.N) (d) : (dat0 (U := U) Vc c).before 19 t d = blk0 Vc c 19 t := by
  unfold Dat.before; rw [if_pos (fetch0_19 t)]
  unfold Dat.fetched Dat.blockOf blk0; dsimp only [dat0]; try rfl
theorem leaves0_19 (c : Dev nD) (t : Fin cfg0.N) : (dat0 (U := U) Vc c).leavesExact 19 t = own c (win0_19.stage (cfg0.slots t 19)) (blk0 Vc c 19 t) := by
  unfold Dat.leavesExact; rw [show cfg0.idle 19 (grid0.coords t) = false from rfl]; dsimp only [dat0]; try rfl
theorem before0_20 (c : Dev nD) (t : Fin cfg0.N) (d) : (dat0 (U := U) Vc c).before 20 t d = blk0 Vc c 20 t := by
  unfold Dat.before; rw [if_pos (fetch0_20 t)]
  unfold Dat.fetched Dat.blockOf blk0; dsimp only [dat0]; try rfl
theorem leaves0_20 (c : Dev nD) (t : Fin cfg0.N) : (dat0 (U := U) Vc c).leavesExact 20 t = own c (win0_20.stage (cfg0.slots t 20)) (blk0 Vc c 20 t) := by
  unfold Dat.leavesExact; rw [show cfg0.idle 20 (grid0.coords t) = false from rfl]; dsimp only [dat0]; try rfl

/-- What the body is called with, the windows one by one. -/
def pre0 (c : Dev nD) (t : Fin cfg0.N) : sProp 𝕄 :=
  iprop((dat0 (U := U) Vc c).Φ t.castSucc ∗ (dat0 Vc c).owesAt () t.castSucc
    ∗ (∃ d, owns (c : Thread nD τ) (win0_0.stage (cfg0.slots t 0)) fullShare ((dat0 (U := U) Vc c).before 0 t d))
    ∗ (∃ d, owns (c : Thread nD τ) (win0_1.stage (cfg0.slots t 1)) fullShare ((dat0 (U := U) Vc c).before 1 t d))
    ∗ (∃ d, owns (c : Thread nD τ) (win0_2.stage (cfg0.slots t 2)) fullShare ((dat0 (U := U) Vc c).before 2 t d))
    ∗ (∃ d, owns (c : Thread nD τ) (win0_3.stage (cfg0.slots t 3)) fullShare ((dat0 (U := U) Vc c).before 3 t d))
    ∗ (∃ d, owns (c : Thread nD τ) (win0_4.stage (cfg0.slots t 4)) fullShare ((dat0 (U := U) Vc c).before 4 t d))
    ∗ (∃ d, owns (c : Thread nD τ) (win0_5.stage (cfg0.slots t 5)) fullShare ((dat0 (U := U) Vc c).before 5 t d))
    ∗ (∃ d, owns (c : Thread nD τ) (win0_6.stage (cfg0.slots t 6)) fullShare ((dat0 (U := U) Vc c).before 6 t d))
    ∗ (∃ d, owns (c : Thread nD τ) (win0_7.stage (cfg0.slots t 7)) fullShare ((dat0 (U := U) Vc c).before 7 t d))
    ∗ (∃ d, owns (c : Thread nD τ) (win0_8.stage (cfg0.slots t 8)) fullShare ((dat0 (U := U) Vc c).before 8 t d))
    ∗ (∃ d, owns (c : Thread nD τ) (win0_9.stage (cfg0.slots t 9)) fullShare ((dat0 (U := U) Vc c).before 9 t d))
    ∗ (∃ d, owns (c : Thread nD τ) (win0_10.stage (cfg0.slots t 10)) fullShare ((dat0 (U := U) Vc c).before 10 t d))
    ∗ (∃ d, owns (c : Thread nD τ) (win0_11.stage (cfg0.slots t 11)) fullShare ((dat0 (U := U) Vc c).before 11 t d))
    ∗ (∃ d, owns (c : Thread nD τ) (win0_12.stage (cfg0.slots t 12)) fullShare ((dat0 (U := U) Vc c).before 12 t d))
    ∗ (∃ d, owns (c : Thread nD τ) (win0_13.stage (cfg0.slots t 13)) fullShare ((dat0 (U := U) Vc c).before 13 t d))
    ∗ (∃ d, owns (c : Thread nD τ) (win0_14.stage (cfg0.slots t 14)) fullShare ((dat0 (U := U) Vc c).before 14 t d))
    ∗ (∃ d, owns (c : Thread nD τ) (win0_15.stage (cfg0.slots t 15)) fullShare ((dat0 (U := U) Vc c).before 15 t d))
    ∗ (∃ d, owns (c : Thread nD τ) (win0_16.stage (cfg0.slots t 16)) fullShare ((dat0 (U := U) Vc c).before 16 t d))
    ∗ (∃ d, owns (c : Thread nD τ) (win0_17.stage (cfg0.slots t 17)) fullShare ((dat0 (U := U) Vc c).before 17 t d))
    ∗ (∃ d, owns (c : Thread nD τ) (win0_18.stage (cfg0.slots t 18)) fullShare ((dat0 (U := U) Vc c).before 18 t d))
    ∗ (∃ d, owns (c : Thread nD τ) (win0_19.stage (cfg0.slots t 19)) fullShare ((dat0 (U := U) Vc c).before 19 t d))
    ∗ (∃ d, owns (c : Thread nD τ) (win0_20.stage (cfg0.slots t 20)) fullShare ((dat0 (U := U) Vc c).before 20 t d)))

/-- What it gives back. -/
def post0 (c : Dev nD) (t : Fin cfg0.N) : sProp 𝕄 :=
  iprop((dat0 (U := U) Vc c).Φ t.succ ∗ (dat0 Vc c).owesAt () t.succ
    ∗ (dat0 Vc c).leavesExact 0 t
    ∗ (dat0 Vc c).leavesExact 1 t
    ∗ (dat0 Vc c).leavesExact 2 t
    ∗ (dat0 Vc c).leavesExact 3 t
    ∗ (dat0 Vc c).leavesExact 4 t
    ∗ (dat0 Vc c).leavesExact 5 t
    ∗ (dat0 Vc c).leavesExact 6 t
    ∗ (dat0 Vc c).leavesExact 7 t
    ∗ (dat0 Vc c).leavesExact 8 t
    ∗ (dat0 Vc c).leavesExact 9 t
    ∗ (dat0 Vc c).leavesExact 10 t
    ∗ (dat0 Vc c).leavesExact 11 t
    ∗ (dat0 Vc c).leavesExact 12 t
    ∗ (dat0 Vc c).leavesExact 13 t
    ∗ (dat0 Vc c).leavesExact 14 t
    ∗ (dat0 Vc c).leavesExact 15 t
    ∗ (dat0 Vc c).leavesExact 16 t
    ∗ (dat0 Vc c).leavesExact 17 t
    ∗ (dat0 Vc c).leavesExact 18 t
    ∗ (dat0 Vc c).leavesExact 19 t
    ∗ (dat0 Vc c).leavesExact 20 t)

set_option maxHeartbeats 4000000 in
theorem body0 (c : Dev nD) (t : Fin cfg0.N) :
    pre0 (U := U) Vc c t ⊢ wp frame (wpE (defs₀ (F := F)) Variants.none c none) Set.univ (bodyAt0 t) (fun _ => post0 Vc c t) := by
  obtain rfl : t = t0_0 := fin_N0 t
  unfold pre0 post0 bodyAt0
  rw [mega_eq, ← Mega.run_k]
  simp only [before0_0, before0_1, before0_2, before0_3, before0_4, before0_5, before0_6, before0_7, before0_8, before0_9, before0_10, before0_11, before0_12, before0_13, before0_14, before0_15, before0_16, before0_17, before0_18, before0_19, before0_20, leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20]
  rw [show (dat0 (U := U) Vc c).Φ t0_0.castSucc = Phi0 Vc c 0 from rfl, show (dat0 (U := U) Vc c).Φ t0_0.succ = Phi0 Vc c 1 from rfl]
  unfold Phi0 Scr Dat.owesAt Pipeline.owesWithin
  rw [show Res0 (U := U) Vc c 0 = iprop(∃ M, own c (Memref.whole main_v20) M) from rfl,
    show Res0 (U := U) Vc c 1 = iprop(∃ A B, own c (Memref.whole main_v20) (runF kA kB kC (insOf Vc c t0_0) A B)) from rfl]
  iintro ⟨⟨⟨⟨%A, Ha⟩, ⟨%B, Hb⟩, ⟨%X, Hg⟩, Hs⟩, Ho, ⟨%M, Hr⟩, Hp⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (run_run (Ix := Unit) (Name := ℕ) (U := U) (Lvl := ℕ) (defs := defs₀ (F := F)) (𝒱 := Variants.none) (c := c) (bd := none) kA kB kC _ _ _ _ _ _ _ _ _ _ _ _ _ _ _ _ _ _ _ _ _ _ _ _ _ _ () (insOf Vc c t0_0) A B M X _) $$ [H0 H1 H2 H3 H4 H5 H6 H7 H8 H9 H10 H11 H12 H13 H14 H15 H16 H17 H18 H19 H20 Ha Hb Hr Hg Hs HW]
  · unfold Held Mega.Owes
    isplitr [Ha Hb Hr Hg Hs HW]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    isplitl [Ha]; · iexact Ha
    isplitl [Hb]; · iexact Hb
    isplitl [Hr]; · iexact Hr
    isplitl [Hg]; · iexact Hg
    isplitl [Hs]; · iexact Hs
    iexists W; iexact HW
  unfold Held Mega.Owes
  iintro ⟨⟨H0, H1, H2, H3, H4, H5, H6, H7, H8, H9, H10, H11, H12, H13, H14, H15, H16, H17, H18, H19, H20⟩, Ha, Hb, Hr, Hg, Hs, ⟨%W', HW⟩⟩
  isplitl [Ha Hb Hr Hg Hs Ho Hp]
  · isplitl [Ha Hb Hg Hs]
    · isplitl [Ha]; · iexact Ha
      isplitl [Hb]; · iexact Hb
      isplitl [Hg]; · iexact Hg
      iexact Hs
    isplitl [Ho]; · iexact Ho
    isplitl [Hr]
    · iexists A; iexists B; iexact Hr
    iexact Hp
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) (U := U) Vc c) (defs₀ (F := F)) Variants.none () Set.univ := fun t => by
  rw [bigSep_W0, bigSep_W0, row0]
  exact triple_restated (body0 Vc c t) rfl .rfl fun _ => .rfl

end Cert.KernelIdeal.Hand

end
-- ==== Proof.BotIdeal.lean ====
/-
  The second kernel at one grid point: what it leaves in its accumulator and, at the last point, in its result.
-/
module

public import proofs.«01_k».proof.Proof.Gen.KernelIdeal
public import proofs.«01_k».proof.Proof.MegaRun
public import Idealize.ShloMosaic.Lib.Pipeline.Value
public import Idealize.ShloMosaic.Lib.Tactic

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Mega (own)

variable {F : FTy → Type} [FloatOps F] [Named F]

section Fns

/-- The accumulator with one more block of columns added. -/
def accStep (x : S16x8192.Idx → Elt F .f32) (w : S512x8192.Idx → Elt F .f32) (a : S16x512.Idx → Elt F .f32) : S16x512.Idx → Elt F .f32 :=
  addf a (matmul dot_S16x8192_S512x8192_S16x512_1_1_0_0_n_n none x w (constant S16x512 .f32 0x00000000#32) : FVec F S16x512 .f32)

/-- The accumulator before the first block. -/
def acc0 : S16x512.Idx → Elt F .f32 := broadcast S16x512 (Scalar.ofBits .f32 0x00000000#32 : F .f32)

def rows (b : S1x512.Idx → Elt F .f32) : FVec F S16x512 .f32 := broadcastTo S16x512 b Facts₀.broadcasts_S1x512_S16x512
def colSum (h : FVec F S16x512 .f32) : FVec F S1x512 .f32 :=
  divf (shapeCast S1x512 (multiReduction .add [0] S512 h 0x00000000#32 Facts₀.reduces_S16x512_S512 (.inl rfl) rfl) Facts₀.shapeCasts_S512_S1x512)
    (broadcast S1x512 (Scalar.ofBits .f32 0x41800000#32 : F .f32))

/-- The batch normalization over the 16 rows, clipped to `[0, 20]`. -/
def bnF (h : FVec F S16x512 .f32) (g t : S1x512.Idx → Elt F .f32) : FVec F S16x512 .f32 :=
  minimumf (broadcast S16x512 (Scalar.ofBits .f32 0x41A00000#32 : F .f32))
    (maximumf (broadcast S16x512 (Scalar.ofBits .f32 0x00000000#32 : F .f32))
      (addf (mulf (mulf (rows g) (subf h (rows (colSum h))))
        (rows (rsqrt (addf (subf (colSum (mulf h h)) (mulf (colSum h) (colSum h))) (broadcast S1x512 (Scalar.ofBits .f32 0x3727C5AC#32 : F .f32))))))
        (rows t)))

/-- The embedding scaled to length ten. -/
def normF (e : FVec F S16x512 .f32) : FVec F S16x512 .f32 :=
  mulf (mulf e (broadcastTo S16x512 (rsqrt (addf (shapeCast S16x1 (multiReduction .add [1] S16 (mulf e e) 0x00000000#32 Facts₀.reduces_S16x512_S16 (.inl rfl) rfl) Facts₀.shapeCasts_S16_S16x1)
    (broadcast S16x1 (Scalar.ofBits .f32 0x2EDBE6FF#32 : F .f32)))) Facts₀.broadcasts_S16x1_S16x512))
    (broadcast S16x512 (Scalar.ofBits .f32 0x41200000#32 : F .f32))

def linF (y : FVec F S16x512 .f32) (w : S512x512.Idx → Elt F .f32) (b : S1x512.Idx → Elt F .f32) : FVec F S16x512 .f32 :=
  addf (matmul dot_S16x512_S512x512_S16x512_1_1_0_0_n_n none y w (constant S16x512 .f32 0x00000000#32)) (rows b)

/-- What the last point stores, from the full sum. -/
def botF (a : S16x512.Idx → Elt F .f32) (b g t : S1x512.Idx → Elt F .f32) (w : S512x512.Idx → Elt F .f32) (d : S1x512.Idx → Elt F .f32) : S16x512.Idx → Elt F .f32 :=
  normF (linF (bnF (addf a (rows b)) g t) w d)

/-- Whether the grid point is the first, as the kernel computes it. -/
def first (i : grid1.Coords) : Prop :=
  Scalar.cmpi .ne (Scalar.extui (Scalar.cmpi .eq (BitVec.ofNat 32 (i 0).val) 0#32 : BitVec 1) : BitVec 32) 0#32 = 1#1

instance (i : grid1.Coords) : Decidable (first i) := by unfold first; infer_instance

end Fns

section Whole

variable {α : Type} {s : Shape}

theorem emb_all (off : Fin s.rank → ℕ) (h : ∀ a, off a = 0) (inb : ∀ a, off a + s.size a ≤ s.size a) (y : s.Idx) :
    (Rect.unit off s.size inb).emb y = y := by
  funext a
  apply Fin.ext
  simp [Rect.emb, Rect.unit, h a]

theorem window_all (X : s.Idx → α) (off : Fin s.rank → ℕ) (h : ∀ a, off a = 0) (inb : ∀ a, off a + s.size a ≤ s.size a) :
    VecWindow.window X off s.size inb = X := by
  funext y
  unfold VecWindow.window
  rw [emb_all off h inb y]

theorem put_all (X : s.Idx → α) (off : Fin s.rank → ℕ) (h : ∀ a, off a = 0) (w : ((a : Fin s.rank) → Fin (s.size a)) → α) :
    VecWindow.put X off s.size w = w := by
  funext y
  unfold VecWindow.put
  rw [dif_pos fun a => ⟨by rw [h a]; exact Nat.zero_le _, by rw [h a, Nat.zero_add]; exact (y a).isLt⟩]
  congr 1
  funext a
  apply Fin.ext
  simp [Rect.unitLocal, h a]

end Whole

variable {U : Type} [URA U]
variable {Λ : Labels} {defs : Defs nD τ sig (Elt F) Λ₀} {𝒱 : Variants} {c : Dev nD} {bd : Option 𝒱.V}

local notation "𝕄" => MT nD τ sig Unit (Elt F) ℕ U ℕ

theorem ld_all {s : Shape} {e : EltTy} {m : Memref sig .tc .vmem s e} {off : Fin s.rank → Nat} (h : ∀ a, off a = 0) {inb : ∀ a, off a + s.size a ≤ s.size a}
    {hl : m.view.LoadsAt (Rect.unit off s.size inb).toLoadRect} {X : s.Idx → Elt F e} {K : (s.Idx → Elt F e) → sProp 𝕄} :
    own c m X ⊢ iprop((own c m X -∗ K X) -∗
        wp frame (wpE defs 𝒱 (c : Thread nD τ) bd) Set.univ (Prog.lift (.load m (Rect.unit off s.size inb).toLoadRect hl)) K) := by
  have := Mega.wp_ld (Ix := Unit) (Name := ℕ) (U := U) (Lvl := ℕ) (defs := defs) (𝒱 := 𝒱) (c := c) (bd := bd) (m := m) (off := off) (size := s.size) (inb := inb) (hl := hl) (X := X) (K := K)
  rw [window_all X off h inb] at this
  exact this

theorem st_all {s : Shape} {e : EltTy} {m : Memref sig .tc .vmem s e} {off : Fin s.rank → Nat} (h : ∀ a, off a = 0) {inb : ∀ a, off a + s.size a ≤ s.size a}
    {w : s.Idx → Elt F e}
    {hx : (m.access (Rect.unit off s.size inb)).Stores Finset.univ} {hm : Finset.univ = Finset.univ ∨ ∀ a, (Rect.unit off s.size inb).stride a = 1}
    {X : s.Idx → Elt F e} {K : PUnit → sProp 𝕄} :
    own c m X ⊢ iprop((own c m w -∗ K ⟨⟩) -∗
        wp frame (wpE defs 𝒱 (c : Thread nD τ) bd) Set.univ (Prog.lift (.store m (Rect.unit off s.size inb) w Finset.univ hx hm)) K) := by
  have := Mega.wp_st (Ix := Unit) (Name := ℕ) (U := U) (Lvl := ℕ) (defs := defs) (𝒱 := 𝒱) (c := c) (bd := bd) (m := m) (off := off) (size := s.size) (inb := inb) (hx := hx) (hm := hm) (X := X) (w := w) (K := K)
  rw [put_all X off h w] at this
  exact this

theorem zz : ∀ a : Fin 2, (![0, 0] : Fin 2 → ℕ) a = 0 := by decide

set_option maxHeartbeats 4000000 in
/-- The kernel at grid point `i`. -/
theorem bot_run (i : grid1.Coords) (arg1 : Memref sig .tc .vmem S16x8192 .f32) (harg1 : arg1.IsWhole) (arg2 : Memref sig .tc .vmem S512x8192 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S16x512 .f32) (harg8 : arg8.IsWhole) (arg9 : Memref sig .tc .vmem S16x512 .f32) (harg9 : arg9.IsWhole)
    (x : S16x8192.Idx → Elt F .f32) (w : S512x8192.Idx → Elt F .f32) (b g t : S1x512.Idx → Elt F .f32) (w2 : S512x512.Idx → Elt F .f32) (d : S1x512.Idx → Elt F .f32)
    (O A : S16x512.Idx → Elt F .f32) (K : PUnit → sProp 𝕄) :
    iprop(own c arg1 x ∗ own c arg2 w ∗ own c arg3 b ∗ own c arg4 g ∗ own c arg5 t ∗ own c arg6 w2 ∗ own c arg7 d ∗ own c arg8 O ∗ own c arg9 A)
      ⊢ iprop((iprop(own c arg1 x ∗ own c arg2 w ∗ own c arg3 b ∗ own c arg4 g ∗ own c arg5 t ∗ own c arg6 w2 ∗ own c arg7 d
          ∗ own c arg8 (if k1_cond2 i = 1#1 then botF (accStep x w (if first i then acc0 else A)) b g t w2 d else O)
          ∗ own c arg9 (accStep x w (if first i then acc0 else A))) -∗ K ⟨⟩)
        -∗ wp frame (wpE defs 𝒱 (c : Thread nD τ) bd) Set.univ (cc1_bot i arg1 harg1 arg2 harg2 arg3 harg3 arg4 harg4 arg5 harg5 arg6 harg6 arg7 harg7 arg8 harg8 arg9 harg9) K) := by
  iintro ⟨H1, H2, H3, H4, H5, H6, H7, H8, H9⟩ Hk
  unfold cc1_bot
  dsimp only
  by_cases h1 : first i
  · have h1' := h1
    unfold first at h1'
    rw [if_pos h1, dif_pos h1', wp_bind]
    iapply (ld_all zz) $$ H9
    iintro H9
    rw [wp_bind]
    iapply (st_all zz) $$ H9
    iintro H9
    rw [wp_bind]
    iapply (ld_all zz) $$ H9
    iintro H9
    rw [wp_bind]
    iapply (ld_all zz) $$ H1
    iintro H1
    rw [wp_bind]
    iapply (ld_all zz) $$ H2
    iintro H2
    rw [wp_bind]
    iapply (ld_all zz) $$ H9
    iintro H9
    rw [wp_bind]
    iapply (st_all zz) $$ H9
    iintro H9
    simp only [shapeCast_self]
    by_cases h2 : k1_cond2 i = 1#1
    · rw [if_pos h2, dif_pos h2]
      unfold k1_part1
      dsimp only
      simp only [bind_assoc, pure_bind]
      rw [wp_bind]
      iapply (ld_all zz) $$ H9
      iintro H9
      rw [wp_bind]
      iapply (ld_all zz) $$ H3
      iintro H3
      rw [wp_bind]
      iapply (ld_all zz) $$ H4
      iintro H4
      rw [wp_bind]
      iapply (ld_all zz) $$ H5
      iintro H5
      rw [wp_bind]
      iapply (ld_all zz) $$ H6
      iintro H6
      rw [wp_bind]
      iapply (ld_all zz) $$ H7
      iintro H7
      rw [wp_bind]
      iapply (ld_all zz) $$ H8
      iintro H8
      rw [wp_bind]
      iapply (st_all zz) $$ H8
      iintro H8
      rw [wp_pure]
      imodintro
      simp only [shapeCast_self]
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [if_neg h2, dif_neg h2, wp_pure]
      imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have h1' := h1
    unfold first at h1'
    rw [if_neg h1, dif_neg h1']
    rw [wp_bind]
    iapply (ld_all zz) $$ H9
    iintro H9
    rw [wp_bind]
    iapply (ld_all zz) $$ H1
    iintro H1
    rw [wp_bind]
    iapply (ld_all zz) $$ H2
    iintro H2
    rw [wp_bind]
    iapply (ld_all zz) $$ H9
    iintro H9
    rw [wp_bind]
    iapply (st_all zz) $$ H9
    iintro H9
    simp only [shapeCast_self]
    by_cases h2 : k1_cond2 i = 1#1
    · rw [if_pos h2, dif_pos h2]
      unfold k1_part1
      dsimp only
      simp only [bind_assoc, pure_bind]
      rw [wp_bind]
      iapply (ld_all zz) $$ H9
      iintro H9
      rw [wp_bind]
      iapply (ld_all zz) $$ H3
      iintro H3
      rw [wp_bind]
      iapply (ld_all zz) $$ H4
      iintro H4
      rw [wp_bind]
      iapply (ld_all zz) $$ H5
      iintro H5
      rw [wp_bind]
      iapply (ld_all zz) $$ H6
      iintro H6
      rw [wp_bind]
      iapply (ld_all zz) $$ H7
      iintro H7
      rw [wp_bind]
      iapply (ld_all zz) $$ H8
      iintro H8
      rw [wp_bind]
      iapply (st_all zz) $$ H8
      iintro H8
      rw [wp_pure]
      imodintro
      simp only [shapeCast_self]
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [if_neg h2, dif_neg h2, wp_pure]
      imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

end Cert.KernelIdeal.Hand

end
-- ==== Proof.Region1Ideal.lean ====
/-
  The second pallas_call as a region of @main: its windows' contents, its accumulator point by point, and what it leaves.
-/
module

public import proofs.«01_k».proof.Proof.Gen.KernelIdeal.Launch
public import proofs.«01_k».proof.Proof.Gen.KernelIdeal.Points
public import proofs.«01_k».proof.Proof.BotIdeal
public import Idealize.ShloMosaic.Lib.Pipeline.FrameBody
public import Idealize.ShloMosaic.Lib.Pipeline.RegionArraysD
public import Idealize.ShloMosaic.Lib.Tactic

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen
open Mega (own)

variable {F : FTy → Type} [FloatOps F] [Named F] {U : Type} [URA U]

local notation "𝕄" => MT nD τ sig Unit (Elt F) ℕ U ℕ

theorem first_iff : ∀ t : Fin cfg1.N, first (grid1.coords t) ↔ t.val = 0 :=
  (by decide +kernel : ∀ t : Fin grid1.N, first (grid1.coords t) ↔ t.val = 0)

theorem last_iff : ∀ t : Fin cfg1.N, k1_cond2 (grid1.coords t) = 1#1 ↔ t.val % 32 = 31 :=
  (by decide +kernel : ∀ t : Fin grid1.N, k1_cond2 (grid1.coords t) = 1#1 ↔ t.val % 32 = 31)

variable (Vc : Dev nD → Valuation τ sig (Elt F))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (Vc c (Proc.devRef .tc (Pipeline.arrRef spec1 w)))

/-- The accumulator after point `n`. -/
def accAt (c : Dev nD) : (n : ℕ) → n < cfg1.N → S16x512.Idx → Elt F .f32
  | 0, h => accStep (blk1 Vc c 0 ⟨0, h⟩) (blk1 Vc c 1 ⟨0, h⟩) acc0
  | n + 1, h => accStep (blk1 Vc c 0 ⟨n + 1, h⟩) (blk1 Vc c 1 ⟨n + 1, h⟩) (accAt c n (Nat.lt_of_succ_lt h))

/-- What the last point stores, at point `t`. -/
def outAt (c : Dev nD) (t : Fin cfg1.N) : S16x512.Idx → Elt F .f32 :=
  botF (accAt Vc c t.val t.isLt) (blk1 Vc c 2 t) (blk1 Vc c 3 t) (blk1 Vc c 4 t) (blk1 Vc c 5 t) (blk1 Vc c 6 t)

/-- The accumulator's buffer before point `n`. -/
def Acc1 (c : Dev nD) : (n : ℕ) → n ≤ cfg1.N → sProp 𝕄
  | 0, _ => iprop(∃ A, own c (Memref.whole cc1_scratch0) A)
  | n + 1, h => own c (Memref.whole cc1_scratch0) (accAt Vc c n h)

def Phi1 (c : Dev nD) (n : ℕ) (h : n ≤ cfg1.N) : sProp 𝕄 :=
  iprop(Acc1 Vc c n h ∗ Pipeline.scopedRestBut (Ix := Unit) (Name := ℕ) (U := U) (Lvl := ℕ) (Val := Elt F) spec1 c [cc1_scratch0] ∗ ∃ r, prngReg c r)

/-- The region's proof data. -/
def dat1 (c : Dev nD) : Dat τ (Elt F) Unit ℕ U ℕ cfg1 c where
  A w := Vc c (Proc.devRef .tc (Pipeline.arrRef spec1 w))
  after w t := match w with
    | ⟨0, _⟩ => blk1 Vc c 0 t
    | ⟨1, _⟩ => blk1 Vc c 1 t
    | ⟨2, _⟩ => blk1 Vc c 2 t
    | ⟨3, _⟩ => blk1 Vc c 3 t
    | ⟨4, _⟩ => blk1 Vc c 4 t
    | ⟨5, _⟩ => blk1 Vc c 5 t
    | ⟨6, _⟩ => blk1 Vc c 6 t
    | ⟨7, _⟩ => outAt Vc c t
    | ⟨n + 8, h⟩ => absurd h (by show ¬ (n + 8 < 8); omega)
  Φ t := Phi1 Vc c t.val (Nat.le_of_lt_succ t.isLt)
  q _ := fullShare
  owed _ := 0

theorem before1_0 (c : Dev nD) (t : Fin cfg1.N) (d) : (dat1 (U := U) Vc c).before 0 t d = blk1 Vc c 0 t :=
  ((dat1 (U := U) Vc c).before_in_eq_fetched 0 rfl (fun _ => rfl) (fun _ _ _ => rfl)
    (fun t => by unfold Dat.blockOf; dsimp only [dat1]; unfold blk1; try rfl) t d).trans (by unfold Dat.fetched Dat.blockOf; dsimp only [dat1]; unfold blk1; try rfl)
theorem leaves1_0 (c : Dev nD) (t : Fin cfg1.N) : (dat1 (U := U) Vc c).leavesExact 0 t = own c (win1_0.stage (cfg1.slots t 0)) (blk1 Vc c 0 t) := by
  unfold Dat.leavesExact; rw [show cfg1.idle 0 (grid1.coords t) = false from rfl]; dsimp only [dat1]; try rfl
theorem before1_1 (c : Dev nD) (t : Fin cfg1.N) (d) : (dat1 (U := U) Vc c).before 1 t d = blk1 Vc c 1 t :=
  ((dat1 (U := U) Vc c).before_in_eq_fetched 1 rfl (fun _ => rfl) (fun _ _ _ => rfl)
    (fun t => by unfold Dat.blockOf; dsimp only [dat1]; unfold blk1; try rfl) t d).trans (by unfold Dat.fetched Dat.blockOf; dsimp only [dat1]; unfold blk1; try rfl)
theorem leaves1_1 (c : Dev nD) (t : Fin cfg1.N) : (dat1 (U := U) Vc c).leavesExact 1 t = own c (win1_1.stage (cfg1.slots t 1)) (blk1 Vc c 1 t) := by
  unfold Dat.leavesExact; rw [show cfg1.idle 1 (grid1.coords t) = false from rfl]; dsimp only [dat1]; try rfl
theorem before1_2 (c : Dev nD) (t : Fin cfg1.N) (d) : (dat1 (U := U) Vc c).before 2 t d = blk1 Vc c 2 t :=
  ((dat1 (U := U) Vc c).before_in_eq_fetched 2 rfl (fun _ => rfl) (fun _ _ _ => rfl)
    (fun t => by unfold Dat.blockOf; dsimp only [dat1]; unfold blk1; try rfl) t d).trans (by unfold Dat.fetched Dat.blockOf; dsimp only [dat1]; unfold blk1; try rfl)
theorem leaves1_2 (c : Dev nD) (t : Fin cfg1.N) : (dat1 (U := U) Vc c).leavesExact 2 t = own c (win1_2.stage (cfg1.slots t 2)) (blk1 Vc c 2 t) := by
  unfold Dat.leavesExact; rw [show cfg1.idle 2 (grid1.coords t) = false from rfl]; dsimp only [dat1]; try rfl
theorem before1_3 (c : Dev nD) (t : Fin cfg1.N) (d) : (dat1 (U := U) Vc c).before 3 t d = blk1 Vc c 3 t :=
  ((dat1 (U := U) Vc c).before_in_eq_fetched 3 rfl (fun _ => rfl) (fun _ _ _ => rfl)
    (fun t => by unfold Dat.blockOf; dsimp only [dat1]; unfold blk1; try rfl) t d).trans (by unfold Dat.fetched Dat.blockOf; dsimp only [dat1]; unfold blk1; try rfl)
theorem leaves1_3 (c : Dev nD) (t : Fin cfg1.N) : (dat1 (U := U) Vc c).leavesExact 3 t = own c (win1_3.stage (cfg1.slots t 3)) (blk1 Vc c 3 t) := by
  unfold Dat.leavesExact; rw [show cfg1.idle 3 (grid1.coords t) = false from rfl]; dsimp only [dat1]; try rfl
theorem before1_4 (c : Dev nD) (t : Fin cfg1.N) (d) : (dat1 (U := U) Vc c).before 4 t d = blk1 Vc c 4 t :=
  ((dat1 (U := U) Vc c).before_in_eq_fetched 4 rfl (fun _ => rfl) (fun _ _ _ => rfl)
    (fun t => by unfold Dat.blockOf; dsimp only [dat1]; unfold blk1; try rfl) t d).trans (by unfold Dat.fetched Dat.blockOf; dsimp only [dat1]; unfold blk1; try rfl)
theorem leaves1_4 (c : Dev nD) (t : Fin cfg1.N) : (dat1 (U := U) Vc c).leavesExact 4 t = own c (win1_4.stage (cfg1.slots t 4)) (blk1 Vc c 4 t) := by
  unfold Dat.leavesExact; rw [show cfg1.idle 4 (grid1.coords t) = false from rfl]; dsimp only [dat1]; try rfl
theorem before1_5 (c : Dev nD) (t : Fin cfg1.N) (d) : (dat1 (U := U) Vc c).before 5 t d = blk1 Vc c 5 t :=
  ((dat1 (U := U) Vc c).before_in_eq_fetched 5 rfl (fun _ => rfl) (fun _ _ _ => rfl)
    (fun t => by unfold Dat.blockOf; dsimp only [dat1]; unfold blk1; try rfl) t d).trans (by unfold Dat.fetched Dat.blockOf; dsimp only [dat1]; unfold blk1; try rfl)
theorem leaves1_5 (c : Dev nD) (t : Fin cfg1.N) : (dat1 (U := U) Vc c).leavesExact 5 t = own c (win1_5.stage (cfg1.slots t 5)) (blk1 Vc c 5 t) := by
  unfold Dat.leavesExact; rw [show cfg1.idle 5 (grid1.coords t) = false from rfl]; dsimp only [dat1]; try rfl
theorem before1_6 (c : Dev nD) (t : Fin cfg1.N) (d) : (dat1 (U := U) Vc c).before 6 t d = blk1 Vc c 6 t :=
  ((dat1 (U := U) Vc c).before_in_eq_fetched 6 rfl (fun _ => rfl) (fun _ _ _ => rfl)
    (fun t => by unfold Dat.blockOf; dsimp only [dat1]; unfold blk1; try rfl) t d).trans (by unfold Dat.fetched Dat.blockOf; dsimp only [dat1]; unfold blk1; try rfl)
theorem leaves1_6 (c : Dev nD) (t : Fin cfg1.N) : (dat1 (U := U) Vc c).leavesExact 6 t = own c (win1_6.stage (cfg1.slots t 6)) (blk1 Vc c 6 t) := by
  unfold Dat.leavesExact; rw [show cfg1.idle 6 (grid1.coords t) = false from rfl]; dsimp only [dat1]; try rfl

theorem leaves1_7_last (c : Dev nD) (t : Fin cfg1.N) (h : k1_cond2 (grid1.coords t) = 1#1) :
    (dat1 (U := U) Vc c).leavesExact 7 t = own c (win1_7.stage (cfg1.slots t 7)) (outAt Vc c t) := by
  unfold Dat.leavesExact
  rw [show cfg1.idle 7 (grid1.coords t) = false from by show (!(k1_cond2 (grid1.coords t) == 1#1)) = false; rw [h]; rfl]
  dsimp only [dat1]; try rfl

theorem leaves1_7_idle (c : Dev nD) (t : Fin cfg1.N) (h : ¬ k1_cond2 (grid1.coords t) = 1#1) :
    (dat1 (U := U) Vc c).leavesExact 7 t = iprop(∃ d, own c (win1_7.stage (cfg1.slots t 7)) ((dat1 (U := U) Vc c).before 7 t d)) :=
  Dat.leavesExact_idle (dat1 Vc c) 7 t
    (by show (!(k1_cond2 (grid1.coords t) == 1#1)) = true; simp [h])
    (by
      have hf : ¬ (cfg1.win 7).flush t = true := fun hf => h ((last_iff t).mpr ((flush1_7 t).mp hf))
      simpa using hf)

/-- What the body is called with, the windows one by one. -/
def pre1 (c : Dev nD) (t : Fin cfg1.N) : sProp 𝕄 :=
  iprop((dat1 (U := U) Vc c).Φ t.castSucc ∗ (dat1 (U := U) Vc c).owesAt () t.castSucc
    ∗ (∃ d, owns (c : Thread nD τ) (win1_0.stage (cfg1.slots t 0)) fullShare ((dat1 (U := U) Vc c).before 0 t d))
    ∗ (∃ d, owns (c : Thread nD τ) (win1_1.stage (cfg1.slots t 1)) fullShare ((dat1 (U := U) Vc c).before 1 t d))
    ∗ (∃ d, owns (c : Thread nD τ) (win1_2.stage (cfg1.slots t 2)) fullShare ((dat1 (U := U) Vc c).before 2 t d))
    ∗ (∃ d, owns (c : Thread nD τ) (win1_3.stage (cfg1.slots t 3)) fullShare ((dat1 (U := U) Vc c).before 3 t d))
    ∗ (∃ d, owns (c : Thread nD τ) (win1_4.stage (cfg1.slots t 4)) fullShare ((dat1 (U := U) Vc c).before 4 t d))
    ∗ (∃ d, owns (c : Thread nD τ) (win1_5.stage (cfg1.slots t 5)) fullShare ((dat1 (U := U) Vc c).before 5 t d))
    ∗ (∃ d, owns (c : Thread nD τ) (win1_6.stage (cfg1.slots t 6)) fullShare ((dat1 (U := U) Vc c).before 6 t d))
    ∗ (∃ d, owns (c : Thread nD τ) (win1_7.stage (cfg1.slots t 7)) fullShare ((dat1 (U := U) Vc c).before 7 t d)))

/-- What it gives back. -/
def post1 (c : Dev nD) (t : Fin cfg1.N) : sProp 𝕄 :=
  iprop((dat1 (U := U) Vc c).Φ t.succ ∗ (dat1 (U := U) Vc c).owesAt () t.succ
    ∗ (dat1 (U := U) Vc c).leavesExact 0 t
    ∗ (dat1 (U := U) Vc c).leavesExact 1 t
    ∗ (dat1 (U := U) Vc c).leavesExact 2 t
    ∗ (dat1 (U := U) Vc c).leavesExact 3 t
    ∗ (dat1 (U := U) Vc c).leavesExact 4 t
    ∗ (dat1 (U := U) Vc c).leavesExact 5 t
    ∗ (dat1 (U := U) Vc c).leavesExact 6 t
    ∗ (dat1 (U := U) Vc c).leavesExact 7 t)

/-- The accumulator after a point is the step applied to the one before it, or to zero at the first. -/
theorem accAt_step (c : Dev nD) (t : Fin cfg1.N) (A : S16x512.Idx → Elt F .f32)
    (hA : ∀ n h, t.val = n + 1 → A = accAt Vc c n h) :
    accStep (blk1 Vc c 0 t) (blk1 Vc c 1 t) (if first (grid1.coords t) then acc0 else A) = accAt Vc c t.val t.isLt := by
  obtain ⟨n, hn⟩ := t
  cases n with
  | zero => rw [if_pos ((first_iff _).mpr rfl)]; rfl
  | succ n =>
    rw [if_neg fun h => absurd ((first_iff _).mp h) (Nat.succ_ne_zero n), hA n (Nat.lt_of_succ_lt hn) rfl]
    rfl

theorem Acc1_elim (c : Dev nD) (t : Fin cfg1.N) :
    Acc1 (U := U) Vc c t.val (Nat.le_of_lt t.isLt) ⊢ iprop(∃ A, ⌜∀ n h, t.val = n + 1 → A = accAt Vc c n h⌝ ∗ own c (Memref.whole cc1_scratch0) A) := by
  obtain ⟨n, hn⟩ := t
  cases n with
  | zero =>
    unfold Acc1
    iintro ⟨%A, HA⟩
    iexists A
    isplitr
    · ipureintro
      exact fun n h hz => absurd hz.symm (Nat.succ_ne_zero n)
    iexact HA
  | succ n =>
    unfold Acc1
    iintro HA
    iexists accAt Vc c n (Nat.lt_of_succ_lt hn)
    isplitr
    · ipureintro
      intro k h hk
      obtain rfl : n = k := Nat.succ.inj hk
      rfl
    iexact HA

set_option maxHeartbeats 4000000 in
theorem body1 (c : Dev nD) (t : Fin cfg1.N) :
    pre1 (U := U) Vc c t ⊢ wp frame (wpE (defs₀ (F := F)) Variants.none c none) Set.univ (bodyAt1 t) (fun _ => post1 Vc c t) := by
  unfold pre1 post1 bodyAt1
  simp only [before1_0, before1_1, before1_2, before1_3, before1_4, before1_5, before1_6, leaves1_0, leaves1_1, leaves1_2, leaves1_3, leaves1_4, leaves1_5, leaves1_6
    ]
  rw [show (dat1 (U := U) Vc c).Φ t.castSucc = Phi1 Vc c t.val (Nat.le_of_lt t.isLt) from rfl, show (dat1 (U := U) Vc c).Φ t.succ = Phi1 Vc c (t.val + 1) t.isLt from rfl,
    show (dat1 (U := U) Vc c).owesAt () t.succ = (dat1 (U := U) Vc c).owesAt () t.castSucc from rfl]
  unfold Phi1
  rw [show Acc1 (U := U) Vc c (t.val + 1) t.isLt = own c (Memref.whole cc1_scratch0) (accAt Vc c t.val t.isLt) from rfl]
  iintro ⟨⟨HA, Hb, Hp⟩, HW, ⟨%d0, H0⟩, ⟨%d1, H1⟩, ⟨%d2, H2⟩, ⟨%d3, H3⟩, ⟨%d4, H4⟩, ⟨%d5, H5⟩, ⟨%d6, H6⟩, ⟨%d7, H7⟩⟩
  ihave HA' := (Acc1_elim Vc c t) $$ HA
  icases HA' with ⟨%A, %hA, HA⟩
  iapply (bot_run (U := U) (defs := defs₀ (F := F)) (𝒱 := Variants.none) (c := c) (bd := none) (grid1.coords t) _ _ _ _ _ _ _ _ _ _ _ _ _ _ _ _ _ _
    (blk1 Vc c 0 t) (blk1 Vc c 1 t) (blk1 Vc c 2 t) (blk1 Vc c 3 t) (blk1 Vc c 4 t) (blk1 Vc c 5 t) (blk1 Vc c 6 t) ((dat1 (U := U) Vc c).before 7 t d7) A _) $$ [H0 H1 H2 H3 H4 H5 H6 H7 HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HA
  rw [accAt_step Vc c t A hA]
  iintro ⟨H0, H1, H2, H3, H4, H5, H6, H7, HA⟩
  isplitl [HA Hb Hp]
  · isplitl [HA]; · iexact HA
    isplitl [Hb]; · iexact Hb
    iexact Hp
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h : k1_cond2 (grid1.coords t) = 1#1
  · rw [if_pos h, leaves1_7_last Vc c t h]
    unfold outAt
    iexact H7
  · rw [if_neg h, leaves1_7_idle Vc c t h]
    iexists d7
    iexact H7

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) (U := U) Vc c) (defs₀ (F := F)) Variants.none () Set.univ := fun t => by
  rw [bigSep_W1, bigSep_W1, row1]
  exact triple_restated (body1 Vc c t) rfl .rfl fun _ => .rfl

end Cert.KernelIdeal.Hand

end
-- ==== Proof.WholeIdeal.lean ====
/-
  @main whole: the host operations, the two regions, and what they leave in the result.
-/
module

public import proofs.«01_k».proof.Proof.Gen.KernelIdeal.Regions
public import proofs.«01_k».proof.Proof.Region0Ideal
public import proofs.«01_k».proof.Proof.Region1Ideal

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation HostSeg RegionSeg Seg UD)
open Cert.KernelIdeal.Gen
open Mega (own runF)

variable {F : FTy → Type} [FloatOps F] [Named F]

/-- The ghost state: the launch's, a second family of rounds for the two regions, and the counters of the kernel's own transfers. -/
abbrev UU : Type := Idealize.ShloMosaic.UR sig nD τ × UD sig nD τ

local notation "𝕄" => MT nD τ sig Unit (Elt F) ℕ UU ℕ

def EP1 : Emb (UR sig nD τ) 𝕄 :=
  (Emb.inl : Emb (UR sig nD τ) UU).trans (uEmb (nD := nD) (sig := sig) (Ix := Unit) (Val := Elt F) (Name := ℕ) (U := UU) (Lvl := ℕ)).toEmb
def EP2 : Emb (UR sig nD τ) 𝕄 :=
  (Emb.inl : Emb (UR sig nD τ) (UD sig nD τ)).trans
    ((Emb.inr : Emb (UD sig nD τ) UU).trans (uEmb (nD := nD) (sig := sig) (Ix := Unit) (Val := Elt F) (Name := ℕ) (U := UU) (Lvl := ℕ)).toEmb)

instance EP1_lands : (EP1 : Emb (UR sig nD τ) 𝕄).LandsIn (upEmb : UEmb _ 𝕄) := by unfold EP1; infer_instance
instance EP2_lands : (EP2 : Emb (UR sig nD τ) 𝕄).LandsIn (upEmb : UEmb _ 𝕄) := by unfold EP2; infer_instance

theorem ownU_split (a b : UR sig nD τ) : (ownU (a, ((b, 1) : UD sig nD τ)) : sProp 𝕄) ⊢ iprop(BI.own (EP1 a) ∗ BI.own (EP2 b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op ((b, 1) : UD sig nD τ))))

open Classical in
/-- Every core's semaphores take the one index. -/
def Lt (g : GSem nD τ sig) : Finset Unit := if g.1.2 = .tc then {()} else ∅
def lvt (g : GSem nD τ sig) (_ : Unit) : ℕ := 0

theorem Lt_tc (g : GSem nD τ sig) (h : g.1.2 ≠ .tc) : Lt g = ∅ := if_neg h

/-! ## What the buffers hold between the items -/

variable (m : (ℓ : Loc nD τ sig) → Buf (Elt F) ℓ)

/-- What the first region leaves in its result, from what its scratch held. -/
def Mres (A B : Mega.Buf512 F) (c : Dev nD) : S16x512x512.Idx → Elt F .f32 := runF kA kB kC (insOf (V1 m) c t0_0) A B

def V2r (A B : Mega.Buf512 F) (c : Dev nD) : Valuation τ sig (Elt F) := Function.update (V1 m c) (Proc.devRef .tc main_v20) (Mres m A B c)
def V3r (A B : Mega.Buf512 F) (c : Dev nD) : Valuation τ sig (Elt F) := StableHlo.after hostOps1 (V2r m A B c)
def resOf (A B : Mega.Buf512 F) (c : Dev nD) := (dat1 (U := UU) (V3r m A B) c).arrAt 7 cfg1.N
def V4r (A B : Mega.Buf512 F) (c : Dev nD) : Valuation τ sig (Elt F) := Function.update (V3r m A B c) (Proc.devRef .tc main_v26) (resOf m A B c)

/-- The two regions' proof data. -/
def pd (Va Vb : Dev nD → Valuation τ sig (Elt F)) : (p : Fin 2) → (c : Dev nD) → Dat τ (Elt F) Unit ℕ UU ℕ (cfgs p) c
  | ⟨0, _⟩ => dat0 Va
  | ⟨1, _⟩ => dat1 Vb
  | ⟨n + 2, h⟩ => absurd h (by omega)

def arr0 : Finset (DevRef τ sig) := Pipeline.arrRefs spec0
def arr1 : Finset (DevRef τ sig) := Pipeline.arrRefs spec1
def res0 : Finset (DevRef τ sig) := Pipeline.hbmRefs {main_v20}
def uc : Finset (DevRef τ sig) := Pipeline.ucRefs τ sig

theorem arr0_sub : arr0 ⊆ uc := Pipeline.arrRefs_sub_ucRefs spec0 (by decide)
theorem arr1_sub : arr1 ⊆ uc := Pipeline.arrRefs_sub_ucRefs spec1 (by decide)
theorem res0_sub : res0 ⊆ uc \ arr0 := by
  intro b hb
  unfold res0 Pipeline.hbmRefs at hb
  rw [Finset.map_singleton, Finset.mem_singleton] at hb
  subst hb
  refine Finset.mem_sdiff.mpr ⟨Finset.mem_filter.mpr ⟨StableHlo.devRef_mem_tcRefs main_v20, by decide⟩, ?_⟩
  unfold arr0
  decide

theorem not_arr0 : (Proc.devRef .tc main_v20 : DevRef τ sig) ∉ arr0 := by unfold arr0; decide
theorem mem_arr1 : (Proc.devRef .tc main_v26 : DevRef τ sig) ∈ arr1 := by unfold arr1; decide

theorem split0 (c : Dev nD) (V : Valuation τ sig (Elt F)) :
    (StableHlo.held (c : Thread nD τ) uc V : sProp 𝕄)
      = iprop(StableHlo.held (c : Thread nD τ) arr0 V ∗ StableHlo.held (c : Thread nD τ) res0 V ∗ StableHlo.held (c : Thread nD τ) ((uc \ arr0) \ res0) V) := by
  rw [StableHlo.held_sub_split (c : Thread nD τ) arr0_sub V, StableHlo.held_sub_split (c : Thread nD τ) res0_sub V]

theorem held_res0 (c : Dev nD) (V : Valuation τ sig (Elt F)) :
    (StableHlo.held (c : Thread nD τ) res0 V : sProp 𝕄) = own c (Memref.whole main_v20) (V (Proc.devRef .tc main_v20)) := by
  unfold res0
  rw [Pipeline.held_hbm, bigSep_singleton]
  exact (owns_whole (c : Thread nD τ) main_v20 fullShare _).symm

theorem join0 (c : Dev nD) (V : Valuation τ sig (Elt F)) (X : S16x512x512.Idx → Elt F .f32) :
    (iprop(StableHlo.held (c : Thread nD τ) arr0 V ∗ own c (Memref.whole main_v20) X ∗ StableHlo.held (c : Thread nD τ) ((uc \ arr0) \ res0) V) : sProp 𝕄)
      = StableHlo.held (c : Thread nD τ) uc (Function.update V (Proc.devRef .tc main_v20) X) := by
  rw [split0 c (Function.update V (Proc.devRef .tc main_v20) X), held_res0, Function.update_self]
  have e1 : (StableHlo.held (c : Thread nD τ) arr0 (Function.update V (Proc.devRef .tc main_v20) X) : sProp 𝕄) = StableHlo.held (c : Thread nD τ) arr0 V :=
    StableHlo.held_congr _ (by
      intro b hb
      exact Function.update_of_ne (by rintro rfl; exact not_arr0 hb) _ _)
  have e2 : (StableHlo.held (c : Thread nD τ) ((uc \ arr0) \ res0) (Function.update V (Proc.devRef .tc main_v20) X) : sProp 𝕄) = StableHlo.held (c : Thread nD τ) ((uc \ arr0) \ res0) V :=
    StableHlo.held_congr _ (by
      intro b hb
      refine Function.update_of_ne ?_ _ _
      rintro rfl
      refine (Finset.mem_sdiff.mp hb).2 ?_
      unfold res0 Pipeline.hbmRefs
      rw [Finset.map_singleton]
      exact Finset.mem_singleton_self _)
  rw [e1, e2]

theorem split1 (c : Dev nD) (V : Valuation τ sig (Elt F)) :
    (StableHlo.held (c : Thread nD τ) uc V : sProp 𝕄)
      = iprop(StableHlo.held (c : Thread nD τ) arr1 V ∗ StableHlo.held (c : Thread nD τ) (uc \ arr1) V) :=
  StableHlo.held_sub_split (c : Thread nD τ) arr1_sub V

theorem join1 (c : Dev nD) (V : Valuation τ sig (Elt F)) (X) :
    (iprop(StableHlo.held (c : Thread nD τ) arr1 (Function.update V (Proc.devRef .tc main_v26) X) ∗ StableHlo.held (c : Thread nD τ) (uc \ arr1) V) : sProp 𝕄)
      = StableHlo.held (c : Thread nD τ) uc (Function.update V (Proc.devRef .tc main_v26) X) := by
  rw [split1 c (Function.update V (Proc.devRef .tc main_v26) X)]
  have e1 : (StableHlo.held (c : Thread nD τ) (uc \ arr1) (Function.update V (Proc.devRef .tc main_v26) X) : sProp 𝕄) = StableHlo.held (c : Thread nD τ) (uc \ arr1) V :=
    StableHlo.held_congr _ (by
      intro b hb
      exact Function.update_of_ne (by rintro rfl; exact (Finset.mem_sdiff.mp hb).2 mem_arr1) _ _)
  rw [e1]

/-! ## The regions' records -/

theorem sems0_eq (c : Dev nD) :
    (Pipeline.ownSems0 (Ix := Unit) (Name := ℕ) (U := UU) (Lvl := ℕ) (Val := Elt F) (τ := τ) osem0 c : sProp 𝕄)
      = iprop(semVal ((c : Thread nD τ), SemLoc.dma (Mega.cell cc0_scratch3 0).sem) 0 ∗ semVal ((c : Thread nD τ), SemLoc.dma (Mega.cell cc0_scratch3 1).sem) 0) :=
  (Pipeline.ownSems0_eq_of_list c osem0 [0, 1] (by decide) (by decide)).trans rfl

/-- What the first region takes beside its arrays, and gives back. -/
def X0 (c : Dev nD) : sProp 𝕄 := iprop((∃ M, own c (Memref.whole main_v20) M) ∗ ∃ r, prngReg c r)
def Y0 (Va : Dev nD → Valuation τ sig (Elt F)) (c : Dev nD) : sProp 𝕄 :=
  iprop((∃ A B, own c (Memref.whole main_v20) (runF kA kB kC (insOf Va c t0_0) A B)) ∗ ∃ r, prngReg c r)

theorem rest0_eq (c : Dev nD) :
    (Pipeline.scopedRest (Ix := Unit) (Name := ℕ) (U := UU) (Lvl := ℕ) (Val := Elt F) spec0 c : sProp 𝕄)
      = iprop((∃ A, own c (Memref.whole cc0_scratch0) A) ∗ (∃ B, own c (Memref.whole cc0_scratch1) B) ∗ (∃ X, own c (Memref.whole cc0_scratch2) X) ∗ Oth c) := by
  rw [scopedRest0_eq c]
  simp only [owns_whole]
  rfl

theorem in0 (Va : Dev nD → Valuation τ sig (Elt F)) (c : Dev nD) :
    (iprop(Pipeline.scopedRest spec0 c ∗ X0 c ∗ Pipeline.ownSems0 osem0 c) : sProp 𝕄) ⊢ Phi0 Va c 0 := by
  rw [rest0_eq, sems0_eq]
  unfold X0 Phi0 Scr Res0
  iintro ⟨⟨Ha, Hb, Hg, Ho⟩, ⟨Hr, Hp⟩, Hs⟩
  isplitl [Ha Hb Hg Hs]
  · isplitl [Ha]; · iexact Ha
    isplitl [Hb]; · iexact Hb
    isplitl [Hg]; · iexact Hg
    iexact Hs
  isplitl [Ho]; · iexact Ho
  isplitl [Hr]; · iexact Hr
  iexact Hp

theorem out0 (Va : Dev nD → Valuation τ sig (Elt F)) (c : Dev nD) :
    Phi0 Va c 1 ⊢ (iprop(Pipeline.scopedRest spec0 c ∗ Y0 Va c ∗ Pipeline.ownSems0 osem0 c) : sProp 𝕄) := by
  rw [rest0_eq, sems0_eq]
  unfold Y0 Phi0 Scr Res0
  iintro ⟨⟨Ha, Hb, Hg, Hs⟩, Ho, Hr, Hp⟩
  isplitl [Ha Hb Hg Ho]
  · isplitl [Ha]; · iexact Ha
    isplitl [Hb]; · iexact Hb
    isplitl [Hg]; · iexact Hg
    iexact Ho
  isplitr [Hs]
  · isplitl [Hr]; · iexact Hr
    iexact Hp
  iexact Hs

set_option backward.isDefEq.respectTransparency.types false

theorem mayWaits (c : Dev nD) : (levAts Lt lvt : sProp 𝕄) ⊢ Transfers.MayWaits (c : Thread nD τ) () 0 := by
  iintro H
  iapply (Transfers.MayWaits.zero (c : Thread nD τ) ())

  iempintro

def cut0 : Pipeline.LevelCut (nD := nD) (τ := τ) (pcfgs (F := F)) adm () Lt lvt 0 (fun _ => 0) (fun _ => 0) where
  hι c w s := by unfold Lt; rw [if_pos rfl]; exact Finset.mem_singleton_self _
  hιb c w s := le_refl _
  hD c g i h := absurd h (lt_irrefl _)

def cut1 : Pipeline.LevelCut (nD := nD) (τ := τ) (pcfgs (F := F)) adm () Lt lvt 1 (fun _ => 0) (fun _ => 0) where
  hι c w s := by unfold Lt; rw [if_pos rfl]; exact Finset.mem_singleton_self _
  hιb c w s := le_refl _
  hD c g i h := absurd h (lt_irrefl _)

theorem arrIn0 (Va : Dev nD → Valuation τ sig (Elt F)) (c : Dev nD) (w : Fin cfg0.W) :
    (dat0 (U := UU) Va c).arrAt w cfg0.N = Va c (Proc.devRef .tc (Pipeline.arrRef spec0 w)) := by
  have hw : (cfg0.win w).isOut = false := by revert w; decide
  exact (dat0 (U := UU) Va c).arrAt_in w hw _

/-- The first region, beside anything. -/
def R0 (Va Vb : Dev nD → Valuation τ sig (Elt F)) (R : Dev nD → sProp 𝕄) :
    RegionSeg (pcfgs (F := F)) adm (pd Va Vb) () defs₀ Variants.none Lt lvt 0 :=
  RegionSeg.ofHeldD (pcfgs (F := F)) adm (pd Va Vb) () defs₀ Variants.none Lt lvt 0 (fun _ => 0) () osem0 osem0_facts
    X0 (Y0 Va) launch0.toP rfl (fun c => (obligation0 Va c).loose) (fun _ _ => rfl) (fun _ => rfl)
    (fun c => (dat0 (U := UU) Va c).share_full fun _ => rfl)
    (fun c => mayWaits c)
    (fun c => by
      refine BIBase.Entails.trans ?_ (in0 Va c)
      iintro ⟨Hs, HX, Ho, Hm⟩
      isplitl [Hs]; · iexact Hs
      isplitl [HX]; · iexact HX
      iexact Ho)
    (fun c => out0 Va c) (fun _ => 0) cut0 R Va Va (fun c w => rfl) (fun c w => arrIn0 Va c w)

theorem acc1_any (Vb : Dev nD → Valuation τ sig (Elt F)) (c : Dev nD) : ∀ (n : ℕ) (h : n ≤ cfg1.N),
    (Acc1 Vb c n h : sProp 𝕄) ⊢ iprop(∃ A, own c (Memref.whole cc1_scratch0) A)
  | 0, h => by unfold Acc1; exact BI.Entails.refl _
  | n + 1, h => by
      unfold Acc1
      iintro H
      iexists (accAt Vb c n h)
      iexact H

theorem rest1_eq (c : Dev nD) :
    (Pipeline.scopedRest (Ix := Unit) (Name := ℕ) (U := UU) (Lvl := ℕ) (Val := Elt F) spec1 c : sProp 𝕄)
      = iprop((∃ A, own c (Memref.whole cc1_scratch0) A)
        ∗ Pipeline.scopedRestBut (Ix := Unit) (Name := ℕ) (U := UU) (Lvl := ℕ) (Val := Elt F) spec1 c [cc1_scratch0]) := by
  rw [scopedRest1_split c]
  simp only [owns_whole]

theorem in1 (Vb : Dev nD → Valuation τ sig (Elt F)) (c : Dev nD) (h : 0 ≤ cfg1.N) :
    (iprop(Pipeline.scopedRest spec1 c ∗ ∃ r, prngReg c r) : sProp 𝕄) ⊢ Phi1 Vb c 0 h := by
  rw [rest1_eq]
  unfold Phi1 Acc1
  iintro ⟨⟨Ha, Hr⟩, Hp⟩
  isplitl [Ha]; · iexact Ha
  isplitl [Hr]; · iexact Hr
  iexact Hp

theorem out1 (Vb : Dev nD → Valuation τ sig (Elt F)) (c : Dev nD) (n : ℕ) (h : n ≤ cfg1.N) :
    Phi1 Vb c n h ⊢ (iprop(Pipeline.scopedRest spec1 c ∗ ∃ r, prngReg c r) : sProp 𝕄) := by
  rw [rest1_eq]
  unfold Phi1
  iintro ⟨Ha, Hr, Hp⟩
  ihave Ha' := (acc1_any Vb c n h) $$ [Ha]
  · iexact Ha
  isplitr [Hp]
  · isplitl [Ha']; · iexact Ha'
    iexact Hr
  iexact Hp

theorem arrOut1 (Vb : Dev nD → Valuation τ sig (Elt F)) (c : Dev nD) (w : Fin cfg1.W) :
    (dat1 (U := UU) Vb c).arrAt w cfg1.N
      = Function.update (Vb c) (Proc.devRef .tc main_v26) ((dat1 (U := UU) Vb c).arrAt 7 cfg1.N) (Proc.devRef .tc (Pipeline.arrRef spec1 w)) := by
  by_cases h : w = 7
  · subst h; exact (Function.update_self (f := Vb c) (Proc.devRef .tc main_v26) _).symm
  · have hw : (cfg1.win w).isOut = false := by revert w; decide
    have hne : Pipeline.arrRef spec1 w ≠ main_v26 := by revert w; decide
    exact ((dat1 (U := UU) Vb c).arrAt_in w hw _).trans
      (Function.update_of_ne (fun e => hne (Proc.devRef_injective _ e)) _ _).symm

/-- The second region, beside anything. -/
def R1 (Va Vb : Dev nD → Valuation τ sig (Elt F)) (R : Dev nD → sProp 𝕄) :
    RegionSeg (pcfgs (F := F)) adm (pd Va Vb) () defs₀ Variants.none Lt lvt 1 :=
  RegionSeg.ofHeld (pcfgs (F := F)) adm (pd Va Vb) () defs₀ Variants.none Lt lvt 1 (fun _ => 0)
    (fun c => iprop(∃ r, prngReg c r)) (fun c => iprop(∃ r, prngReg c r)) launch1.toP rfl
    (fun c => (obligation1 Vb c).loose) (fun _ _ => rfl) (fun _ => rfl)
    (fun c => (dat1 (U := UU) Vb c).share_full fun _ => rfl)
    (fun c => in1 Vb c _) (fun c => out1 Vb c _ _) (fun _ => 0) cut1 R Vb
    (fun c => Function.update (Vb c) (Proc.devRef .tc main_v26) ((dat1 (U := UU) Vb c).arrAt 7 cfg1.N))
    (fun c w => rfl) (fun c w => arrOut1 Vb c w)

/-! ## The items, one after another -/

/-- The ghost state of one region. -/
def gh (p : Fin 2) (c : Dev nD) : sProp 𝕄 :=
  iprop(Pipeline.cellsGhost (Pipeline.pin (pcfgs (F := F)) adm) EP2 p c ∗ Pipeline.toksInit (Pipeline.pin (pcfgs (F := F)) adm) EP2 p c)

/-- What runs beside the arrays to the end. -/
def Ow (c : Dev nD) : sProp 𝕄 := iprop(∃ W, owes (c : Thread nD τ) (0 : CellTallies nD τ sig Unit) W)
def Pr (c : Dev nD) : sProp 𝕄 := iprop(∃ r, prngReg c r)

abbrev Prg (F : FTy → Type) [FloatOps F] [Named F] (β : Type) : Type 1 :=
  Prog (TpuEff nD τ sig (Elt F) (Pipeline.Sig Λ₀ (Fin 2) fun p => (pcfgs (F := F) p).Adm) .tc) β

def P3 {β : Type} (k : PUnit.{1} → Prg F β) : Prg F β := .op (.customCall (Pipeline.entry 1) ()) k
def P2 {β : Type} (k : PUnit.{1} → Prg F β) : Prg F β := StableHlo.seq hostOps1 >>= fun _ => P3 k
def P1 {β : Type} (k : PUnit.{1} → Prg F β) : Prg F β := .op (.customCall (Pipeline.entry 0) ()) fun _ => P2 k
def P0 {β : Type} (k : PUnit.{1} → Prg F β) : Prg F β := StableHlo.seq hostOps0 >>= fun _ => P1 k

/-- What the program ends with. -/
def Fin4 (c : Dev nD) : sProp 𝕄 := iprop((∃ A B, StableHlo.held (c : Thread nD τ) uc (V4r m A B c)) ∗ Ow c)

/-- What the first region leaves alone. -/
def Rw0 (c : Dev nD) : sProp 𝕄 := iprop(StableHlo.held (c : Thread nD τ) ((uc \ arr0) \ res0) (V1 m c) ∗ gh 1 c)

section Steps

abbrev wpc (c : Dev nD) {β : Type} (P : Prg F β) (Ψ : β → sProp 𝕄) : sProp 𝕄 :=
  wp Idealize.ShloMosaic.frame (wpE (Pipeline.defs (pcfgs (F := F)) defs₀) (Variants.lift Variants.none) (c : Thread nD τ) none) Set.univ P Ψ

theorem w3 (c : Dev nD) {β : Type} (k : PUnit.{1} → Prg F β) (Ψ : β → sProp 𝕄) (A B : Mega.Buf512 F) :
    iprop((iprop(boundary (c : Thread nD τ) ∗ Fin4 m c) -∗ wpc c (k ⟨⟩) Ψ) ∗ boundary (c : Thread nD τ)
      ∗ StableHlo.held (c : Thread nD τ) uc (V3r m A B c) ∗ Pr c ∗ Ow c ∗ gh 1 c ∗ levAts Lt lvt) ⊢ wpc c (P3 k) Ψ := by
  refine BIBase.Entails.trans ?_ (RegionSeg.wp (pcfgs (F := F)) adm (pd (V3r m A B) (V3r m A B)) () cellOf_inj EP2 defs₀ Variants.none Lt lvt
    (R1 (V3r m A B) (V3r m A B) (fun c => StableHlo.held (c : Thread nD τ) (uc \ arr1) (V3r m A B c))) c none (fun u h => absurd h (Option.not_mem_none u)) k Ψ)
  rw [split1]
  unfold Pr Ow gh
  iintro ⟨HK, HB, ⟨Ha, Hr⟩, Hp, Ho, Hg, HL⟩
  isplitl [HK]
  · iintro ⟨HB, Hpost⟩
    iapply HK
    isplitl [HB]; · iexact HB
    unfold R1 RegionSeg.ofHeld
    icases Hpost with ⟨Ha, Hp, Hr, Ho⟩
    unfold Fin4 Ow
    isplitr [Ho]
    · iexists A; iexists B
      unfold V4r
      rw [← join1]
      isplitl [Ha]; · iexact Ha
      iexact Hr
    iexact Ho
  isplitl [HB]; · iexact HB
  isplitl [Ha Hr Hp Ho]
  · unfold R1 RegionSeg.ofHeld
    isplitl [Ha]; · iexact Ha
    isplitl [Hp]; · iexact Hp
    isplitl [Hr]; · iexact Hr
    iexact Ho
  isplitl [HL]; · iexact HL
  iexact Hg

theorem w2 (c : Dev nD) {β : Type} (k : PUnit.{1} → Prg F β) (Ψ : β → sProp 𝕄) (A B : Mega.Buf512 F) :
    iprop((iprop(boundary (c : Thread nD τ) ∗ Fin4 m c) -∗ wpc c (k ⟨⟩) Ψ) ∗ boundary (c : Thread nD τ)
      ∗ StableHlo.held (c : Thread nD τ) uc (V2r m A B c) ∗ Pr c ∗ Ow c ∗ gh 1 c ∗ levAts Lt lvt) ⊢ wpc c (P2 k) Ψ := by
  refine BIBase.Entails.trans ?_ ((HostSeg.ofOps (Ix := Unit) (Name := ℕ) (U := UU) (Lvl := ℕ) (pcfgs (F := F)) defs₀ Variants.none Lt lvt (Pipeline.ucRefs τ sig) hostOps1
    (fun op h => Pipeline.sub_ucRefs op ((List.forall_iff_forall_mem.mp hostOps1_sub) op h))
    (fun op h => (List.forall_iff_forall_mem.mp hostOps1_fresh) op h) (V2r m A B) (fun c => iprop(Pr c ∗ Ow c ∗ gh 1 c))).run c (fun _ => P3 k) Ψ)
  iintro ⟨HK, HB, Hh, Hp, Ho, Hg, #HL⟩
  isplitl [HK]
  · unfold HostSeg.ofOps
    iintro ⟨HB, Hh, Hp, Ho, Hg⟩
    iapply (w3 m c k Ψ A B)
    isplitl [HK]; · iexact HK
    isplitl [HB]; · iexact HB
    isplitl [Hh]; · iexact Hh
    isplitl [Hp]; · iexact Hp
    isplitl [Ho]; · iexact Ho
    isplitl [Hg]; · iexact Hg
    iexact HL
  isplitl [HB]; · iexact HB
  isplitl [Hh Hp Ho Hg]
  · unfold HostSeg.ofOps
    isplitl [Hh]; · iexact Hh
    isplitl [Hp]; · iexact Hp
    isplitl [Ho]; · iexact Ho
    iexact Hg
  iexact HL

theorem w1 (c : Dev nD) {β : Type} (k : PUnit.{1} → Prg F β) (Ψ : β → sProp 𝕄) :
    iprop((iprop(boundary (c : Thread nD τ) ∗ Fin4 m c) -∗ wpc c (k ⟨⟩) Ψ) ∗ boundary (c : Thread nD τ)
      ∗ StableHlo.held (c : Thread nD τ) uc (V1 m c) ∗ Pr c ∗ Ow c ∗ gh 0 c ∗ gh 1 c ∗ levAts Lt lvt) ⊢ wpc c (P1 k) Ψ := by
  refine BIBase.Entails.trans ?_ (RegionSeg.wp (pcfgs (F := F)) adm (pd (V1 m) (V1 m)) () cellOf_inj EP2 defs₀ Variants.none Lt lvt
    (R0 (V1 m) (V1 m) (Rw0 m)) c none (fun u h => absurd h (Option.not_mem_none u)) (fun _ => P2 k) Ψ)
  rw [split0, held_res0]
  unfold Pr Ow gh
  iintro ⟨HK, HB, ⟨Ha, Hv, Hr⟩, Hp, Ho, Hg0, Hg1, #HL⟩
  isplitl [HK]
  · iintro ⟨HB, Hpost⟩
    unfold R0 RegionSeg.ofHeldD Rw0
    icases Hpost with ⟨Ha, Hy, ⟨Hr, Hg1⟩, Ho⟩
    unfold Y0
    icases Hy with ⟨⟨%A, %B, Hv⟩, Hp⟩
    iapply (w2 m c k Ψ A B)
    isplitl [HK]; · iexact HK
    isplitl [HB]; · iexact HB
    isplitl [Ha Hv Hr]
    · unfold V2r
      rw [← join0]
      isplitl [Ha]; · iexact Ha
      isplitl [Hv]; · iexact Hv
      iexact Hr
    isplitl [Hp]
    · unfold Pr; iexact Hp
    isplitl [Ho]
    · unfold Ow; iexact Ho
    isplitl [Hg1]; · iexact Hg1
    iexact HL
  isplitl [HB]; · iexact HB
  isplitl [Ha Hv Hr Hp Ho Hg1]
  · unfold R0 RegionSeg.ofHeldD
    isplitl [Ha]; · iexact Ha
    isplitl [Hv Hp]
    · unfold X0
      isplitl [Hv]
      · iexists (V1 m c (Proc.devRef .tc main_v20)); iexact Hv
      iexact Hp
    isplitl [Hr Hg1]
    · unfold Rw0 gh
      isplitl [Hr]; · iexact Hr
      iexact Hg1
    iexact Ho
  isplitr
  · iexact HL
  iexact Hg0

theorem w0 (c : Dev nD) {β : Type} (k : PUnit.{1} → Prg F β) (Ψ : β → sProp 𝕄) :
    iprop((iprop(boundary (c : Thread nD τ) ∗ Fin4 m c) -∗ wpc c (k ⟨⟩) Ψ) ∗ boundary (c : Thread nD τ)
      ∗ (StableHlo.held (c : Thread nD τ) uc (V0 m c) ∗ Pr c ∗ Ow c ∗ gh 0 c ∗ gh 1 c) ∗ levAts Lt lvt) ⊢ wpc c (P0 k) Ψ := by
  refine BIBase.Entails.trans ?_ ((HostSeg.ofOps (Ix := Unit) (Name := ℕ) (U := UU) (Lvl := ℕ) (pcfgs (F := F)) defs₀ Variants.none Lt lvt (Pipeline.ucRefs τ sig) hostOps0
    (fun op h => Pipeline.sub_ucRefs op ((List.forall_iff_forall_mem.mp hostOps0_sub) op h))
    (fun op h => (List.forall_iff_forall_mem.mp hostOps0_fresh) op h) (V0 m) (fun c => iprop(Pr c ∗ Ow c ∗ gh 0 c ∗ gh 1 c))).run c (fun _ => P1 k) Ψ)
  iintro ⟨HK, HB, ⟨Hh, Hp, Ho, Hg0, Hg1⟩, #HL⟩
  isplitl [HK]
  · unfold HostSeg.ofOps
    iintro ⟨HB, Hh, Hp, Ho, Hg0, Hg1⟩
    iapply (w1 m c k Ψ)
    isplitl [HK]; · iexact HK
    isplitl [HB]; · iexact HB
    isplitl [Hh]; · iexact Hh
    isplitl [Hp]; · iexact Hp
    isplitl [Ho]; · iexact Ho
    isplitl [Hg0]; · iexact Hg0
    isplitl [Hg1]; · iexact Hg1
    iexact HL
  isplitl [HB]; · iexact HB
  isplitl [Hh Hp Ho Hg0 Hg1]
  · unfold HostSeg.ofOps
    isplitl [Hh]; · iexact Hh
    isplitl [Hp]; · iexact Hp
    isplitl [Ho]; · iexact Ho
    isplitl [Hg0]; · iexact Hg0
    iexact Hg1
  iexact HL

end Steps

/-- The whole of @main as one stretch. -/
def mainProg : Prg F PUnit.{1} := Pipeline.chain
  [ StableHlo.seq hostOps0,
    Prog.lift (.customCall (Pipeline.entry 0) ()),
    StableHlo.seq hostOps1,
    Prog.lift (.customCall (Pipeline.entry 1) ()) ]

theorem mainProg_bind {β : Type} (k : PUnit.{1} → Prg F β) : (mainProg (F := F) >>= k) = P0 k := by
  unfold mainProg P0 P1 P2 P3
  simp only [Pipeline.chain_cons, Pipeline.chain_nil, bind_assoc, pure_bind]
  rfl

def hostAll : HostSeg (Ix := Unit) (Name := ℕ) (U := UU) (Lvl := ℕ) (pcfgs (F := F)) defs₀ Variants.none Lt lvt where
  prog := mainProg
  pre c := iprop(StableHlo.held (c : Thread nD τ) uc (V0 m c) ∗ Pr c ∗ Ow c ∗ gh 0 c ∗ gh 1 c)
  post c := Fin4 m c
  run c {β} k K := by
    rw [mainProg_bind]
    exact w0 m c k K

def gh2 (c : Dev nD) : sProp 𝕄 := iprop(gh 0 c ∗ gh 1 c)

theorem fund2 :
    (BI.own (EP2 (initOf (Pipeline.cells cfgs cellOf_inj) (Pipeline.launchToks cfgs cellOf_inj))) : sProp 𝕄)
      ⊢ iprop(|==> bigSep Finset.univ fun c : Dev nD => gh2 c) := by
  refine BIBase.Entails.trans (Pipeline.fund_ghost (Pipeline.pin (pcfgs (F := F)) adm) EP2 cellOf_inj) ?_
  have e : (bigSep Finset.univ fun c : Dev nD => (gh2 c : sProp 𝕄))
      = iprop((bigSep Finset.univ fun c : Dev nD => bigSep Finset.univ fun p => Pipeline.cellsGhost (Pipeline.pin (pcfgs (F := F)) adm) EP2 p c)
        ∗ (bigSep Finset.univ fun c : Dev nD => bigSep Finset.univ fun p => Pipeline.toksInit (Pipeline.pin (pcfgs (F := F)) adm) EP2 p c)) := by
    rw [← bigSep_sep']
    refine bigSep_congr fun c _ => ?_
    rw [← bigSep_sep']
    unfold gh2 gh
    rw [show (Finset.univ : Finset (Fin 2)) = {0, 1} from rfl, bigSep_insert (by decide), bigSep_singleton]
    rfl
  rw [e]

theorem hu (u : UR sig nD τ) (hu : u = initOf (Pipeline.cells cfgs cellOf_inj) (Pipeline.launchToks cfgs cellOf_inj)) :
    (ownU (u, ((u, 1) : UD sig nD τ)) : sProp 𝕄)
      ⊢ |={Set.univ}=> iprop(BI.own (EP1 (initOf (Pipeline.cells cfgs cellOf_inj) (Pipeline.launchToks cfgs cellOf_inj))) ∗ bigSep Finset.univ gh2) := by
  subst hu
  iintro H
  ihave H' := (ownU_split _ _) $$ [H]
  · iexact H
  icases H' with ⟨Ha, Hb⟩
  imod fund2 $$ [Hb] with Hg
  · iexact Hb
  imodintro
  isplitl [Ha]; · iexact Ha
  iexact Hg

/-- The buffers the regions leave. -/
def outsOf (A B : Mega.Buf512 F) : Outs (F := F) := fun J =>
  Function.update (Function.update (fun r c => V1 m c (Proc.devRef .tc r)) main_v20 (fun c => Mres m A B c)) main_v26 (fun c => resOf m A B c)

theorem outsOf_v20 (A B : Mega.Buf512 F) (J : ℕ) (c : Dev nD) : outsOf m A B J main_v20 c = Mres m A B c := by
  unfold outsOf
  rw [Function.update_of_ne (by decide), Function.update_self]
theorem outsOf_v26 (A B : Mega.Buf512 F) (J : ℕ) (c : Dev nD) : outsOf m A B J main_v26 c = resOf m A B c := by
  unfold outsOf
  rw [Function.update_self]

theorem V4_outs (A B : Mega.Buf512 F) (c : Dev nD) : V4 m (outsOf m A B) c = V4r m A B c := by
  unfold V4 V3 V2 V4r V3r V2r
  rw [outsOf_v20, outsOf_v26]

/-- What every final memory holds: the arguments as launched, and the result at what the two regions leave, from some contents of the first one's scratch. -/
def Post (c : Dev nD) (s : (ℓ : Loc nD τ sig) → Buf (Elt F) ℓ) : Prop :=
  (s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)
  ∧ s ((c.tc : Thread nD τ).loc main_arg14) = m ((c.tc : Thread nD τ).loc main_arg14)
  ∧ s ((c.tc : Thread nD τ).loc main_arg15) = m ((c.tc : Thread nD τ).loc main_arg15)
  ∧ s ((c.tc : Thread nD τ).loc main_arg16) = m ((c.tc : Thread nD τ).loc main_arg16)
  ∧ s ((c.tc : Thread nD τ).loc main_arg17) = m ((c.tc : Thread nD τ).loc main_arg17)
  ∧ s ((c.tc : Thread nD τ).loc main_arg18) = m ((c.tc : Thread nD τ).loc main_arg18)
  ∧ s ((c.tc : Thread nD τ).loc main_arg19) = m ((c.tc : Thread nD τ).loc main_arg19)
  ∧ s ((c.tc : Thread nD τ).loc main_arg20) = m ((c.tc : Thread nD τ).loc main_arg20)
  ∧ s ((c.tc : Thread nD τ).loc main_arg21) = m ((c.tc : Thread nD τ).loc main_arg21)
  ∧ s ((c.tc : Thread nD τ).loc main_arg22) = m ((c.tc : Thread nD τ).loc main_arg22)
  ∧ s ((c.tc : Thread nD τ).loc main_arg23) = m ((c.tc : Thread nD τ).loc main_arg23)
  ∧ s ((c.tc : Thread nD τ).loc main_arg24) = m ((c.tc : Thread nD τ).loc main_arg24)
  ∧ s ((c.tc : Thread nD τ).loc main_arg25) = m ((c.tc : Thread nD τ).loc main_arg25)
  ∧ s ((c.tc : Thread nD τ).loc main_arg26) = m ((c.tc : Thread nD τ).loc main_arg26))
  ∧ ∃ A B, s ((c.tc : Thread nD τ).loc main_v26) = resOf m A B c

theorem post_of (c : Dev nD) (A B : Mega.Buf512 F) (s : (ℓ : Loc nD τ sig) → Buf (Elt F) ℓ)
    (h : ∀ b ∈ Pipeline.ucRefs τ sig, s ((c : Thread nD τ).1, b) = V4r m A B c b) : Post m c s := by
  rw [← V4_outs] at h
  refine ⟨?_, A, B, ?_⟩
  · exact ⟨(h (Proc.devRef .tc main_arg0) (Finset.mem_filter.mpr ⟨StableHlo.devRef_mem_tcRefs main_arg0, by decide⟩)).trans (V4_main_arg0 m _ c),
      (h (Proc.devRef .tc main_arg1) (Finset.mem_filter.mpr ⟨StableHlo.devRef_mem_tcRefs main_arg1, by decide⟩)).trans (V4_main_arg1 m _ c),
      (h (Proc.devRef .tc main_arg2) (Finset.mem_filter.mpr ⟨StableHlo.devRef_mem_tcRefs main_arg2, by decide⟩)).trans (V4_main_arg2 m _ c),
      (h (Proc.devRef .tc main_arg3) (Finset.mem_filter.mpr ⟨StableHlo.devRef_mem_tcRefs main_arg3, by decide⟩)).trans (V4_main_arg3 m _ c),
      (h (Proc.devRef .tc main_arg4) (Finset.mem_filter.mpr ⟨StableHlo.devRef_mem_tcRefs main_arg4, by decide⟩)).trans (V4_main_arg4 m _ c),
      (h (Proc.devRef .tc main_arg5) (Finset.mem_filter.mpr ⟨StableHlo.devRef_mem_tcRefs main_arg5, by decide⟩)).trans (V4_main_arg5 m _ c),
      (h (Proc.devRef .tc main_arg6) (Finset.mem_filter.mpr ⟨StableHlo.devRef_mem_tcRefs main_arg6, by decide⟩)).trans (V4_main_arg6 m _ c),
      (h (Proc.devRef .tc main_arg7) (Finset.mem_filter.mpr ⟨StableHlo.devRef_mem_tcRefs main_arg7, by decide⟩)).trans (V4_main_arg7 m _ c),
      (h (Proc.devRef .tc main_arg8) (Finset.mem_filter.mpr ⟨StableHlo.devRef_mem_tcRefs main_arg8, by decide⟩)).trans (V4_main_arg8 m _ c),
      (h (Proc.devRef .tc main_arg9) (Finset.mem_filter.mpr ⟨StableHlo.devRef_mem_tcRefs main_arg9, by decide⟩)).trans (V4_main_arg9 m _ c),
      (h (Proc.devRef .tc main_arg10) (Finset.mem_filter.mpr ⟨StableHlo.devRef_mem_tcRefs main_arg10, by decide⟩)).trans (V4_main_arg10 m _ c),
      (h (Proc.devRef .tc main_arg11) (Finset.mem_filter.mpr ⟨StableHlo.devRef_mem_tcRefs main_arg11, by decide⟩)).trans (V4_main_arg11 m _ c),
      (h (Proc.devRef .tc main_arg12) (Finset.mem_filter.mpr ⟨StableHlo.devRef_mem_tcRefs main_arg12, by decide⟩)).trans (V4_main_arg12 m _ c),
      (h (Proc.devRef .tc main_arg13) (Finset.mem_filter.mpr ⟨StableHlo.devRef_mem_tcRefs main_arg13, by decide⟩)).trans (V4_main_arg13 m _ c),
      (h (Proc.devRef .tc main_arg14) (Finset.mem_filter.mpr ⟨StableHlo.devRef_mem_tcRefs main_arg14, by decide⟩)).trans (V4_main_arg14 m _ c),
      (h (Proc.devRef .tc main_arg15) (Finset.mem_filter.mpr ⟨StableHlo.devRef_mem_tcRefs main_arg15, by decide⟩)).trans (V4_main_arg15 m _ c),
      (h (Proc.devRef .tc main_arg16) (Finset.mem_filter.mpr ⟨StableHlo.devRef_mem_tcRefs main_arg16, by decide⟩)).trans (V4_main_arg16 m _ c),
      (h (Proc.devRef .tc main_arg17) (Finset.mem_filter.mpr ⟨StableHlo.devRef_mem_tcRefs main_arg17, by decide⟩)).trans (V4_main_arg17 m _ c),
      (h (Proc.devRef .tc main_arg18) (Finset.mem_filter.mpr ⟨StableHlo.devRef_mem_tcRefs main_arg18, by decide⟩)).trans (V4_main_arg18 m _ c),
      (h (Proc.devRef .tc main_arg19) (Finset.mem_filter.mpr ⟨StableHlo.devRef_mem_tcRefs main_arg19, by decide⟩)).trans (V4_main_arg19 m _ c),
      (h (Proc.devRef .tc main_arg20) (Finset.mem_filter.mpr ⟨StableHlo.devRef_mem_tcRefs main_arg20, by decide⟩)).trans (V4_main_arg20 m _ c),
      (h (Proc.devRef .tc main_arg21) (Finset.mem_filter.mpr ⟨StableHlo.devRef_mem_tcRefs main_arg21, by decide⟩)).trans (V4_main_arg21 m _ c),
      (h (Proc.devRef .tc main_arg22) (Finset.mem_filter.mpr ⟨StableHlo.devRef_mem_tcRefs main_arg22, by decide⟩)).trans (V4_main_arg22 m _ c),
      (h (Proc.devRef .tc main_arg23) (Finset.mem_filter.mpr ⟨StableHlo.devRef_mem_tcRefs main_arg23, by decide⟩)).trans (V4_main_arg23 m _ c),
      (h (Proc.devRef .tc main_arg24) (Finset.mem_filter.mpr ⟨StableHlo.devRef_mem_tcRefs main_arg24, by decide⟩)).trans (V4_main_arg24 m _ c),
      (h (Proc.devRef .tc main_arg25) (Finset.mem_filter.mpr ⟨StableHlo.devRef_mem_tcRefs main_arg25, by decide⟩)).trans (V4_main_arg25 m _ c),
      (h (Proc.devRef .tc main_arg26) (Finset.mem_filter.mpr ⟨StableHlo.devRef_mem_tcRefs main_arg26, by decide⟩)).trans (V4_main_arg26 m _ c)⟩
  · refine (h (Proc.devRef .tc main_v26) (Finset.mem_filter.mpr ⟨StableHlo.devRef_mem_tcRefs main_v26, by decide⟩)).trans ?_
    unfold V4
    rw [Function.update_self, outsOf_v26]

/-- Every weakly fair execution of @main ends as `Post` says, with every semaphore at zero. -/
theorem kernel_run (ρ : Dev nD → PrngReg) :
    θ_run defs (onTc (τ := τ) (main (F := F))) ⟨m, fun _ => 0, ρ⟩ (fun r => (∀ c : Dev nD, Post m c r.2.mem) ∧ r.2.sem = fun _ => 0) := by
  refine Pipeline.θ_run_regions_kit_dev_sems (pcfgs (F := F)) adm (pd (V1 m) (V1 m)) () cellOf_inj EP1 defs₀ Variants.none Lt lvt m ρ main
    (fun c => [.host (hostAll m)])
    (fun c Q => by
      rewrite [main_chain c, Seg.run_eq_chain,
        show ([Seg.host (hostAll m)] : List (Seg (pcfgs (F := F)) adm (pd (V1 m) (V1 m)) () defs₀ Variants.none Lt lvt)).map Seg.prog = [mainProg] from rfl,
        Pipeline.chain_cons, Pipeline.chain_nil]
      rewrite [show (mainProg (F := F) >>= fun _ => pure PUnit.unit) = mainProg from bind_pure mainProg]
      exact .rfl)
    (fun c => by simp only [Seg.pipes_host, Seg.pipes_nil]; decide) (fun _ => 0) Lt_tc gh2 (_, ((_, 1) : UD sig nD τ)) (hu _ rfl)
    (T₀ := fun c => iprop(StableHlo.held (c : Thread nD τ) uc (V0 m c) ∗ Pr c ∗ Ow c ∗ gh 0 c ∗ gh 1 c))
    (Tₙ := fun c => iprop(∃ A B, StableHlo.held (c : Thread nD τ) uc (V4r m A B c)))
    (hch := fun c => ⟨.rfl, .rfl⟩)
    (hinit := ?_) (QY := fun c s => Post m c s.mem)
    (hfin := fun c s' => ?_) (hQ := fun _ h hz => ⟨h, funext fun g => hz g (.inr (regions_no_unscoped g.2))⟩)
  · have hc : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ gh2 c) : sProp 𝕄)
        ⊢ iprop(StableHlo.held (c : Thread nD τ) uc (V0 m c) ∗ Pr c ∗ Ow c ∗ gh 0 c ∗ gh 1 c) := by
      intro c
      have e : (unscopedBufs c (fun b => m ((c.tc : Thread nD τ).loc b)) : sProp 𝕄) = StableHlo.held (c : Thread nD τ) uc (V0 m c) :=
        Pipeline.unscopedBufs_held (Ix := Unit) (Name := ℕ) (U := UU) (Lvl := ℕ) c (V0 m c)
      rw [e]
      unfold gh2 Pr Ow
      iintro ⟨Hh, -, Ho, -, Hp, Hg⟩
      isplitl [Hh]; · iexact Hh
      isplitl [Hp]; · iexists (ρ c); iexact Hp
      isplitl [Ho]; · iexists ∅; iexact Ho
      iexact Hg
    have hall : (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ gh2 c) : sProp 𝕄))
        ⊢ bigSep Finset.univ fun c : Dev nD => iprop(StableHlo.held (c : Thread nD τ) uc (V0 m c) ∗ Pr c ∗ Ow c ∗ gh 0 c ∗ gh 1 c) :=
      bigSep_mono fun c _ => hc c
    iintro ⟨H, Hla⟩
    imodintro
    iapply hall
    iexact H
  · unfold StableHlo.held
    iintro ⟨⟨%A, %B, Hh⟩, HSI⟩
    ihave Hr := (pointsTo_read_all (Pipeline.ucRefs τ sig) (fun b => ((c : Thread nD τ).1, b)) (V4r m A B c) s') $$ [Hh HSI]
    · isplitl [Hh]; · iexact Hh
      iexact HSI
    icases Hr with ⟨%h, HSI⟩
    imodintro
    isplitr
    · ipureintro
      exact post_of m c A B _ h
    iexact HSI

end Cert.KernelIdeal.Hand

end
-- ==== Proof.MegaEqKernel.lean ====
/-
  The printed body of the first kernel is the structured program.
-/
module

public import proofs.«01_k».proof.Proof.Gen.Kernel
public import proofs.«01_k».proof.Proof.MegaK

@[expose] public section

set_option maxRecDepth 65536
set_option maxHeartbeats 0
set_option Elab.async false

noncomputable section

namespace Cert.Kernel.Hand

open Idealize.ShloMosaic Idealize.SL.Sem Cert.Kernel Cert.Kernel.Gen

variable {F : FTy → Type} [FloatOps F]

theorem mega_eq (arg0 : Memref sig .tc .vmem S6400x40 .f32) (harg0 : arg0.IsWhole) (arg1 : Memref sig .tc .vmem S5x40x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S3x512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .hbm S16x512x512 .f32) (harg21 : arg21.IsWhole) (arg22 : Memref sig .tc .vmem S6416x512 .f32) (harg22 : arg22.IsWhole) (arg23 : Memref sig .tc .vmem S6416x512 .f32) (harg23 : arg23.IsWhole) (arg24 : Memref sig .tc .vmem S2x512x512 .f32) (harg24 : arg24.IsWhole) (arg25 : DmaSems sig S2) :
    cc0_mega (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 =
      Mega.runK (Scalar.ofBits .f32 0x39257EB5#32) (Scalar.ofBits .f32 0x39272F05#32) (Scalar.ofBits .f32 0x392AAAAB#32) arg0 arg1 arg2 arg3 arg4 arg5 arg6 arg7 arg8 arg9 arg10 arg11 arg12 arg13 arg14 arg15 arg16 arg17 arg18 arg19 arg20 arg21 arg22 arg23 arg24 arg25 := rfl

end Cert.Kernel.Hand

end
-- ==== Proof.Frames.lean ====
/-
  The frames of the kernel, at the machine's floats and at the extended reals, and of the reference.
-/
module

public import proofs.«01_k».proof.Defs
public import proofs.«01_k».proof.Proof.WholeIdeal
public import proofs.«01_k».proof.Proof.WholeKernel
public import proofs.«01_k».proof.Proof.Gen.ReferenceIdeal.Run

@[expose] public section

noncomputable section

namespace Cert.Hand

open Idealize.ShloMosaic Idealize.SL.Sem

theorem frame_kernel : Cert.quiescent_Kernel (hKernel := Cert.Kernel.Gen.facts) := fun m g _ =>
  (θ_run Cert.Kernel.defs _ _).mono (fun r h => ⟨fun c => (h.1 c).1, h.2⟩) (Cert.Kernel.Hand.kernel_run m g)

theorem frame_kernelIdeal : Cert.quiescent_KernelIdeal (hKernelIdeal := Cert.KernelIdeal.Gen.facts) := fun m g _ =>
  (θ_run Cert.KernelIdeal.defs _ _).mono (fun r h => ⟨fun c => (h.1 c).1, h.2⟩) (Cert.KernelIdeal.Hand.kernel_run m g)

theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

/-- The three named reciprocals have the values the table gives them. -/
theorem preserves : Cert.preserves_Kernel_KernelIdeal :=
  ⟨IdealRules.named_const.statement Cert.KernelIdeal.κ "inv_6336" .f32 0x39257EB5#32 ((1 / 6336 : ℝ) : EReal) rfl,
    IdealRules.named_const.statement Cert.KernelIdeal.κ "inv_6272" .f32 0x39272F05#32 ((1 / 6272 : ℝ) : EReal) rfl,
    IdealRules.named_const.statement Cert.KernelIdeal.κ "inv_6144" .f32 0x392AAAAB#32 ((1 / 6144 : ℝ) : EReal) rfl⟩

end Cert.Hand

end
-- ==== Proof.Norm.lean ====
/-
  The batch normalization with its clip to [0, 20], as the kernel computes it from the sums of the values and of their
  squares, and as the reference computes it from the mean and the mean squared deviation: the same number where the
  values and the gain are real.
-/
module

public import Idealize.ShloMosaic.Lib.Pointwise
public import Mathlib.Tactic.FieldSimp

@[expose] public section

noncomputable section

namespace Bn

open Idealize.ShloMosaic
open scoped BigOperators

/-- A real value. -/
def Re (x : EReal) : Prop := ∃ r : ℝ, x = (r : EReal)

def eps : EReal := Ideal.ofBits .f32 0x3727C5AC#32

theorem eps_pos : ∃ r : ℝ, 0 < r ∧ eps = (r : EReal) := by
  refine ⟨_, ?_, by unfold eps; simp [Ideal.ofBits, Ideal.ieee]; rfl⟩
  positivity

theorem n6336 : Ideal.ofBits .f32 0x45C60000#32 = ((6336 : ℝ) : EReal) := by
  simp [Ideal.ofBits, Ideal.ieee]; norm_cast; norm_num
theorem n6272 : Ideal.ofBits .f32 0x45C40000#32 = ((6272 : ℝ) : EReal) := by
  simp [Ideal.ofBits, Ideal.ieee]; norm_cast; norm_num
theorem n6144 : Ideal.ofBits .f32 0x45C00000#32 = ((6144 : ℝ) : EReal) := by
  simp [Ideal.ofBits, Ideal.ieee]; norm_cast; norm_num
theorem n16 : Ideal.ofBits .f32 0x41800000#32 = ((16 : ℝ) : EReal) := by
  simp [Ideal.ofBits, Ideal.ieee]; norm_cast; norm_num
theorem n20 : Ideal.ofBits .f32 0x41A00000#32 = ((20 : ℝ) : EReal) := by
  simp [Ideal.ofBits, Ideal.ieee]; norm_cast; norm_num

theorem Re.add {x y : EReal} (hx : Re x) (hy : Re y) : Re (x + y) := by
  obtain ⟨a, rfl⟩ := hx; obtain ⟨b, rfl⟩ := hy; exact ⟨a + b, (EReal.coe_add a b).symm⟩
theorem Re.mul {x y : EReal} (hx : Re x) (hy : Re y) : Re (x * y) := by
  obtain ⟨a, rfl⟩ := hx; obtain ⟨b, rfl⟩ := hy; exact ⟨a * b, (EReal.coe_mul a b).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Re.sum {ι : Type} (s : Finset ι) {f : ι → EReal} (h : ∀ i, Re (f i)) : Re (∑ i ∈ s, f i) := by
  choose r hr using h
  exact ⟨∑ i ∈ s, r i, by rw [coe_sum]; exact Finset.sum_congr rfl fun i _ => hr i⟩
theorem Re.clip (z : EReal) : Re (min ((20 : ℝ) : EReal) (max 0 z)) := by
  induction z with
  | bot => exact ⟨0, by simp⟩
  | top => exact ⟨20, by simp⟩
  | coe r => exact ⟨min 20 (max 0 r), by norm_cast⟩

/-- The clip. -/
def clip (z : EReal) : EReal := min (Ideal.ofBits .f32 0x41A00000#32) (max 0 z)
theorem re_clip (z : EReal) : Re (clip z) := by
  unfold clip; rw [n20]; exact Re.clip z

section
variable {ι κ : Type} [Fintype ι] [Fintype κ]

/-- The mean squared deviation. -/
def dev (n : EReal) (Y : ι → κ → EReal) : EReal :=
  ∑ i, ∑ j, (Y i j - Ideal.div (∑ i, ∑ j, Y i j) n) * (Y i j - Ideal.div (∑ i, ∑ j, Y i j) n)

/-- As the reference computes it; `z` is what its variance would hold for no values at all. -/
def bnR (n z g t : EReal) (Y : ι → κ → EReal) (y : EReal) : EReal :=
  clip (Ideal.div (g * (y - Ideal.div (∑ i, ∑ j, Y i j) n))
    (Ideal.sqrt ((if 0 < n - ((0 : ℝ) : EReal) then Ideal.div (dev n Y) (n - ((0 : ℝ) : EReal)) else z) + eps)) + t)

/-- The kernel's scale and shift. -/
def sc (k s1 s2 g : EReal) : EReal := g * Ideal.rsqrt (s2 * k - s1 * k * (s1 * k) + eps)
def sh (k s1 s2 g t : EReal) : EReal := t - s1 * k * sc k s1 s2 g

/-- The variance two ways. -/
theorem var_eq (n : ℝ) (hn : n = (Fintype.card ι : ℝ) * Fintype.card κ) (h0 : 0 < n) (f : ι → κ → ℝ) :
    (∑ i, ∑ j, f i j * f i j) * (1 / n) - (∑ i, ∑ j, f i j) * (1 / n) * ((∑ i, ∑ j, f i j) * (1 / n))
      = (∑ i, ∑ j, (f i j - (∑ i, ∑ j, f i j) * (1 / n)) * (f i j - (∑ i, ∑ j, f i j) * (1 / n))) * (1 / n) := by
  generalize hS : (∑ i, ∑ j, f i j) = S
  have h : ∀ i j, (f i j - S * (1 / n)) * (f i j - S * (1 / n)) = f i j * f i j - 2 * (S * (1 / n)) * f i j + (S * (1 / n)) * (S * (1 / n)) := by
    intro i j; ring
  simp only [h, Finset.sum_add_distrib, Finset.sum_sub_distrib, ← Finset.mul_sum, hS, Finset.sum_const, Finset.card_univ, nsmul_eq_mul]
  have e2 : (Fintype.card κ : ℝ) * ((Fintype.card ι : ℝ) * (1 / n)) = 1 := by
    rw [← mul_assoc, mul_comm (Fintype.card κ : ℝ), ← hn]
    exact mul_one_div_cancel h0.ne'
  rw [e2]
  ring

theorem dev_nonneg (f : ι → κ → ℝ) (m : ℝ) : 0 ≤ ∑ i, ∑ j, (f i j - m) * (f i j - m) :=
  Finset.sum_nonneg fun i _ => Finset.sum_nonneg fun j _ => mul_self_nonneg _

/-- The two agree. -/
theorem bn_eq {w : BitVec 32} (n : ℝ) (hw : Ideal.ofBits .f32 w = (n : EReal)) (hn : n = (Fintype.card ι : ℝ) * Fintype.card κ) (h0 : 0 < n)
    (z : EReal) {g : EReal} (t : EReal) {Y : ι → κ → EReal} {y : EReal} (hg : Re g) (hY : ∀ i j, Re (Y i j)) (hy : Re y) :
    clip (y * sc ((1 / n : ℝ) : EReal) (∑ i, ∑ j, Y i j) (∑ i, ∑ j, Y i j * Y i j) g
        + sh ((1 / n : ℝ) : EReal) (∑ i, ∑ j, Y i j) (∑ i, ∑ j, Y i j * Y i j) g t)
      = bnR (Ideal.ofBits .f32 w) z g t Y y := by
  obtain ⟨g, rfl⟩ := hg
  obtain ⟨y, rfl⟩ := hy
  choose f hf using hY
  obtain rfl : Y = fun i j => ((f i j : ℝ) : EReal) := funext fun i => funext fun j => hf i j
  obtain ⟨e, he, hee⟩ := eps_pos
  unfold bnR sh sc dev
  rw [hw, hee]
  have hne : n ≠ 0 := h0.ne'
  have hS : (∑ i, ∑ j, ((f i j : ℝ) : EReal)) = ((∑ i, ∑ j, f i j : ℝ) : EReal) := by simp only [coe_sum]
  have hQ : (∑ i, ∑ j, ((f i j : ℝ) : EReal) * ((f i j : ℝ) : EReal)) = ((∑ i, ∑ j, f i j * f i j : ℝ) : EReal) := by
    simp only [coe_sum, EReal.coe_mul]
  rw [hS, hQ, Ideal.div_coe hne, ← EReal.coe_sub, sub_zero, if_pos (by exact_mod_cast h0), Ideal.div_coe hne]
  simp only [← EReal.coe_mul, ← EReal.coe_sub, ← coe_sum, ← EReal.coe_add]
  rw [var_eq n hn h0 f]
  generalize hS' : (∑ i, ∑ j, f i j) = S
  have hV := dev_nonneg f (S * (1 / n))
  generalize (∑ i, ∑ j, (f i j - S * (1 / n)) * (f i j - S * (1 / n))) = V at hV ⊢
  have hp : 0 < V * (1 / n) + e := by positivity
  rw [Ideal.rsqrt_coe, Ideal.sqrt_coe, if_neg hp.le.not_gt, if_neg hp.ne', if_neg hp.le.not_gt]
  have hs : Real.sqrt (V * (1 / n) + e) ≠ 0 := (Real.sqrt_pos.mpr hp).ne'
  rw [Ideal.div_coe hs]
  simp only [← EReal.coe_mul]
  congr 1
  induction t with
  | bot => simp
  | top => rw [EReal.top_sub_coe, EReal.coe_add_top, EReal.coe_add_top]
  | coe r =>
    simp only [← EReal.coe_sub, ← EReal.coe_add]
    congr 1
    ring

end

end Bn

end
-- ==== Proof.KStage.lean ====
/-
  The stages of the first kernel over the extended reals, row by row: the rows that count, whatever the other rows hold.
-/
module

public import proofs.«01_k».proof.Proof.MegaTail
public import proofs.«01_k».proof.Proof.Norm

@[expose] public section

set_option maxRecDepth 16384

noncomputable section

namespace Mega

open Idealize.ShloMosaic Bn
open scoped BigOperators

abbrev iy2 {n0 n1 : Nat} (a : Fin n0) (b : Fin n1) : (⟨2, ![n0, n1]⟩ : Shape).Idx := Idealize.ShloMosaic.ix2 a b
abbrev iy3 {n0 n1 n2 : Nat} (a : Fin n0) (b : Fin n1) (c : Fin n2) : (⟨3, ![n0, n1, n2]⟩ : Shape).Idx := Idealize.ShloMosaic.ix3 a b c

/-- A buffer's element. -/
def el (X : Buf512 Ideal) (r : ℕ) (o : Fin 512) : EReal := if h : r < 6416 then X (iy2 ⟨r, h⟩ o) else 0

theorem el_of (X : Buf512 Ideal) {r : ℕ} (h : r < 6416) (o : Fin 512) : el X r o = X (iy2 ⟨r, h⟩ o) := dif_pos h

theorem rd_el (X : Buf512 Ideal) (c d : ℕ) (t : Fin 400) (o : Fin 512) : rd X c d (iy2 t o) = el X (400 * (c % 16) + d % 16 + t.val) o := by
  rw [el_of X (by omega)]
  unfold rd VecWindow.window
  congr 1
  funext a
  apply Fin.ext
  match a with
  | ⟨0, _⟩ => exact congrArg (400 * (c % 16) + d % 16 + ·) (Nat.one_mul t.val)
  | ⟨1, _⟩ => exact (Nat.zero_add _).trans (Nat.one_mul o.val)

theorem rd384_el (X : Buf512 Ideal) (c : ℕ) (t : Fin 384) (o : Fin 512) : rd384 X c (iy2 t o) = el X (400 * (c % 16) + t.val) o := by
  rw [el_of X (by omega)]
  unfold rd384 VecWindow.window
  congr 1
  funext a
  apply Fin.ext
  match a with
  | ⟨0, _⟩ => exact congrArg (400 * (c % 16) + ·) (Nat.one_mul t.val)
  | ⟨1, _⟩ => exact (Nat.zero_add _).trans (Nat.one_mul o.val)

theorem wr_el (X : Buf512 Ideal) (c : ℕ) (v : Chunk Ideal) (r : ℕ) (o : Fin 512) :
    el (wr X c v) r o = if r / 400 = c % 16 then v (iy2 ⟨r % 400, Nat.mod_lt _ (by decide)⟩ o) else el X r o := by
  by_cases hr : r < 6416
  · rw [el_of _ hr, el_of _ hr]
    unfold wr VecWindow.put
    by_cases h : r / 400 = c % 16
    · rw [if_pos h, dif_pos]
      · congr 1
        funext a
        apply Fin.ext
        match a with
        | ⟨0, _⟩ =>
          show r - (400 * (c % 16) + 0 % 16) = r % 400
          omega
        | ⟨1, _⟩ => rfl
      · intro a
        match a with
        | ⟨0, _⟩ =>
          show 400 * (c % 16) + 0 % 16 ≤ r ∧ r < 400 * (c % 16) + 0 % 16 + 400
          omega
        | ⟨1, _⟩ => exact ⟨Nat.zero_le _, by show o.val < 0 + 512; omega⟩
    · rw [if_neg h, dif_neg]
      intro hh
      have := hh 0
      have h1 : 400 * (c % 16) + 0 % 16 ≤ r ∧ r < 400 * (c % 16) + 0 % 16 + 400 := this
      omega
  · unfold el
    rw [dif_neg hr, dif_neg hr, if_neg (by omega)]

/-- A value through a scale, a shift and the clip. -/
def nv (a : Row Ideal × Row Ideal) (z : EReal) (o : Fin 512) : EReal := clip (z * (a.1 (iy2 0 o) : EReal) + (a.2 (iy2 0 o) : EReal))

theorem normed_el (a : Row Ideal × Row Ideal) (y : Chunk Ideal) (t : Fin 400) (o : Fin 512) :
    normed a y (iy2 t o) = nv a (y (iy2 t o)) o := by
  unfold nv clip iy2
  pointwise [normed]

theorem normF_el (a : Row Ideal × Row Ideal) (c : ℕ) (X : Buf512 Ideal) (r : ℕ) (o : Fin 512) :
    el (normF a c X) r o = if r / 400 = c % 16 then nv a (el X r o) o else el X r o := by
  unfold normF
  rw [wr_el]
  by_cases h : r / 400 = c % 16
  · rw [if_pos h, if_pos h, normed_el, rd_el]
    congr 2
    show 400 * (c % 16) + 0 % 16 + r % 400 = r
    omega
  · rw [if_neg h, if_neg h]

/-! ## A later stage -/

structure Inv (a : Row Ideal × Row Ideal) (T : ℕ) (D : ℕ → ℕ → Fin 512 → EReal) (I : Buf512 Ideal) (k : ℕ)
    (q : (Buf512 Ideal × Buf512 Ideal) × (Row Ideal × Row Ideal)) : Prop where
  inp : ∀ r < 6400, ∀ o, el q.1.1 r o = if r / 400 ≤ k + 2 then nv a (el I r o) o else el I r o
  out : ∀ c ≤ k, ∀ t < T, ∀ o, el q.1.2 (400 * c + t) o = D c t o
  s1 : ∀ o, (q.2.1 (iy2 0 o) : EReal) = ∑ c ∈ Finset.range (k + 1), ∑ t : Fin T, D c t.val o
  s2 : ∀ o, (q.2.2 (iy2 0 o) : EReal) = ∑ c ∈ Finset.range (k + 1), ∑ t : Fin T, D c t.val o * D c t.val o

section Stage
variable (a : Row Ideal × Row Ideal) (T : ℕ) (hT : T ≤ 400) (D : ℕ → ℕ → Fin 512 → EReal) (I : Buf512 Ideal)
  (dot : ℕ → Buf512 Ideal → Chunk Ideal) (st : Chunk Ideal → Row Ideal × Row Ideal)
  (hdot : ∀ c < 16, ∀ X : Buf512 Ideal, (∀ r, r / 400 = c → ∀ o, el X r o = nv a (el I r o) o) →
    ∀ (t : Fin 400), t.val < T → ∀ o, (dot c X (iy2 t o) : EReal) = D c t.val o)
  (hst : ∀ (v : Chunk Ideal) (f : ℕ → Fin 512 → EReal), (∀ (t : Fin 400), t.val < T → ∀ o, (v (iy2 t o) : EReal) = f t.val o) →
    ∀ o, ((st v).1 (iy2 0 o) : EReal) = ∑ t : Fin T, f t.val o ∧ ((st v).2 (iy2 0 o) : EReal) = ∑ t : Fin T, f t.val o * f t.val o)

theorem cast_el (v : Chunk Ideal) (t : Fin 400) (o : Fin 512) : shapeCast S400x512 v castsC (iy2 t o) = v (iy2 t o) := by
  unfold iy2
  pointwise

include hT hdot hst in
theorem step_first (O : Buf512 Ideal) :
    Inv a T D I 0 (stepF (normOptF a) dot st (0, some 2) (normF a 1 (normF a 0 I), O)) := by
  have hin : ∀ r < 6400, ∀ o, el (normF a 2 (normF a 1 (normF a 0 I))) r o = if r / 400 ≤ 0 + 2 then nv a (el I r o) o else el I r o := by
    intro r hr o
    rw [normF_el, normF_el, normF_el]
    by_cases h0 : r / 400 = 0
    · rw [if_neg (by omega), if_neg (by omega), if_pos (by omega), if_pos (by omega)]
    by_cases h1 : r / 400 = 1
    · rw [if_neg (by omega), if_pos (by omega), if_neg (by omega), if_pos (by omega)]
    by_cases h2 : r / 400 = 2
    · rw [if_pos (by omega), if_neg (by omega), if_neg (by omega), if_pos (by omega)]
    rw [if_neg (by omega), if_neg (by omega), if_neg (by omega), if_neg (by omega)]
  have hd := hdot 0 (by decide) (normF a 2 (normF a 1 (normF a 0 I))) fun r hr o => by
    rw [hin r (by omega) o, if_pos (by omega)]
  refine ⟨hin, ?_, ?_, ?_⟩
  · intro c hc t ht o
    obtain rfl : c = 0 := by omega
    show el (wr O 0 _) _ o = _
    rw [wr_el, if_pos (by omega), cast_el]
    have h := hd ⟨(400 * 0 + t) % 400, Nat.mod_lt _ (by decide)⟩ (by show (400 * 0 + t) % 400 < T; omega) o
    refine h.trans ?_
    congr 1
    show (400 * 0 + t) % 400 = t
    omega
  · intro o
    rw [Finset.sum_range_one]
    exact (hst _ (D 0) hd o).1
  · intro o
    rw [Finset.sum_range_one]
    exact (hst _ (D 0) hd o).2

include hT hdot hst in
theorem step_next (k : ℕ) (hk : k + 1 < 16) (p : Option ℕ) (hp : p = if k + 3 < 16 then some (k + 3) else none)
    (q : (Buf512 Ideal × Buf512 Ideal) × (Row Ideal × Row Ideal)) (h : Inv a T D I k q) :
    Inv a T D I (k + 1) ((stepF (normOptF a) dot st (k + 1, p) q.1).1,
      (addf q.2.1 (stepF (normOptF a) dot st (k + 1, p) q.1).2.1, addf q.2.2 (stepF (normOptF a) dot st (k + 1, p) q.1).2.2)) := by
  have hin : ∀ r < 6400, ∀ o, el (normOptF a p q.1.1) r o = if r / 400 ≤ k + 1 + 2 then nv a (el I r o) o else el I r o := by
    intro r hr o
    by_cases h3 : k + 3 < 16
    · rw [hp, if_pos h3]
      show el (normF a (k + 3) q.1.1) r o = _
      rw [normF_el, h.inp r hr o]
      by_cases h4 : r / 400 = k + 3
      · rw [if_pos (by omega), if_neg (by omega), if_pos (by omega)]
      · rw [if_neg (by omega)]
        by_cases h5 : r / 400 ≤ k + 2
        · rw [if_pos h5, if_pos (by omega)]
        · rw [if_neg h5, if_neg (by omega)]
    · rw [hp, if_neg h3]
      show el q.1.1 r o = _
      rw [h.inp r hr o, if_pos (by omega), if_pos (by omega)]
  have hd := hdot (k + 1) hk (normOptF a p q.1.1) fun r hr o => by
    rw [hin r (by omega) o, if_pos (by omega)]
  refine ⟨hin, ?_, ?_, ?_⟩
  · intro c hc t ht o
    show el (wr q.1.2 (k + 1) _) _ o = _
    rw [wr_el]
    by_cases h5 : c = k + 1
    · subst h5
      rw [if_pos (by omega), cast_el]
      have h := hd ⟨(400 * (k + 1) + t) % 400, Nat.mod_lt _ (by decide)⟩ (by show (400 * (k + 1) + t) % 400 < T; omega) o
      refine h.trans ?_
      congr 1
      show (400 * (k + 1) + t) % 400 = t
      omega
    · rw [if_neg (by omega)]
      exact h.out c (by omega) t ht o
  · intro o
    rw [Finset.sum_range_succ, ← h.s1 o, ← (hst _ (D (k + 1)) hd o).1]
    rfl
  · intro o
    rw [Finset.sum_range_succ, ← h.s2 o, ← (hst _ (D (k + 1)) hd o).2]
    rfl

include hT hdot hst in
/-- A whole stage. -/
theorem stage2_inv (O : Buf512 Ideal) : Inv a T D I 15 (stage2F a dot st I O) := by
  have h0 := step_first a T hT D I dot st hdot hst O
  have h1 := step_next a T hT D I dot st hdot hst 0 (by decide) (some 3) (by decide) _ h0
  have h2 := step_next a T hT D I dot st hdot hst 1 (by decide) (some 4) (by decide) _ h1
  have h3 := step_next a T hT D I dot st hdot hst 2 (by decide) (some 5) (by decide) _ h2
  have h4 := step_next a T hT D I dot st hdot hst 3 (by decide) (some 6) (by decide) _ h3
  have h5 := step_next a T hT D I dot st hdot hst 4 (by decide) (some 7) (by decide) _ h4
  have h6 := step_next a T hT D I dot st hdot hst 5 (by decide) (some 8) (by decide) _ h5
  have h7 := step_next a T hT D I dot st hdot hst 6 (by decide) (some 9) (by decide) _ h6
  have h8 := step_next a T hT D I dot st hdot hst 7 (by decide) (some 10) (by decide) _ h7
  have h9 := step_next a T hT D I dot st hdot hst 8 (by decide) (some 11) (by decide) _ h8
  have h10 := step_next a T hT D I dot st hdot hst 9 (by decide) (some 12) (by decide) _ h9
  have h11 := step_next a T hT D I dot st hdot hst 10 (by decide) (some 13) (by decide) _ h10
  have h12 := step_next a T hT D I dot st hdot hst 11 (by decide) (some 14) (by decide) _ h11
  have h13 := step_next a T hT D I dot st hdot hst 12 (by decide) (some 15) (by decide) _ h12
  have h14 := step_next a T hT D I dot st hdot hst 13 (by decide) none (by decide) _ h13
  have h15 := step_next a T hT D I dot st hdot hst 14 (by decide) none (by decide) _ h14
  exact h15

end Stage

end Mega

end
-- ==== Proof.Spec.lean ====
/-
  The network as plain functions: three convolutions and two dense layers over time, each batch normalised and clipped,
  the product of the last two over time, and the bottleneck with the embedding.
-/
module

public import proofs.«01_k».proof.Proof.Norm

@[expose] public section

noncomputable section

namespace Spec

open Idealize.ShloMosaic Bn
open scoped BigOperators

/-- The arguments. -/
structure Args where
  x : Fin 16 → Fin 400 → Fin 40 → EReal
  w1 : Fin 512 → Fin 40 → Fin 5 → EReal
  w2 : Fin 512 → Fin 512 → Fin 3 → EReal
  w3 : Fin 512 → Fin 512 → Fin 3 → EReal
  w4 : Fin 512 → Fin 512 → EReal
  w5 : Fin 512 → Fin 512 → EReal
  b : Fin 6 → Fin 512 → EReal
  g : Fin 6 → Fin 512 → EReal
  t : Fin 6 → Fin 512 → EReal
  wb : Fin 512 → Fin 262144 → EReal
  we : Fin 512 → Fin 512 → EReal
  be : Fin 512 → EReal

abbrev Act (T : ℕ) := Fin 16 → Fin 512 → Fin T → EReal

def nan : EReal := Ideal.ofBits .f32 0x7FC00000#32

/-- Normalised over batch and time, and clipped. -/
def act (w : BitVec 32) (g t : Fin 512 → EReal) {T : ℕ} (Y : Act T) : Act T := fun b o s =>
  bnR (Ideal.ofBits .f32 w) nan (g o) (t o) (fun b s => Y b o s) (Y b o s)

def conv5 (w : Fin 512 → Fin 40 → Fin 5 → EReal) (v : Fin 512 → EReal) (x : Fin 16 → Fin 400 → Fin 40 → EReal) : Act 396 := fun b o t =>
  ∑ i, w o i 0 * x b ⟨0 + t.val, by omega⟩ i + ∑ i, w o i 1 * x b ⟨1 + t.val, by omega⟩ i + ∑ i, w o i 2 * x b ⟨2 + t.val, by omega⟩ i
    + ∑ i, w o i 3 * x b ⟨3 + t.val, by omega⟩ i + ∑ i, w o i 4 * x b ⟨4 + t.val, by omega⟩ i + v o

def conv3 (d : ℕ) {T T' : ℕ} (h : 2 * d + T' ≤ T) (w : Fin 512 → Fin 512 → Fin 3 → EReal) (v : Fin 512 → EReal) (X : Act T) : Act T' := fun b o t =>
  ∑ i, w o i 0 * X b i ⟨0 + t.val, by omega⟩ + ∑ i, w o i 1 * X b i ⟨d + t.val, by omega⟩ + ∑ i, w o i 2 * X b i ⟨2 * d + t.val, by omega⟩ + v o

def lin {T : ℕ} (w : Fin 512 → Fin 512 → EReal) (v : Fin 512 → EReal) (X : Act T) : Act T := fun b o t => ∑ i, w o i * X b i t + v o

variable (a : Args)

def Y1 : Act 396 := conv5 a.w1 (a.b 0) a.x
def X1 : Act 396 := act 0x45C60000#32 (a.g 0) (a.t 0) (Y1 a)
def Y2 : Act 392 := conv3 2 (by omega) a.w2 (a.b 1) (X1 a)
def X2 : Act 392 := act 0x45C40000#32 (a.g 1) (a.t 1) (Y2 a)
def Y3 : Act 384 := conv3 4 (by omega) a.w3 (a.b 2) (X2 a)
def X3 : Act 384 := act 0x45C00000#32 (a.g 2) (a.t 2) (Y3 a)
def Y4 : Act 384 := lin a.w4 (a.b 3) (X3 a)
def X4 : Act 384 := act 0x45C00000#32 (a.g 3) (a.t 3) (Y4 a)
def Y5 : Act 384 := lin a.w5 (a.b 4) (X4 a)
def X5 : Act 384 := act 0x45C00000#32 (a.g 4) (a.t 4) (Y5 a)

/-- The products over time, one matrix per batch member. -/
def M (b : Fin 16) (p q : Fin 512) : EReal := ∑ t : Fin 384, X4 a b p t * X5 a b q t

/-- The bottleneck, its normalization over the batch, and the embedding. -/
def Hb (b : Fin 16) (o : Fin 512) : EReal :=
  ∑ k : Fin 262144, M a b ⟨k.val / 512, by omega⟩ ⟨k.val % 512, by omega⟩ * a.wb o k + a.b 5 o
def Zb (b : Fin 16) (o : Fin 512) : EReal :=
  bnR (Ideal.ofBits .f32 0x41800000#32) nan (a.g 5 o) (a.t 5 o) (fun (b : Fin 16) (_ : Fin 1) => Hb a b o) (Hb a b o)
def Em (b : Fin 16) (o : Fin 512) : EReal := ∑ i, Zb a b i * a.we o i + a.be o

/-- The embedding scaled to length ten. -/
def res (b : Fin 16) (o : Fin 512) : EReal :=
  Ideal.div (Em a b o) (Ideal.sqrt (∑ i, Em a b i * Em a b i + Ideal.ofBits .f32 0x2EDBE6FF#32)) * Ideal.ofBits .f32 0x41200000#32

end Spec

end
-- ==== Proof.KVal.lean ====
/-
  The first kernel's value over the extended reals: what it leaves in its result is the network's products over time.
-/
module

public import proofs.«01_k».proof.Proof.KStage
public import proofs.«01_k».proof.Proof.MegaAll
public import proofs.«01_k».proof.Proof.Spec

@[expose] public section

set_option maxRecDepth 16384

noncomputable section

namespace Mega

open Idealize.ShloMosaic Bn
open scoped BigOperators

/-! ## The pieces at an index -/

theorem stats384_el (v : Chunk Ideal) (f : ℕ → Fin 512 → EReal) (h : ∀ (t : Fin 400), t.val < 384 → ∀ o, (v (iy2 t o) : EReal) = f t.val o) (o : Fin 512) :
    ((stats384 v).1 (iy2 0 o) : EReal) = ∑ t : Fin 384, f t.val o ∧ ((stats384 v).2 (iy2 0 o) : EReal) = ∑ t : Fin 384, f t.val o * f t.val o := by
  have h' : ∀ (t : Fin 384), (v (Idealize.ShloMosaic.ix2 ⟨t.val, by omega⟩ o) : EReal) = f t.val o := fun t => h ⟨t.val, by omega⟩ t.isLt o
  unfold iy2
  constructor
  · pointwise [stats384]
    simp only [h']
  · pointwise [stats384]
    simp only [h']

theorem stats392_el (v : Chunk Ideal) (f : ℕ → Fin 512 → EReal) (h : ∀ (t : Fin 400), t.val < 392 → ∀ o, (v (iy2 t o) : EReal) = f t.val o) (o : Fin 512) :
    ((stats392 v).1 (iy2 0 o) : EReal) = ∑ t : Fin 392, f t.val o ∧ ((stats392 v).2 (iy2 0 o) : EReal) = ∑ t : Fin 392, f t.val o * f t.val o := by
  have h' : ∀ (t : Fin 392), (v (Idealize.ShloMosaic.ix2 ⟨t.val, by omega⟩ o) : EReal) = f t.val o := fun t => h ⟨t.val, by omega⟩ t.isLt o
  unfold iy2
  constructor
  · pointwise [stats392]
    simp only [h']
  · pointwise [stats392]
    simp only [h']

theorem sums396_el (v : FVec Ideal S396x512 .f32) (f : ℕ → Fin 512 → EReal) (h : ∀ (t : Fin 396) o, (v (iy2 t o) : EReal) = f t.val o) (o : Fin 512) :
    ((sums396 v).1 (iy2 0 o) : EReal) = ∑ t : Fin 396, f t.val o ∧ ((sums396 v).2 (iy2 0 o) : EReal) = ∑ t : Fin 396, f t.val o * f t.val o := by
  have h' : ∀ (t : Fin 396), (v (Idealize.ShloMosaic.ix2 t o) : EReal) = f t.val o := fun t => h t o
  unfold iy2
  constructor
  · pointwise [sums396]
    simp only [h']
  · pointwise [sums396]
    simp only [h']

theorem stats396_el (v : Chunk Ideal) (f : ℕ → Fin 512 → EReal) (h : ∀ (t : Fin 400), t.val < 396 → ∀ o, (v (iy2 t o) : EReal) = f t.val o) (o : Fin 512) :
    ((stats396 v).1 (iy2 0 o) : EReal) = ∑ t : Fin 396, f t.val o ∧ ((stats396 v).2 (iy2 0 o) : EReal) = ∑ t : Fin 396, f t.val o * f t.val o := by
  refine sums396_el _ f (fun t o => ?_) o
  have h' := h ⟨t.val, by omega⟩ t.isLt o
  unfold iy2 at h' ⊢
  pointwise
  exact h'

theorem rdRow_el (b : S1x512.Idx → Elt Ideal .f32) (o : Fin 512) : rdRow (F := Ideal) b (iy2 0 o) = b (iy2 0 o) := by
  unfold rdRow VecWindow.window
  congr 1
  funext a
  apply Fin.ext
  match a with
  | ⟨0, _⟩ => rfl
  | ⟨1, _⟩ => exact (Nat.zero_add _).trans (Nat.one_mul o.val)
theorem rdSq_el (w : S512x512.Idx → Elt Ideal .f32) (p o : Fin 512) : rdSq (F := Ideal) w (iy2 p o) = w (iy2 p o) := by
  unfold rdSq VecWindow.window
  congr 1
  funext a
  apply Fin.ext
  match a with
  | ⟨0, _⟩ => exact (Nat.zero_add _).trans (Nat.one_mul p.val)
  | ⟨1, _⟩ => exact (Nat.zero_add _).trans (Nat.one_mul o.val)
theorem rdW3_el (w : S3x512x512.Idx → Elt Ideal .f32) (k : Fin 3) (p o : Fin 512) : rdW3 (F := Ideal) w k.val (iy3 0 p o) = w (iy3 k p o) := by
  unfold rdW3 VecWindow.window
  congr 1
  funext a
  apply Fin.ext
  match a with
  | ⟨0, _⟩ => show k.val % 3 + 1 * 0 = k.val; omega
  | ⟨1, _⟩ => exact (Nat.zero_add _).trans (Nat.one_mul p.val)
  | ⟨2, _⟩ => exact (Nat.zero_add _).trans (Nat.one_mul o.val)
theorem rdW1_el (w : S5x40x512.Idx → Elt Ideal .f32) (k : Fin 5) (p : Fin 40) (o : Fin 512) : rdW1 (F := Ideal) w k.val (iy3 0 p o) = w (iy3 k p o) := by
  unfold rdW1 VecWindow.window
  congr 1
  funext a
  apply Fin.ext
  match a with
  | ⟨0, _⟩ => show k.val % 5 + 1 * 0 = k.val; omega
  | ⟨1, _⟩ => exact (Nat.zero_add _).trans (Nat.one_mul p.val)
  | ⟨2, _⟩ => exact (Nat.zero_add _).trans (Nat.one_mul o.val)
theorem rdX_el (x : S6400x40.Idx → Elt Ideal .f32) (c k : ℕ) (t : Fin 400) (i : Fin 40) :
    rdX (F := Ideal) x c k (iy2 t i) = x (iy2 ⟨400 * (c % 15) + k % 5 + t.val, by omega⟩ i) := by
  unfold rdX VecWindow.window
  congr 1
  funext a
  apply Fin.ext
  match a with
  | ⟨0, _⟩ => exact congrArg (400 * (c % 15) + k % 5 + ·) (Nat.one_mul t.val)
  | ⟨1, _⟩ => exact (Nat.zero_add _).trans (Nat.one_mul i.val)
theorem rdX396_el (x : S6400x40.Idx → Elt Ideal .f32) (k : ℕ) (t : Fin 396) (i : Fin 40) :
    rdX396 (F := Ideal) x k (iy2 t i) = x (iy2 ⟨6000 + k % 5 + t.val, by omega⟩ i) := by
  unfold rdX396 VecWindow.window
  congr 1
  funext a
  apply Fin.ext
  match a with
  | ⟨0, _⟩ => exact congrArg (6000 + k % 5 + ·) (Nat.one_mul t.val)
  | ⟨1, _⟩ => exact (Nat.zero_add _).trans (Nat.one_mul i.val)

theorem convCF_el (d : ℕ) (w : S3x512x512.Idx → Elt Ideal .f32) (b : S1x512.Idx → Elt Ideal .f32) (c : ℕ) (X : Buf512 Ideal) (t : Fin 400) (o : Fin 512) :
    (convCF d w b c X (iy2 t o) : EReal) = ∑ i : Fin 512, rd X c 0 (iy2 t i) * rdW3 w 0 (iy3 0 i o) + ∑ i : Fin 512, rd X c d (iy2 t i) * rdW3 w 1 (iy3 0 i o)
      + ∑ i : Fin 512, rd X c (2 * d) (iy2 t i) * rdW3 w 2 (iy3 0 i o) + rdRow b (iy2 0 o) := by
  unfold iy2 iy3
  pointwise [convCF, addRow, tapC]

theorem linCF_el (w : S512x512.Idx → Elt Ideal .f32) (b : S1x512.Idx → Elt Ideal .f32) (c : ℕ) (X : Buf512 Ideal) (t : Fin 400) (o : Fin 512) :
    (linCF w b c X (iy2 t o) : EReal) = ∑ i : Fin 512, rd X c 0 (iy2 t i) * rdSq w (iy2 o i) + rdRow b (iy2 0 o) := by
  unfold iy2
  pointwise [linCF, addRow, mulL]

theorem convXF_el (x : S6400x40.Idx → Elt Ideal .f32) (w : S5x40x512.Idx → Elt Ideal .f32) (b : S1x512.Idx → Elt Ideal .f32) (c : ℕ) (t : Fin 400) (o : Fin 512) :
    (convXF x w b c (iy2 t o) : EReal) = ∑ i : Fin 40, rdX x c 0 (iy2 t i) * rdW1 w 0 (iy3 0 i o) + ∑ i : Fin 40, rdX x c 1 (iy2 t i) * rdW1 w 1 (iy3 0 i o)
      + ∑ i : Fin 40, rdX x c 2 (iy2 t i) * rdW1 w 2 (iy3 0 i o) + ∑ i : Fin 40, rdX x c 3 (iy2 t i) * rdW1 w 3 (iy3 0 i o)
      + ∑ i : Fin 40, rdX x c 4 (iy2 t i) * rdW1 w 4 (iy3 0 i o) + rdRow b (iy2 0 o) := by
  unfold iy2 iy3
  pointwise [convXF, addRow, tapX]

theorem convX396F_el (x : S6400x40.Idx → Elt Ideal .f32) (w : S5x40x512.Idx → Elt Ideal .f32) (b : S1x512.Idx → Elt Ideal .f32) (t : Fin 396) (o : Fin 512) :
    (convX396F x w b (iy2 t o) : EReal) = ∑ i : Fin 40, rdX396 x 0 (iy2 t i) * rdW1 w 0 (iy3 0 i o) + ∑ i : Fin 40, rdX396 x 1 (iy2 t i) * rdW1 w 1 (iy3 0 i o)
      + ∑ i : Fin 40, rdX396 x 2 (iy2 t i) * rdW1 w 2 (iy3 0 i o) + ∑ i : Fin 40, rdX396 x 3 (iy2 t i) * rdW1 w 3 (iy3 0 i o)
      + ∑ i : Fin 40, rdX396 x 4 (iy2 t i) * rdW1 w 4 (iy3 0 i o) + rdRow b (iy2 0 o) := by
  unfold iy2 iy3
  pointwise [convX396F, addRow396, tapX396]

theorem gram_el (b a : Vec Ideal S384x512 .f32) (p q : Fin 512) :
    (gram b a (iy2 p q) : EReal) = ∑ t : Fin 384, b (iy2 t p) * a (iy2 t q) := by
  unfold iy2
  pointwise [gram]

theorem affF_el1 (k : Ideal .f32) (g t : S1x512.Idx → Elt Ideal .f32) (s : Row Ideal × Row Ideal) (o : Fin 512) :
    ((affF k g t s).1 (iy2 0 o) : EReal) = sc k (s.1 (iy2 0 o)) (s.2 (iy2 0 o)) (g (iy2 0 o)) := by
  have := rdRow_el g o
  unfold iy2 at this ⊢
  pointwise [affF, affScale]
  rw [this]
  rfl
theorem affF_el2 (k : Ideal .f32) (g t : S1x512.Idx → Elt Ideal .f32) (s : Row Ideal × Row Ideal) (o : Fin 512) :
    ((affF k g t s).2 (iy2 0 o) : EReal) = sh k (s.1 (iy2 0 o)) (s.2 (iy2 0 o)) (g (iy2 0 o)) (t (iy2 0 o)) := by
  have h1 := rdRow_el g o
  have h2 := rdRow_el t o
  unfold iy2 at h1 h2 ⊢
  pointwise [affF, affShift, affScale]
  rw [h1, h2]
  rfl

end Mega

end
-- ==== Proof.KNet.lean ====
/-
  The chain of the five stages: after each the rows that count hold the network's values, and the sums are theirs.
-/
module

public import proofs.«01_k».proof.Proof.KVal

@[expose] public section

set_option maxRecDepth 16384

noncomputable section

namespace Mega

open Idealize.ShloMosaic Bn
open scoped BigOperators

/-- The network's values as a function of numbers. -/
def ext {T : ℕ} (Y : Spec.Act T) (c t : ℕ) (o : Fin 512) : EReal := if h : c < 16 ∧ t < T then Y ⟨c, h.1⟩ o ⟨t, h.2⟩ else 0

theorem ext_of {T : ℕ} (Y : Spec.Act T) (c : Fin 16) (t : Fin T) (o : Fin 512) : ext Y c.val t.val o = Y c o t := dif_pos ⟨c.isLt, t.isLt⟩

/-- A buffer holds a stage's values and the two rows their sums. -/
structure Good {T : ℕ} (Y : Spec.Act T) (X : Buf512 Ideal) (s : Row Ideal × Row Ideal) : Prop where
  val : ∀ (c : Fin 16) (t : Fin T) (o : Fin 512), el X (400 * c.val + t.val) o = Y c o t
  s1 : ∀ o, (s.1 (iy2 0 o) : EReal) = ∑ c : Fin 16, ∑ t : Fin T, Y c o t
  s2 : ∀ o, (s.2 (iy2 0 o) : EReal) = ∑ c : Fin 16, ∑ t : Fin T, Y c o t * Y c o t

theorem Inv.good {a : Row Ideal × Row Ideal} {T : ℕ} {Y : Spec.Act T} {I : Buf512 Ideal} {q : (Buf512 Ideal × Buf512 Ideal) × (Row Ideal × Row Ideal)}
    (h : Inv a T (ext Y) I 15 q) : Good Y q.1.2 q.2 where
  val c t o := by rw [h.out c.val (by omega) t.val t.isLt o, ext_of]
  s1 o := by
    rw [h.s1 o, Finset.sum_range]
    exact Finset.sum_congr rfl fun c _ => Finset.sum_congr rfl fun t _ => ext_of Y c t o
  s2 o := by
    rw [h.s2 o, Finset.sum_range]
    exact Finset.sum_congr rfl fun c _ => Finset.sum_congr rfl fun t _ => by rw [show ext Y ((c : Fin 16) : ℕ) t.val o = Y c o t from ext_of Y c t o]

/-- A row as a plain function. -/
def rowOf (b : S1x512.Idx → Elt Ideal .f32) (o : Fin 512) : EReal := b (iy2 0 o)

/-- The normalization of a good buffer. -/
theorem Good.norm {T : ℕ} {Y : Spec.Act T} {X : Buf512 Ideal} {s : Row Ideal × Row Ideal} (h : Good Y X s) {w : BitVec 32} {n : ℝ} {k : Ideal .f32}
    (hw : Ideal.ofBits .f32 w = (n : EReal)) (hn : n = 16 * (T : ℝ)) (h0 : 0 < n) (hk : k = ((1 / n : ℝ) : EReal)) {g t : S1x512.Idx → Elt Ideal .f32}
    (hg : ∀ o, Re (rowOf g o)) (hY : ∀ c o s, Re (Y c o s)) (c : Fin 16) (j : Fin T) (o : Fin 512) :
    nv (affF k g t s) (el X (400 * c.val + j.val) o) o = Spec.act w (rowOf g) (rowOf t) Y c o j := by
  unfold nv
  rw [affF_el1, affF_el2, h.val, h.s1, h.s2, hk]
  exact bn_eq (ι := Fin 16) (κ := Fin T) n hw (by simpa using hn) h0 Spec.nan (t (iy2 0 o)) (hg o) (fun i j => hY i o j) (hY c o j)

theorem re_act {T : ℕ} (w : BitVec 32) (g t : Fin 512 → EReal) (Y : Spec.Act T) (c : Fin 16) (o : Fin 512) (j : Fin T) : Re (Spec.act w g t Y c o j) := re_clip _

def k3Of (w : S3x512x512.Idx → Elt Ideal .f32) (o i : Fin 512) (k : Fin 3) : EReal := w (iy3 k i o)
def k5Of (w : S5x40x512.Idx → Elt Ideal .f32) (o : Fin 512) (i : Fin 40) (k : Fin 5) : EReal := w (iy3 k i o)
def sqOf (w : S512x512.Idx → Elt Ideal .f32) (o i : Fin 512) : EReal := w (iy2 o i)
def xOf (x : S6400x40.Idx → Elt Ideal .f32) (b : Fin 16) (t : Fin 400) (i : Fin 40) : EReal := x (iy2 ⟨400 * b.val + t.val, by omega⟩ i)

theorem re_conv3 {d T T' : ℕ} (h : 2 * d + T' ≤ T) {w : Fin 512 → Fin 512 → Fin 3 → EReal} {v : Fin 512 → EReal} {X : Spec.Act T}
    (hw : ∀ o i k, Re (w o i k)) (hv : ∀ o, Re (v o)) (hX : ∀ b o t, Re (X b o t)) (b : Fin 16) (o : Fin 512) (t : Fin T') : Re (Spec.conv3 d h w v X b o t) :=
  (((Re.sum _ fun i => (hw _ _ _).mul (hX _ _ _)).add (Re.sum _ fun i => (hw _ _ _).mul (hX _ _ _))).add (Re.sum _ fun i => (hw _ _ _).mul (hX _ _ _))).add (hv o)
theorem re_lin {T : ℕ} {w : Fin 512 → Fin 512 → EReal} {v : Fin 512 → EReal} {X : Spec.Act T}
    (hw : ∀ o i, Re (w o i)) (hv : ∀ o, Re (v o)) (hX : ∀ b o t, Re (X b o t)) (b : Fin 16) (o : Fin 512) (t : Fin T) : Re (Spec.lin w v X b o t) :=
  (Re.sum _ fun i => (hw _ _).mul (hX _ _ _)).add (hv o)
theorem re_conv5 {w : Fin 512 → Fin 40 → Fin 5 → EReal} {v : Fin 512 → EReal} {x : Fin 16 → Fin 400 → Fin 40 → EReal}
    (hw : ∀ o i k, Re (w o i k)) (hv : ∀ o, Re (v o)) (hX : ∀ b o t, Re (x b o t)) (b : Fin 16) (o : Fin 512) (t : Fin 396) : Re (Spec.conv5 w v x b o t) :=
  (((((Re.sum _ fun i => (hw _ _ _).mul (hX _ _ _)).add (Re.sum _ fun i => (hw _ _ _).mul (hX _ _ _))).add (Re.sum _ fun i => (hw _ _ _).mul (hX _ _ _))).add
    (Re.sum _ fun i => (hw _ _ _).mul (hX _ _ _))).add (Re.sum _ fun i => (hw _ _ _).mul (hX _ _ _))).add (hv o)

section
variable {T : ℕ} {Y : Spec.Act T} {I : Buf512 Ideal} {s : Row Ideal × Row Ideal} (h : Good Y I s) {w : BitVec 32} {n : ℝ} {k : Ideal .f32}
    (hw : Ideal.ofBits .f32 w = (n : EReal)) (hn : n = 16 * (T : ℝ)) (h0 : 0 < n) (hk : k = ((1 / n : ℝ) : EReal)) {g t : S1x512.Idx → Elt Ideal .f32}
    (hg : ∀ o, Re (rowOf g o)) (hY : ∀ c o s, Re (Y c o s)) (hT : T ≤ 400)

include h hw hn h0 hk hg hY in
/-- The convolution of a normalised chunk. -/
theorem conv_dot (d : ℕ) (hd : 2 * d < 16) {T' : ℕ} (hT' : 2 * d + T' ≤ T) (W : S3x512x512.Idx → Elt Ideal .f32) (b : S1x512.Idx → Elt Ideal .f32)
    (c : ℕ) (hc : c < 16) (X : Buf512 Ideal) (hX : ∀ r, r / 400 = c → ∀ o, el X r o = nv (affF k g t s) (el I r o) o)
    (j : Fin 400) (hj : j.val < T') (o : Fin 512) (hT : T ≤ 400) :
    (convCF d W b c X (iy2 j o) : EReal) = ext (Spec.conv3 d hT' (k3Of W) (rowOf b) (Spec.act w (rowOf g) (rowOf t) Y)) c j.val o := by
  rw [convCF_el, rdRow_el]
  have key : ∀ (e : ℕ) (he : e < 16) (h1 : e + j.val < T) (i : Fin 512), rd X c e (iy2 j i) = Spec.act w (rowOf g) (rowOf t) Y ⟨c, hc⟩ i ⟨e + j.val, h1⟩ := by
    intro e he h1 i
    rw [rd_el, hX _ (by omega) i, show 400 * (c % 16) + e % 16 + j.val = 400 * c + (e + j.val) by omega]
    exact h.norm hw hn h0 hk hg hY ⟨c, hc⟩ ⟨e + j.val, h1⟩ i
  unfold ext
  rw [dif_pos ⟨hc, hj⟩]
  unfold Spec.conv3
  simp only [key 0 (by omega) (by omega), key d (by omega) (by omega), key (2 * d) (by omega) (by omega)]
  have e0 : ∀ i, rdW3 W 0 (iy3 0 i o) = W (iy3 0 i o) := fun i => rdW3_el W 0 i o
  have e1 : ∀ i, rdW3 W 1 (iy3 0 i o) = W (iy3 1 i o) := fun i => rdW3_el W 1 i o
  have e2 : ∀ i, rdW3 W 2 (iy3 0 i o) = W (iy3 2 i o) := fun i => rdW3_el W 2 i o
  simp only [e0, e1, e2]
  refine congrArg₂ (· + ·) (congrArg₂ (· + ·) (congrArg₂ (· + ·) ?_ ?_) ?_) rfl
  all_goals exact Finset.sum_congr rfl fun i _ => mul_comm _ _

include h hw hn h0 hk hg hY in
theorem lin_dot (W : S512x512.Idx → Elt Ideal .f32) (b : S1x512.Idx → Elt Ideal .f32)
    (c : ℕ) (hc : c < 16) (X : Buf512 Ideal) (hX : ∀ r, r / 400 = c → ∀ o, el X r o = nv (affF k g t s) (el I r o) o)
    (j : Fin 400) (hj : j.val < T) (o : Fin 512) :
    (linCF W b c X (iy2 j o) : EReal) = ext (Spec.lin (sqOf W) (rowOf b) (Spec.act w (rowOf g) (rowOf t) Y)) c j.val o := by
  rw [linCF_el, rdRow_el]
  have key : ∀ (i : Fin 512), rd X c 0 (iy2 j i) = Spec.act w (rowOf g) (rowOf t) Y ⟨c, hc⟩ i ⟨j.val, hj⟩ := by
    intro i
    rw [rd_el, hX _ (by omega) i, show 400 * (c % 16) + 0 % 16 + j.val = 400 * c + j.val by omega]
    exact h.norm hw hn h0 hk hg hY ⟨c, hc⟩ ⟨j.val, hj⟩ i
  unfold ext
  rw [dif_pos ⟨hc, hj⟩]
  unfold Spec.lin
  simp only [key, rdSq_el]
  refine congrArg₂ (· + ·) ?_ rfl
  exact Finset.sum_congr rfl fun i _ => mul_comm _ _

end

/-! ## The first stage -/

structure Inv1 (D : ℕ → ℕ → Fin 512 → EReal) (k : ℕ) (q : (PUnit × Buf512 Ideal) × (Row Ideal × Row Ideal)) : Prop where
  out : ∀ c ≤ k, ∀ t < 396, ∀ o, el q.1.2 (400 * c + t) o = D c t o
  s1 : ∀ o, (q.2.1 (iy2 0 o) : EReal) = ∑ c ∈ Finset.range (k + 1), ∑ t : Fin 396, D c t.val o
  s2 : ∀ o, (q.2.2 (iy2 0 o) : EReal) = ∑ c ∈ Finset.range (k + 1), ∑ t : Fin 396, D c t.val o * D c t.val o

section Stage1
variable (D : ℕ → ℕ → Fin 512 → EReal) (dot : ℕ → PUnit → Chunk Ideal)
  (hdot : ∀ c < 15, ∀ u, ∀ (t : Fin 400), t.val < 396 → ∀ o, (dot c u (iy2 t o) : EReal) = D c t.val o)

include hdot in
theorem step1_first (O : Buf512 Ideal) : Inv1 D 0 (stepF (σ := PUnit) (fun _ u => u) dot stats396 (0, none) (⟨⟩, O)) := by
  have hd := hdot 0 (by decide) ⟨⟩
  refine ⟨?_, ?_, ?_⟩
  · intro c hc t ht o
    obtain rfl : c = 0 := by omega
    show el (wr O 0 _) _ o = _
    rw [wr_el, if_pos (by omega), cast_el]
    refine (hd ⟨(400 * 0 + t) % 400, Nat.mod_lt _ (by decide)⟩ (by show (400 * 0 + t) % 400 < 396; omega) o).trans ?_
    congr 1
    show (400 * 0 + t) % 400 = t
    omega
  · intro o
    rw [Finset.sum_range_one]
    exact (stats396_el _ (D 0) hd o).1
  · intro o
    rw [Finset.sum_range_one]
    exact (stats396_el _ (D 0) hd o).2

include hdot in
theorem step1_next (k : ℕ) (hk : k + 1 < 15) (q : (PUnit × Buf512 Ideal) × (Row Ideal × Row Ideal)) (h : Inv1 D k q) :
    Inv1 D (k + 1) ((stepF (σ := PUnit) (fun _ u => u) dot stats396 (k + 1, none) q.1).1,
      (addf q.2.1 (stepF (σ := PUnit) (fun _ u => u) dot stats396 (k + 1, none) q.1).2.1, addf q.2.2 (stepF (σ := PUnit) (fun _ u => u) dot stats396 (k + 1, none) q.1).2.2)) := by
  have hd := hdot (k + 1) hk q.1.1
  refine ⟨?_, ?_, ?_⟩
  · intro c hc t ht o
    show el (wr q.1.2 (k + 1) _) _ o = _
    rw [wr_el]
    by_cases h5 : c = k + 1
    · subst h5
      rw [if_pos (by omega), cast_el]
      refine (hd ⟨(400 * (k + 1) + t) % 400, Nat.mod_lt _ (by decide)⟩ (by show (400 * (k + 1) + t) % 400 < 396; omega) o).trans ?_
      congr 1
      show (400 * (k + 1) + t) % 400 = t
      omega
    · rw [if_neg (by omega)]
      exact h.out c (by omega) t ht o
  · intro o
    rw [Finset.sum_range_succ, ← h.s1 o, ← (stats396_el _ (D (k + 1)) hd o).1]
    rfl
  · intro o
    rw [Finset.sum_range_succ, ← h.s2 o, ← (stats396_el _ (D (k + 1)) hd o).2]
    rfl

include hdot in
theorem loop1_inv (O : Buf512 Ideal) :
    Inv1 D 14 (loopF (stepF (σ := PUnit) (fun _ u => u) dot stats396) chunks1 (stepF (σ := PUnit) (fun _ u => u) dot stats396 (0, none) (⟨⟩, O)).1
      (stepF (σ := PUnit) (fun _ u => u) dot stats396 (0, none) (⟨⟩, O)).2) := by
  have h0 := step1_first D dot hdot O
  have h1 := step1_next D dot hdot 0 (by decide) _ h0
  have h2 := step1_next D dot hdot 1 (by decide) _ h1
  have h3 := step1_next D dot hdot 2 (by decide) _ h2
  have h4 := step1_next D dot hdot 3 (by decide) _ h3
  have h5 := step1_next D dot hdot 4 (by decide) _ h4
  have h6 := step1_next D dot hdot 5 (by decide) _ h5
  have h7 := step1_next D dot hdot 6 (by decide) _ h6
  have h8 := step1_next D dot hdot 7 (by decide) _ h7
  have h9 := step1_next D dot hdot 8 (by decide) _ h8
  have h10 := step1_next D dot hdot 9 (by decide) _ h9
  have h11 := step1_next D dot hdot 10 (by decide) _ h10
  have h12 := step1_next D dot hdot 11 (by decide) _ h11
  have h13 := step1_next D dot hdot 12 (by decide) _ h12
  exact step1_next D dot hdot 13 (by decide) _ h13

end Stage1

theorem put396_el (X : Buf512 Ideal) (v : FVec Ideal S396x512 .f32) (r : ℕ) (o : Fin 512) :
    el (VecWindow.put X ![6000, 0] S396x512.size v) r o = if h : 6000 ≤ r ∧ r < 6396 then v (iy2 ⟨r - 6000, by omega⟩ o) else el X r o := by
  by_cases hr : r < 6416
  · rw [el_of _ hr, el_of _ hr]
    unfold VecWindow.put
    by_cases h : 6000 ≤ r ∧ r < 6396
    · rw [dif_pos h, dif_pos]
      · congr 1
        funext a
        apply Fin.ext
        match a with
        | ⟨0, _⟩ => rfl
        | ⟨1, _⟩ => rfl
      · intro a
        match a with
        | ⟨0, _⟩ =>
          show 6000 ≤ r ∧ r < 6000 + 396
          omega
        | ⟨1, _⟩ => exact ⟨Nat.zero_le _, by show o.val < 0 + 512; omega⟩
    · rw [dif_neg h, dif_neg]
      intro hh
      have h1 : 6000 ≤ r ∧ r < 6000 + 396 := hh 0
      omega
  · unfold el
    rw [dif_neg hr, dif_neg hr, dif_neg (by omega)]

theorem convX_eq (x : S6400x40.Idx → Elt Ideal .f32) (w : S5x40x512.Idx → Elt Ideal .f32) (b : S1x512.Idx → Elt Ideal .f32) (c : ℕ) (hc : c < 15)
    (t : Fin 400) (ht : t.val < 396) (o : Fin 512) :
    (convXF x w b c (iy2 t o) : EReal) = ext (Spec.conv5 (k5Of w) (rowOf b) (xOf x)) c t.val o := by
  rw [convXF_el, rdRow_el]
  have e : ∀ (k : Fin 5) i, rdW1 w k.val (iy3 0 i o) = w (iy3 k i o) := fun k i => rdW1_el w k i o
  have key : ∀ (k : Fin 5) (i : Fin 40), rdX x c k.val (iy2 t i) = xOf x ⟨c, by omega⟩ ⟨k.val + t.val, by omega⟩ i := by
    intro k i
    rw [rdX_el]
    unfold xOf
    congr 2
    apply Fin.ext
    show 400 * (c % 15) + k.val % 5 + t.val = 400 * c + (k.val + t.val)
    omega
  unfold ext
  rw [dif_pos ⟨by omega, ht⟩]
  unfold Spec.conv5
  refine congrArg₂ (· + ·) (congrArg₂ (· + ·) (congrArg₂ (· + ·) (congrArg₂ (· + ·) (congrArg₂ (· + ·) ?_ ?_) ?_) ?_) ?_) rfl
  · exact Finset.sum_congr rfl fun i _ => (congrArg₂ (· * ·) (key 0 i) (e 0 i)).trans (mul_comm _ _)
  · exact Finset.sum_congr rfl fun i _ => (congrArg₂ (· * ·) (key 1 i) (e 1 i)).trans (mul_comm _ _)
  · exact Finset.sum_congr rfl fun i _ => (congrArg₂ (· * ·) (key 2 i) (e 2 i)).trans (mul_comm _ _)
  · exact Finset.sum_congr rfl fun i _ => (congrArg₂ (· * ·) (key 3 i) (e 3 i)).trans (mul_comm _ _)
  · exact Finset.sum_congr rfl fun i _ => (congrArg₂ (· * ·) (key 4 i) (e 4 i)).trans (mul_comm _ _)

theorem convX396_eq (x : S6400x40.Idx → Elt Ideal .f32) (w : S5x40x512.Idx → Elt Ideal .f32) (b : S1x512.Idx → Elt Ideal .f32)
    (t : Fin 396) (o : Fin 512) :
    (convX396F x w b (iy2 t o) : EReal) = ext (Spec.conv5 (k5Of w) (rowOf b) (xOf x)) 15 t.val o := by
  rw [convX396F_el, rdRow_el]
  have e : ∀ (k : Fin 5) i, rdW1 w k.val (iy3 0 i o) = w (iy3 k i o) := fun k i => rdW1_el w k i o
  have key : ∀ (k : Fin 5) (i : Fin 40), rdX396 x k.val (iy2 t i) = xOf x ⟨15, by omega⟩ ⟨k.val + t.val, by omega⟩ i := by
    intro k i
    rw [rdX396_el]
    unfold xOf
    congr 2
    apply Fin.ext
    show 6000 + k.val % 5 + t.val = 400 * 15 + (k.val + t.val)
    omega
  unfold ext
  rw [dif_pos ⟨by omega, t.isLt⟩]
  unfold Spec.conv5
  refine congrArg₂ (· + ·) (congrArg₂ (· + ·) (congrArg₂ (· + ·) (congrArg₂ (· + ·) (congrArg₂ (· + ·) ?_ ?_) ?_) ?_) ?_) rfl
  · exact Finset.sum_congr rfl fun i _ => (congrArg₂ (· * ·) (key 0 i) (e 0 i)).trans (mul_comm _ _)
  · exact Finset.sum_congr rfl fun i _ => (congrArg₂ (· * ·) (key 1 i) (e 1 i)).trans (mul_comm _ _)
  · exact Finset.sum_congr rfl fun i _ => (congrArg₂ (· * ·) (key 2 i) (e 2 i)).trans (mul_comm _ _)
  · exact Finset.sum_congr rfl fun i _ => (congrArg₂ (· * ·) (key 3 i) (e 3 i)).trans (mul_comm _ _)
  · exact Finset.sum_congr rfl fun i _ => (congrArg₂ (· * ·) (key 4 i) (e 4 i)).trans (mul_comm _ _)

/-- The first stage. -/
theorem stage1_good (x : S6400x40.Idx → Elt Ideal .f32) (w : S5x40x512.Idx → Elt Ideal .f32) (b : S1x512.Idx → Elt Ideal .f32) (O : Buf512 Ideal) :
    Good (Spec.conv5 (k5Of w) (rowOf b) (xOf x)) (stage1F x w b O).1 (stage1F x w b O).2 := by
  have h := loop1_inv (ext (Spec.conv5 (k5Of w) (rowOf b) (xOf x))) (fun c _ => convXF x w b c) (fun c hc _ t ht o => convX_eq x w b c hc t ht o) O
  have hs := sums396_el (convX396F x w b) (ext (Spec.conv5 (k5Of w) (rowOf b) (xOf x)) 15) (fun t o => convX396_eq x w b t o)
  have hc : ∀ (v : FVec Ideal S396x512 .f32) (t : Fin 396) (o : Fin 512), shapeCast S396x512 v casts396 (iy2 t o) = v (iy2 t o) := by
    intro v t o
    unfold iy2
    pointwise
  refine ⟨?_, ?_, ?_⟩
  · intro c t o
    show el (VecWindow.put _ ![6000, 0] S396x512.size _) _ o = _
    rw [put396_el]
    by_cases h15 : c.val = 15
    · rw [dif_pos (by omega), hc, convX396_eq, ← ext_of (Spec.conv5 (k5Of w) (rowOf b) (xOf x)) c t o]
      exact congrArg₂ (fun c t => ext (Spec.conv5 (k5Of w) (rowOf b) (xOf x)) c t o) h15.symm (by show 400 * c.val + t.val - 6000 = t.val; omega)
    · rw [dif_neg (by omega), h.out c.val (by omega) t.val t.isLt o, ext_of]
  · intro o
    have e : ((stage1F x w b O).2.1 (iy2 0 o) : EReal) = _ + _ := congrArg₂ (· + ·) (h.s1 o) (hs o).1
    rw [e, ← Finset.sum_range_succ (fun c => ∑ t : Fin 396, ext (Spec.conv5 (k5Of w) (rowOf b) (xOf x)) c t.val o) 15, Finset.sum_range]
    exact Finset.sum_congr rfl fun c _ => Finset.sum_congr rfl fun t _ => ext_of _ c t o
  · intro o
    have e : ((stage1F x w b O).2.2 (iy2 0 o) : EReal) = _ + _ := congrArg₂ (· + ·) (h.s2 o) (hs o).2
    rw [e, ← Finset.sum_range_succ (fun c => ∑ t : Fin 396, ext (Spec.conv5 (k5Of w) (rowOf b) (xOf x)) c t.val o * ext (Spec.conv5 (k5Of w) (rowOf b) (xOf x)) c t.val o) 15, Finset.sum_range]
    exact Finset.sum_congr rfl fun c _ => Finset.sum_congr rfl fun t _ => by
      rw [show ext (Spec.conv5 (k5Of w) (rowOf b) (xOf x)) ((c : Fin 16) : ℕ) t.val o = _ from ext_of _ c t o]

end Mega

end
-- ==== Proof.KAll.lean ====
/-
  The first kernel's result over the extended reals is the network's products over time.
-/
module

public import proofs.«01_k».proof.Proof.KNet

@[expose] public section

set_option maxRecDepth 16384

noncomputable section

namespace Mega

open Idealize.ShloMosaic Bn
open scoped BigOperators

/-- The values of the inputs are real where the network needs them to be. -/
structure RealIns (V : Ins Ideal) : Prop where
  x : ∀ b t i, Re (xOf V.x b t i)
  w1 : ∀ o i k, Re (k5Of V.w1 o i k)
  w2 : ∀ o i k, Re (k3Of V.w2 o i k)
  w3 : ∀ o i k, Re (k3Of V.w3 o i k)
  w4 : ∀ o i, Re (sqOf V.w4 o i)
  w5 : ∀ o i, Re (sqOf V.w5 o i)
  b1 : ∀ o, Re (rowOf V.b1 o)
  b2 : ∀ o, Re (rowOf V.b2 o)
  b3 : ∀ o, Re (rowOf V.b3 o)
  b4 : ∀ o, Re (rowOf V.b4 o)
  b5 : ∀ o, Re (rowOf V.b5 o)
  g1 : ∀ o, Re (rowOf V.g1 o)
  g2 : ∀ o, Re (rowOf V.g2 o)
  g3 : ∀ o, Re (rowOf V.g3 o)
  g4 : ∀ o, Re (rowOf V.g4 o)
  g5 : ∀ o, Re (rowOf V.g5 o)

/-- The network's arguments held by the kernel's inputs and the four of the second kernel. -/
def argsIn (V : Ins Ideal) (wb : Fin 512 → Fin 262144 → EReal) (bb gb tb : Fin 512 → EReal) (we : Fin 512 → Fin 512 → EReal) (be : Fin 512 → EReal) : Spec.Args where
  x := xOf V.x
  w1 := k5Of V.w1
  w2 := k3Of V.w2
  w3 := k3Of V.w3
  w4 := sqOf V.w4
  w5 := sqOf V.w5
  b := ![rowOf V.b1, rowOf V.b2, rowOf V.b3, rowOf V.b4, rowOf V.b5, bb]
  g := ![rowOf V.g1, rowOf V.g2, rowOf V.g3, rowOf V.g4, rowOf V.g5, gb]
  t := ![rowOf V.t1, rowOf V.t2, rowOf V.t3, rowOf V.t4, rowOf V.t5, tb]
  wb := wb
  we := we
  be := be

theorem normTo_el (a : Row Ideal × Row Ideal) (A : Buf512 Ideal) (j : ℕ) (hj : j ≤ 15) (r : ℕ) (o : Fin 512) :
    el (normTo a A j) r o = if r / 400 ≤ j then nv a (el A r o) o else el A r o := by
  induction j with
  | zero =>
    show el (normF a 0 A) r o = _
    rw [normF_el]
    by_cases h : r / 400 = 0
    · rw [if_pos (by omega), if_pos (by omega)]
    · rw [if_neg (by omega), if_neg (by omega)]
  | succ j ih =>
    show el (normF a (j + 1) (normTo a A j)) r o = _
    rw [normF_el, ih (by omega)]
    by_cases h : r / 400 = j + 1
    · rw [if_pos (by omega), if_neg (by omega), if_pos (by omega)]
    · rw [if_neg (by omega)]
      by_cases h5 : r / 400 ≤ j
      · rw [if_pos h5, if_pos (by omega)]
      · rw [if_neg h5, if_neg (by omega)]

theorem runF_eq (V : Ins Ideal) (hV : RealIns V) (k1 k2 k3 : Ideal .f32) (h1 : k1 = ((1 / 6336 : ℝ) : EReal)) (h2 : k2 = ((1 / 6272 : ℝ) : EReal)) (h3 : k3 = ((1 / 6144 : ℝ) : EReal))
    (A B : Buf512 Ideal) (wb : Fin 512 → Fin 262144 → EReal) (bb gb tb : Fin 512 → EReal) (we : Fin 512 → Fin 512 → EReal) (be : Fin 512 → EReal) (b : Fin 16) (p q : Fin 512) :
    (runF k1 k2 k3 V A B (iy3 b p q) : EReal) = Spec.M (argsIn V wb bb gb tb we be) b p q := by
  set a := argsIn V wb bb gb tb we be with ha
  have g1 : Good (Spec.Y1 a) (st1 V A).1 (st1 V A).2 := stage1_good V.x V.w1 V.b1 A
  have r1 : ∀ c o s, Re (Spec.Y1 a c o s) := re_conv5 hV.w1 hV.b1 hV.x
  have i2 := stage2_inv (af1 k1 V A) 392 (by decide) (ext (Spec.Y2 a)) (st1 V A).1 (convCF 2 V.w2 V.b2) stats392
    (fun c hc X hX t ht o => conv_dot (T := 396) g1 (n := 6336) n6336 (by norm_num) (by norm_num) h1 (g := V.g1) (t := V.t1) hV.g1 r1 2 (by decide) (T' := 392) (by decide) V.w2 V.b2 c hc X hX t ht o (by decide))
    stats392_el B
  have g2 : Good (Spec.Y2 a) (st2 k1 V A B).1.2 (st2 k1 V A B).2 := i2.good
  have r2 : ∀ c o s, Re (Spec.Y2 a c o s) := re_conv3 _ hV.w2 hV.b2 (re_act _ _ _ _)
  have i3 := stage2_inv (af2 k1 k2 V A B) 384 (by decide) (ext (Spec.Y3 a)) (st2 k1 V A B).1.2 (convCF 4 V.w3 V.b3) stats384
    (fun c hc X hX t ht o => conv_dot (T := 392) g2 (n := 6272) n6272 (by norm_num) (by norm_num) h2 (g := V.g2) (t := V.t2) hV.g2 r2 4 (by decide) (T' := 384) (by decide) V.w3 V.b3 c hc X hX t ht o (by decide))
    stats384_el (st2 k1 V A B).1.1
  have g3 : Good (Spec.Y3 a) (st3 k1 k2 V A B).1.2 (st3 k1 k2 V A B).2 := i3.good
  have r3 : ∀ c o s, Re (Spec.Y3 a c o s) := re_conv3 _ hV.w3 hV.b3 (re_act _ _ _ _)
  have i4 := stage2_inv (af3 k1 k2 k3 V A B) 384 (by decide) (ext (Spec.Y4 a)) (st3 k1 k2 V A B).1.2 (linCF V.w4 V.b4) stats384
    (fun c hc X hX t ht o => lin_dot (T := 384) g3 (n := 6144) n6144 (by norm_num) (by norm_num) h3 (g := V.g3) (t := V.t3) hV.g3 r3 V.w4 V.b4 c hc X hX t ht o)
    stats384_el (st3 k1 k2 V A B).1.1
  have g4 : Good (Spec.Y4 a) (st4 k1 k2 k3 V A B).1.2 (st4 k1 k2 k3 V A B).2 := i4.good
  have r4 : ∀ c o s, Re (Spec.Y4 a c o s) := re_lin hV.w4 hV.b4 (re_act _ _ _ _)
  have i5 := stage2_inv (af4 k1 k2 k3 V A B) 384 (by decide) (ext (Spec.Y5 a)) (st4 k1 k2 k3 V A B).1.2 (linCF V.w5 V.b5) stats384
    (fun c hc X hX t ht o => lin_dot (T := 384) g4 (n := 6144) n6144 (by norm_num) (by norm_num) h3 (g := V.g4) (t := V.t4) hV.g4 r4 V.w5 V.b5 c hc X hX t ht o)
    stats384_el (st4 k1 k2 k3 V A B).1.1
  have g5 : Good (Spec.Y5 a) (st5 k1 k2 k3 V A B).1.2 (st5 k1 k2 k3 V A B).2 := i5.good
  have r5 : ∀ c o s, Re (Spec.Y5 a c o s) := re_lin hV.w5 hV.b5 (re_act _ _ _ _)
  have e : ix2 ((iy3 b p q : S16x512x512.Idx) 1) ((iy3 b p q : S16x512x512.Idx) 2) = iy2 p q := by
    funext i
    match i with
    | 0 => rfl
    | 1 => rfl
  show (gramF (af5 k1 k2 k3 V A B) (st5 k1 k2 k3 V A B).1.1 (st5 k1 k2 k3 V A B).1.2 b.val (ix2 ((iy3 b p q : S16x512x512.Idx) 1) ((iy3 b p q : S16x512x512.Idx) 2)) : EReal) = _
  rw [e]
  show (gram (rd384 (st5 k1 k2 k3 V A B).1.1 b.val) (rd384 (normTo (af5 k1 k2 k3 V A B) (st5 k1 k2 k3 V A B).1.2 (min (b.val + 1) 15)) b.val) (iy2 p q) : EReal) = _
  rw [gram_el]
  unfold Spec.M
  refine Finset.sum_congr rfl fun t _ => congrArg₂ (· * ·) ?_ ?_
  · rw [rd384_el, show 400 * (b.val % 16) + t.val = 400 * b.val + t.val by omega]
    refine (i5.inp _ (by omega) p).trans ?_
    rw [if_pos (by omega)]
    exact g4.norm n6144 (by norm_num) (by norm_num) h3 (g := V.g4) (t := V.t4) hV.g4 r4 b t p
  · rw [rd384_el, show 400 * (b.val % 16) + t.val = 400 * b.val + t.val by omega, normTo_el _ _ _ (by omega), if_pos (by omega)]
    exact g5.norm n6144 (by norm_num) (by norm_num) h3 (g := V.g5) (t := V.t5) hV.g5 r5 b t q

end Mega

end
-- ==== Proof.KBot.lean ====
/-
  The second kernel's arithmetic over the extended reals, read at one entry of its arrays.
-/
module

public import proofs.«01_k».proof.Proof.BotIdeal
public import proofs.«01_k».proof.Proof.Spec
public import Idealize.ShloMosaic.Lib.Pointwise

@[expose] public section

set_option maxRecDepth 16384

noncomputable section

namespace Cert.KernelIdeal.Hand

open Idealize.ShloMosaic Bn
open scoped BigOperators

/-- One more block of columns. -/
theorem accStep_el (x : S16x8192.Idx → Elt Ideal .f32) (w : S512x8192.Idx → Elt Ideal .f32) (a : S16x512.Idx → Elt Ideal .f32) (b : Fin 16) (o : Fin 512) :
    (accStep x w a (ix2 b o) : EReal) = a (ix2 b o) + ∑ k : Fin 8192, x (ix2 b k) * w (ix2 o k) := by
  pointwise [accStep, id_eq]

theorem acc0_el (b : Fin 16) (o : Fin 512) : (acc0 (F := Ideal) (ix2 b o) : EReal) = 0 := by
  pointwise [acc0, id_eq]

/-- The batch normalization, of one entry. -/
def bnS (y s1 s2 g t : EReal) : EReal :=
  min (Ideal.ofBits .f32 0x41A00000#32) (max 0
    (g * (y - Ideal.div s1 (Ideal.ofBits .f32 0x41800000#32))
      * Ideal.rsqrt (Ideal.div s2 (Ideal.ofBits .f32 0x41800000#32) - Ideal.div s1 (Ideal.ofBits .f32 0x41800000#32) * Ideal.div s1 (Ideal.ofBits .f32 0x41800000#32) + eps) + t))

theorem bnF_el (h : FVec Ideal S16x512 .f32) (g t : S1x512.Idx → Elt Ideal .f32) (b : Fin 16) (o : Fin 512) :
    (bnF h g t (ix2 b o) : EReal) = bnS (h (ix2 b o)) (∑ i : Fin 16, h (ix2 i o)) (∑ i : Fin 16, h (ix2 i o) * h (ix2 i o)) (g (ix2 0 o)) (t (ix2 0 o)) := by
  pointwise [bnF, rows, colSum, bnS, eps, id_eq]

theorem linF_el (y : FVec Ideal S16x512 .f32) (w : S512x512.Idx → Elt Ideal .f32) (d : S1x512.Idx → Elt Ideal .f32) (b : Fin 16) (o : Fin 512) :
    (linF y w d (ix2 b o) : EReal) = ∑ i : Fin 512, y (ix2 b i) * w (ix2 o i) + d (ix2 0 o) := by
  pointwise [linF, rows, id_eq]

theorem normF_el (e : FVec Ideal S16x512 .f32) (b : Fin 16) (o : Fin 512) :
    (normF e (ix2 b o) : EReal) = e (ix2 b o) * Ideal.rsqrt (∑ i : Fin 512, e (ix2 b i) * e (ix2 b i) + Ideal.ofBits .f32 0x2EDBE6FF#32) * Ideal.ofBits .f32 0x41200000#32 := by
  pointwise [normF, id_eq]

theorem add_el (a : FVec Ideal S16x512 .f32) (d : S1x512.Idx → Elt Ideal .f32) (b : Fin 16) (o : Fin 512) :
    (addf a (rows d) (ix2 b o) : EReal) = a (ix2 b o) + d (ix2 0 o) := by
  pointwise [rows, id_eq]

/-- The two normalizations agree. -/
theorem bnS_eq (z : EReal) {g : EReal} (t : EReal) {Y : Fin 16 → EReal} (b : Fin 16) (hg : Re g) (hY : ∀ i, Re (Y i)) :
    bnS (Y b) (∑ i, Y i) (∑ i, Y i * Y i) g t = bnR (Ideal.ofBits .f32 0x41800000#32) z g t (fun (i : Fin 16) (_ : Fin 1) => Y i) (Y b) := by
  obtain ⟨g, rfl⟩ := hg
  choose f hf using hY
  obtain rfl : Y = fun i => ((f i : ℝ) : EReal) := funext fun i => hf i
  obtain ⟨e, he, hee⟩ := eps_pos
  unfold bnS bnR dev clip
  simp only [Finset.univ_unique, Finset.sum_singleton]
  rw [n16, hee]
  have h0 : (0 : ℝ) < 16 := by norm_num
  have hne : (16 : ℝ) ≠ 0 := h0.ne'
  have hv := var_eq (ι := Fin 16) (κ := Fin 1) 16 (by simp) h0 (fun i _ => f i)
  simp only [Finset.univ_unique, Finset.sum_singleton] at hv
  have hd := dev_nonneg (ι := Fin 16) (κ := Fin 1) (fun i _ => f i) ((∑ i, f i) * (1 / 16))
  simp only [Finset.univ_unique, Finset.sum_singleton] at hd
  rw [Ideal.div_coe hne, Ideal.div_coe hne, ← EReal.coe_sub, sub_zero, if_pos (by exact_mod_cast h0), Ideal.div_coe hne]
  simp only [← EReal.coe_mul, ← EReal.coe_sub, ← coe_sum, ← EReal.coe_add]
  rw [hv]
  generalize hS' : (∑ i, f i) = S at hd ⊢
  generalize (∑ i, (f i - S * (1 / 16)) * (f i - S * (1 / 16))) = V at hd ⊢
  have hp : 0 < V * (1 / 16) + e := by positivity
  rw [Ideal.rsqrt_coe, Ideal.sqrt_coe, if_neg hp.le.not_gt, if_neg hp.ne', if_neg hp.le.not_gt]
  have hs : Real.sqrt (V * (1 / 16) + e) ≠ 0 := (Real.sqrt_pos.mpr hp).ne'
  rw [Ideal.div_coe hs, one_div (Real.sqrt _)]

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

theorem e12_pos : ∃ e : ℝ, 0 < e ∧ Ideal.ofBits .f32 0x2EDBE6FF#32 = (e : EReal) := by
  refine ⟨_, ?_, by simp [Ideal.ofBits, Ideal.ieee]; norm_cast⟩
  positivity

/-- The scale to unit length, the two ways. -/
theorem unit_eq (e : Fin 512 → EReal) (x : EReal) :
    x * Ideal.rsqrt (∑ i, e i * e i + Ideal.ofBits .f32 0x2EDBE6FF#32) = Ideal.div x (Ideal.sqrt (∑ i, e i * e i + Ideal.ofBits .f32 0x2EDBE6FF#32)) := by
  obtain ⟨d, hd, hde⟩ := e12_pos
  rw [hde]
  have hs : 0 ≤ ∑ i, e i * e i := Finset.sum_nonneg fun i _ => sq_nonneg' (e i)
  generalize (∑ i, e i * e i) = s at hs
  induction s with
  | bot => exact absurd hs (by simp)
  | top =>
    rw [EReal.top_add_coe]
    show x * 0 = Ideal.div x ⊤
    simp [Ideal.div]
  | coe r =>
    have hr : 0 ≤ r := by exact_mod_cast hs
    have hp : 0 < r + d := by positivity
    rw [← EReal.coe_add, Ideal.rsqrt_coe, Ideal.sqrt_coe, if_neg hp.le.not_gt, if_neg hp.ne', if_neg hp.le.not_gt,
      Ideal.div_coe (Real.sqrt_pos.mpr hp).ne', one_div]

/-- What the last point stores, when the sum before it is the whole bottleneck. -/
theorem botF_eq (A : Spec.Args) (a : S16x512.Idx → Elt Ideal .f32) (d0 g t : S1x512.Idx → Elt Ideal .f32) (w : S512x512.Idx → Elt Ideal .f32) (d : S1x512.Idx → Elt Ideal .f32)
    (ha : ∀ b o, (a (ix2 b o) : EReal) + d0 (ix2 0 o) = Spec.Hb A b o) (hg : ∀ o, (g (ix2 0 o) : EReal) = A.g 5 o) (ht : ∀ o, (t (ix2 0 o) : EReal) = A.t 5 o)
    (hw : ∀ o i, (w (ix2 o i) : EReal) = A.we o i) (hd : ∀ o, (d (ix2 0 o) : EReal) = A.be o) (hrg : ∀ o, Re (A.g 5 o)) (hr : ∀ b o, Re (Spec.Hb A b o)) (b : Fin 16) (o : Fin 512) :
    (botF a d0 g t w d (ix2 b o) : EReal) = Spec.res A b o := by
  have hz : ∀ (b : Fin 16) (o : Fin 512), (bnF (addf a (rows d0)) g t (ix2 b o) : EReal) = Spec.Zb A b o := by
    intro b o
    rw [bnF_el]
    simp only [add_el, ha, hg, ht]
    unfold Spec.Zb
    exact bnS_eq (Y := fun i => Spec.Hb A i o) Spec.nan (A.t 5 o) b (hrg o) (fun i => hr i o)
  have he : ∀ (b : Fin 16) (o : Fin 512), (linF (bnF (addf a (rows d0)) g t) w d (ix2 b o) : EReal) = Spec.Em A b o := by
    intro b o
    rw [linF_el]
    simp only [hz, hw, hd]
    rfl
  unfold botF
  rw [normF_el]
  simp only [he]
  rw [unit_eq]
  rfl

end Cert.KernelIdeal.Hand

end
-- ==== Proof.KBlk.lean ====
/-
  The blocks the two kernels are handed, read off the arrays they are cut from.
-/
module

public import proofs.«01_k».proof.Proof.WholeIdeal
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Hand

open Idealize.ShloMosaic Idealize.ShloMosaic.TcCoe
open Idealize.ShloMosaic.Pipeline (Dat)
open Cert.KernelIdeal.Gen

section Second

variable (Vc : Dev nD → Valuation τ sig (Elt Ideal)) (c : Dev nD)

theorem tr0 : ∀ t : Fin cfg1.N, cc1_transform_0 (grid1.coords t) 1 = t.val :=
  (by decide +kernel : ∀ t : Fin grid1.N, cc1_transform_0 (grid1.coords t) 1 = t.val)
theorem tr1 : ∀ t : Fin cfg1.N, cc1_transform_1 (grid1.coords t) 1 = t.val :=
  (by decide +kernel : ∀ t : Fin grid1.N, cc1_transform_1 (grid1.coords t) 1 = t.val)

theorem blk1_0_el (t : Fin cfg1.N) (b : Fin 16) (k : Fin 8192) (j : Fin 262144) (hj : j.val = 8192 * t.val + k.val) :
    blk1 Vc c 0 t (ix2 b k) = Vc c (Proc.devRef .tc main_v21) (ix2 b j) := by
  have h0 : win1_0.index t 0 = 0 := rfl
  have h1 : win1_0.index t 1 = t.val := tr0 t
  unfold blk1
  blk_ext [h0, h1]

theorem blk1_1_el (t : Fin cfg1.N) (b : Fin 512) (k : Fin 8192) (j : Fin 262144) (hj : j.val = 8192 * t.val + k.val) :
    blk1 Vc c 1 t (ix2 b k) = Vc c (Proc.devRef .tc main_arg21) (ix2 b j) := by
  have h0 : win1_1.index t 0 = 0 := rfl
  have h1 : win1_1.index t 1 = t.val := tr1 t
  unfold blk1
  blk_ext [h0, h1]

theorem blk1_2_el (t : Fin cfg1.N) (b : Fin 1) (o : Fin 512) :
    blk1 Vc c 2 t (ix2 b o) = Vc c (Proc.devRef .tc main_v22) (ix2 b o) := by
  have h0 : win1_2.index t 0 = 0 := rfl
  have h1 : win1_2.index t 1 = 0 := rfl
  unfold blk1
  blk_ext [h0, h1]

theorem blk1_3_el (t : Fin cfg1.N) (b : Fin 1) (o : Fin 512) :
    blk1 Vc c 3 t (ix2 b o) = Vc c (Proc.devRef .tc main_v23) (ix2 b o) := by
  have h0 : win1_3.index t 0 = 0 := rfl
  have h1 : win1_3.index t 1 = 0 := rfl
  unfold blk1
  blk_ext [h0, h1]

theorem blk1_4_el (t : Fin cfg1.N) (b : Fin 1) (o : Fin 512) :
    blk1 Vc c 4 t (ix2 b o) = Vc c (Proc.devRef .tc main_v24) (ix2 b o) := by
  have h0 : win1_4.index t 0 = 0 := rfl
  have h1 : win1_4.index t 1 = 0 := rfl
  unfold blk1
  blk_ext [h0, h1]

theorem blk1_5_el (t : Fin cfg1.N) (b : Fin 512) (o : Fin 512) :
    blk1 Vc c 5 t (ix2 b o) = Vc c (Proc.devRef .tc main_arg25) (ix2 b o) := by
  have h0 : win1_5.index t 0 = 0 := rfl
  have h1 : win1_5.index t 1 = 0 := rfl
  unfold blk1
  blk_ext [h0, h1]

theorem blk1_6_el (t : Fin cfg1.N) (b : Fin 1) (o : Fin 512) :
    blk1 Vc c 6 t (ix2 b o) = Vc c (Proc.devRef .tc main_v25) (ix2 b o) := by
  have h0 : win1_6.index t 0 = 0 := rfl
  have h1 : win1_6.index t 1 = 0 := rfl
  unfold blk1
  blk_ext [h0, h1]

end Second

section First

variable (Vc : Dev nD → Valuation τ sig (Elt Ideal)) (c : Dev nD)

theorem blk0_0_eq (t : Fin cfg0.N) : blk0 Vc c 0 t = Vc c (Proc.devRef .tc main_v1) := by
  have h0 : win0_0.index t 0 = 0 := rfl
  have h1 : win0_0.index t 1 = 0 := rfl
  funext y
  unfold blk0
  blk_ext [h0, h1]

theorem blk0_1_eq (t : Fin cfg0.N) : blk0 Vc c 1 t = Vc c (Proc.devRef .tc main_v2) := by
  have h0 : win0_1.index t 0 = 0 := rfl
  have h1 : win0_1.index t 1 = 0 := rfl
  have h2 : win0_1.index t 2 = 0 := rfl
  funext y
  unfold blk0
  blk_ext [h0, h1, h2]

theorem blk0_2_eq (t : Fin cfg0.N) : blk0 Vc c 2 t = Vc c (Proc.devRef .tc main_v5) := by
  have h0 : win0_2.index t 0 = 0 := rfl
  have h1 : win0_2.index t 1 = 0 := rfl
  funext y
  unfold blk0
  blk_ext [h0, h1]

theorem blk0_3_eq (t : Fin cfg0.N) : blk0 Vc c 3 t = Vc c (Proc.devRef .tc main_v6) := by
  have h0 : win0_3.index t 0 = 0 := rfl
  have h1 : win0_3.index t 1 = 0 := rfl
  funext y
  unfold blk0
  blk_ext [h0, h1]

theorem blk0_4_eq (t : Fin cfg0.N) : blk0 Vc c 4 t = Vc c (Proc.devRef .tc main_v7) := by
  have h0 : win0_4.index t 0 = 0 := rfl
  have h1 : win0_4.index t 1 = 0 := rfl
  funext y
  unfold blk0
  blk_ext [h0, h1]

theorem blk0_5_eq (t : Fin cfg0.N) : blk0 Vc c 5 t = Vc c (Proc.devRef .tc main_v3) := by
  have h0 : win0_5.index t 0 = 0 := rfl
  have h1 : win0_5.index t 1 = 0 := rfl
  have h2 : win0_5.index t 2 = 0 := rfl
  funext y
  unfold blk0
  blk_ext [h0, h1, h2]

theorem blk0_6_eq (t : Fin cfg0.N) : blk0 Vc c 6 t = Vc c (Proc.devRef .tc main_v8) := by
  have h0 : win0_6.index t 0 = 0 := rfl
  have h1 : win0_6.index t 1 = 0 := rfl
  funext y
  unfold blk0
  blk_ext [h0, h1]

theorem blk0_7_eq (t : Fin cfg0.N) : blk0 Vc c 7 t = Vc c (Proc.devRef .tc main_v9) := by
  have h0 : win0_7.index t 0 = 0 := rfl
  have h1 : win0_7.index t 1 = 0 := rfl
  funext y
  unfold blk0
  blk_ext [h0, h1]

theorem blk0_8_eq (t : Fin cfg0.N) : blk0 Vc c 8 t = Vc c (Proc.devRef .tc main_v10) := by
  have h0 : win0_8.index t 0 = 0 := rfl
  have h1 : win0_8.index t 1 = 0 := rfl
  funext y
  unfold blk0
  blk_ext [h0, h1]

theorem blk0_9_eq (t : Fin cfg0.N) : blk0 Vc c 9 t = Vc c (Proc.devRef .tc main_v4) := by
  have h0 : win0_9.index t 0 = 0 := rfl
  have h1 : win0_9.index t 1 = 0 := rfl
  have h2 : win0_9.index t 2 = 0 := rfl
  funext y
  unfold blk0
  blk_ext [h0, h1, h2]

theorem blk0_10_eq (t : Fin cfg0.N) : blk0 Vc c 10 t = Vc c (Proc.devRef .tc main_v11) := by
  have h0 : win0_10.index t 0 = 0 := rfl
  have h1 : win0_10.index t 1 = 0 := rfl
  funext y
  unfold blk0
  blk_ext [h0, h1]

theorem blk0_11_eq (t : Fin cfg0.N) : blk0 Vc c 11 t = Vc c (Proc.devRef .tc main_v12) := by
  have h0 : win0_11.index t 0 = 0 := rfl
  have h1 : win0_11.index t 1 = 0 := rfl
  funext y
  unfold blk0
  blk_ext [h0, h1]

theorem blk0_12_eq (t : Fin cfg0.N) : blk0 Vc c 12 t = Vc c (Proc.devRef .tc main_v13) := by
  have h0 : win0_12.index t 0 = 0 := rfl
  have h1 : win0_12.index t 1 = 0 := rfl
  funext y
  unfold blk0
  blk_ext [h0, h1]

theorem blk0_13_eq (t : Fin cfg0.N) : blk0 Vc c 13 t = Vc c (Proc.devRef .tc main_arg13) := by
  have h0 : win0_13.index t 0 = 0 := rfl
  have h1 : win0_13.index t 1 = 0 := rfl
  funext y
  unfold blk0
  blk_ext [h0, h1]

theorem blk0_14_eq (t : Fin cfg0.N) : blk0 Vc c 14 t = Vc c (Proc.devRef .tc main_v14) := by
  have h0 : win0_14.index t 0 = 0 := rfl
  have h1 : win0_14.index t 1 = 0 := rfl
  funext y
  unfold blk0
  blk_ext [h0, h1]

theorem blk0_15_eq (t : Fin cfg0.N) : blk0 Vc c 15 t = Vc c (Proc.devRef .tc main_v15) := by
  have h0 : win0_15.index t 0 = 0 := rfl
  have h1 : win0_15.index t 1 = 0 := rfl
  funext y
  unfold blk0
  blk_ext [h0, h1]

theorem blk0_16_eq (t : Fin cfg0.N) : blk0 Vc c 16 t = Vc c (Proc.devRef .tc main_v16) := by
  have h0 : win0_16.index t 0 = 0 := rfl
  have h1 : win0_16.index t 1 = 0 := rfl
  funext y
  unfold blk0
  blk_ext [h0, h1]

theorem blk0_17_eq (t : Fin cfg0.N) : blk0 Vc c 17 t = Vc c (Proc.devRef .tc main_arg17) := by
  have h0 : win0_17.index t 0 = 0 := rfl
  have h1 : win0_17.index t 1 = 0 := rfl
  funext y
  unfold blk0
  blk_ext [h0, h1]

theorem blk0_18_eq (t : Fin cfg0.N) : blk0 Vc c 18 t = Vc c (Proc.devRef .tc main_v17) := by
  have h0 : win0_18.index t 0 = 0 := rfl
  have h1 : win0_18.index t 1 = 0 := rfl
  funext y
  unfold blk0
  blk_ext [h0, h1]

theorem blk0_19_eq (t : Fin cfg0.N) : blk0 Vc c 19 t = Vc c (Proc.devRef .tc main_v18) := by
  have h0 : win0_19.index t 0 = 0 := rfl
  have h1 : win0_19.index t 1 = 0 := rfl
  funext y
  unfold blk0
  blk_ext [h0, h1]

theorem blk0_20_eq (t : Fin cfg0.N) : blk0 Vc c 20 t = Vc c (Proc.devRef .tc main_v19) := by
  have h0 : win0_20.index t 0 = 0 := rfl
  have h1 : win0_20.index t 1 = 0 := rfl
  funext y
  unfold blk0
  blk_ext [h0, h1]

end First

section Host

variable (V : Valuation τ sig (Elt Ideal))

theorem h0_v5 (o : Fin 512) : StableHlo.after hostOps0 V (Proc.devRef .tc main_v5) (ix2 0 o) = V (Proc.devRef .tc main_arg2) (ix1 o) := by
  after_reads_at

theorem h0_v6 (o : Fin 512) : StableHlo.after hostOps0 V (Proc.devRef .tc main_v6) (ix2 0 o) = V (Proc.devRef .tc main_arg3) (ix1 o) := by
  after_reads_at

theorem h0_v7 (o : Fin 512) : StableHlo.after hostOps0 V (Proc.devRef .tc main_v7) (ix2 0 o) = V (Proc.devRef .tc main_arg4) (ix1 o) := by
  after_reads_at

theorem h0_v8 (o : Fin 512) : StableHlo.after hostOps0 V (Proc.devRef .tc main_v8) (ix2 0 o) = V (Proc.devRef .tc main_arg6) (ix1 o) := by
  after_reads_at

theorem h0_v9 (o : Fin 512) : StableHlo.after hostOps0 V (Proc.devRef .tc main_v9) (ix2 0 o) = V (Proc.devRef .tc main_arg7) (ix1 o) := by
  after_reads_at

theorem h0_v10 (o : Fin 512) : StableHlo.after hostOps0 V (Proc.devRef .tc main_v10) (ix2 0 o) = V (Proc.devRef .tc main_arg8) (ix1 o) := by
  after_reads_at

theorem h0_v11 (o : Fin 512) : StableHlo.after hostOps0 V (Proc.devRef .tc main_v11) (ix2 0 o) = V (Proc.devRef .tc main_arg10) (ix1 o) := by
  after_reads_at

theorem h0_v12 (o : Fin 512) : StableHlo.after hostOps0 V (Proc.devRef .tc main_v12) (ix2 0 o) = V (Proc.devRef .tc main_arg11) (ix1 o) := by
  after_reads_at

theorem h0_v13 (o : Fin 512) : StableHlo.after hostOps0 V (Proc.devRef .tc main_v13) (ix2 0 o) = V (Proc.devRef .tc main_arg12) (ix1 o) := by
  after_reads_at

theorem h0_v14 (o : Fin 512) : StableHlo.after hostOps0 V (Proc.devRef .tc main_v14) (ix2 0 o) = V (Proc.devRef .tc main_arg14) (ix1 o) := by
  after_reads_at

theorem h0_v15 (o : Fin 512) : StableHlo.after hostOps0 V (Proc.devRef .tc main_v15) (ix2 0 o) = V (Proc.devRef .tc main_arg15) (ix1 o) := by
  after_reads_at

theorem h0_v16 (o : Fin 512) : StableHlo.after hostOps0 V (Proc.devRef .tc main_v16) (ix2 0 o) = V (Proc.devRef .tc main_arg16) (ix1 o) := by
  after_reads_at

theorem h0_v17 (o : Fin 512) : StableHlo.after hostOps0 V (Proc.devRef .tc main_v17) (ix2 0 o) = V (Proc.devRef .tc main_arg18) (ix1 o) := by
  after_reads_at

theorem h0_v18 (o : Fin 512) : StableHlo.after hostOps0 V (Proc.devRef .tc main_v18) (ix2 0 o) = V (Proc.devRef .tc main_arg19) (ix1 o) := by
  after_reads_at

theorem h0_v19 (o : Fin 512) : StableHlo.after hostOps0 V (Proc.devRef .tc main_v19) (ix2 0 o) = V (Proc.devRef .tc main_arg20) (ix1 o) := by
  after_reads_at

theorem h0_v2 (k : Fin 5) (i : Fin 40) (o : Fin 512) : StableHlo.after hostOps0 V (Proc.devRef .tc main_v2) (ix3 k i o) = V (Proc.devRef .tc main_arg1) (ix3 o i k) := by
  after_reads_at

theorem h0_v3 (k : Fin 3) (i : Fin 512) (o : Fin 512) : StableHlo.after hostOps0 V (Proc.devRef .tc main_v3) (ix3 k i o) = V (Proc.devRef .tc main_arg5) (ix3 o i k) := by
  after_reads_at

theorem h0_v4 (k : Fin 3) (i : Fin 512) (o : Fin 512) : StableHlo.after hostOps0 V (Proc.devRef .tc main_v4) (ix3 k i o) = V (Proc.devRef .tc main_arg9) (ix3 o i k) := by
  after_reads_at

theorem h0_v1 (b : Fin 16) (t : Fin 400) (i : Fin 40) (j : Fin 6400) (hj : j.val = 400 * b.val + t.val) :
    StableHlo.after hostOps0 V (Proc.devRef .tc main_v1) (ix2 j i) = V (Proc.devRef .tc main_arg0) (ix4 b 0 t i) := by
  after_reads_at
  exact congrArg₂ (fun b t => V (Proc.devRef .tc main_arg0) (ix4 b 0 t i)) (Fin.ext (by show j.val / 400 = b.val; omega)) (Fin.ext (by show j.val % 400 = t.val; omega))

theorem h0_arg13 : StableHlo.after hostOps0 V (Proc.devRef .tc main_arg13) = V (Proc.devRef .tc main_arg13) := by
  after_reads_simp

theorem h0_arg17 : StableHlo.after hostOps0 V (Proc.devRef .tc main_arg17) = V (Proc.devRef .tc main_arg17) := by
  after_reads_simp

theorem h0_arg21 : StableHlo.after hostOps0 V (Proc.devRef .tc main_arg21) = V (Proc.devRef .tc main_arg21) := by
  after_reads_simp

theorem h0_arg22 : StableHlo.after hostOps0 V (Proc.devRef .tc main_arg22) = V (Proc.devRef .tc main_arg22) := by
  after_reads_simp

theorem h0_arg23 : StableHlo.after hostOps0 V (Proc.devRef .tc main_arg23) = V (Proc.devRef .tc main_arg23) := by
  after_reads_simp

theorem h0_arg24 : StableHlo.after hostOps0 V (Proc.devRef .tc main_arg24) = V (Proc.devRef .tc main_arg24) := by
  after_reads_simp

theorem h0_arg25 : StableHlo.after hostOps0 V (Proc.devRef .tc main_arg25) = V (Proc.devRef .tc main_arg25) := by
  after_reads_simp

theorem h0_arg26 : StableHlo.after hostOps0 V (Proc.devRef .tc main_arg26) = V (Proc.devRef .tc main_arg26) := by
  after_reads_simp

theorem h1_v22 (o : Fin 512) : StableHlo.after hostOps1 V (Proc.devRef .tc main_v22) (ix2 0 o) = V (Proc.devRef .tc main_arg22) (ix1 o) := by
  after_reads_at

theorem h1_v23 (o : Fin 512) : StableHlo.after hostOps1 V (Proc.devRef .tc main_v23) (ix2 0 o) = V (Proc.devRef .tc main_arg23) (ix1 o) := by
  after_reads_at

theorem h1_v24 (o : Fin 512) : StableHlo.after hostOps1 V (Proc.devRef .tc main_v24) (ix2 0 o) = V (Proc.devRef .tc main_arg24) (ix1 o) := by
  after_reads_at

theorem h1_v25 (o : Fin 512) : StableHlo.after hostOps1 V (Proc.devRef .tc main_v25) (ix2 0 o) = V (Proc.devRef .tc main_arg26) (ix1 o) := by
  after_reads_at

theorem h1_v21 (b : Fin 16) (k : Fin 262144) :
    StableHlo.after hostOps1 V (Proc.devRef .tc main_v21) (ix2 b k) = V (Proc.devRef .tc main_v20) (ix3 b ⟨k.val / 512, by omega⟩ ⟨k.val % 512, by omega⟩) := by
  after_reads_at

theorem h1_arg21 : StableHlo.after hostOps1 V (Proc.devRef .tc main_arg21) = V (Proc.devRef .tc main_arg21) := by
  after_reads_simp

theorem h1_arg25 : StableHlo.after hostOps1 V (Proc.devRef .tc main_arg25) = V (Proc.devRef .tc main_arg25) := by
  after_reads_simp

end Host

end Cert.KernelIdeal.Hand

end
-- ==== Proof.KRes.lean ====
/-
  What the two kernels leave in @main's result over the extended reals: the network of its arguments.
-/
module

public import proofs.«01_k».proof.Proof.KAll
public import proofs.«01_k».proof.Proof.KBot
public import proofs.«01_k».proof.Proof.KBlk

@[expose] public section

set_option maxRecDepth 65536
set_option maxHeartbeats 4000000

noncomputable section

namespace Spec

open Bn

/-- The arguments the network needs real. -/
structure RealArgs (a : Args) : Prop where
  x : ∀ b t i, Re (a.x b t i)
  w1 : ∀ o i k, Re (a.w1 o i k)
  w2 : ∀ o i k, Re (a.w2 o i k)
  w3 : ∀ o i k, Re (a.w3 o i k)
  w4 : ∀ o i, Re (a.w4 o i)
  w5 : ∀ o i, Re (a.w5 o i)
  wb : ∀ o k, Re (a.wb o k)
  b : ∀ k o, Re (a.b k o)
  g : ∀ k o, Re (a.g k o)

theorem re_Hb {a : Args} (h : RealArgs a) (b : Fin 16) (o : Fin 512) : Re (Hb a b o) :=
  Re.add (Re.sum _ fun k => Re.mul (Re.sum _ fun t => Re.mul (re_clip _) (re_clip _)) (h.wb _ _)) (h.b _ _)

end Spec

namespace Cert.KernelIdeal.Hand

open Idealize.ShloMosaic Idealize.ShloMosaic.TcCoe Bn
open Idealize.ShloMosaic.Pipeline (Dat)
open Cert.KernelIdeal.Gen
open Mega (Ins rowOf k5Of k3Of sqOf xOf iy2 iy3 argsIn RealIns runF)
open scoped BigOperators

/-- The arguments as plain functions. -/
def argsOf (V : Valuation τ sig (Elt Ideal)) : Spec.Args where
  x b t i := V (Proc.devRef .tc main_arg0) (ix4 b 0 t i)
  w1 o i k := V (Proc.devRef .tc main_arg1) (ix3 o i k)
  w2 o i k := V (Proc.devRef .tc main_arg5) (ix3 o i k)
  w3 o i k := V (Proc.devRef .tc main_arg9) (ix3 o i k)
  w4 o i := V (Proc.devRef .tc main_arg13) (ix2 o i)
  w5 o i := V (Proc.devRef .tc main_arg17) (ix2 o i)
  b := ![fun o => V (Proc.devRef .tc main_arg2) (ix1 o), fun o => V (Proc.devRef .tc main_arg6) (ix1 o), fun o => V (Proc.devRef .tc main_arg10) (ix1 o), fun o => V (Proc.devRef .tc main_arg14) (ix1 o), fun o => V (Proc.devRef .tc main_arg18) (ix1 o), fun o => V (Proc.devRef .tc main_arg22) (ix1 o)]
  g := ![fun o => V (Proc.devRef .tc main_arg3) (ix1 o), fun o => V (Proc.devRef .tc main_arg7) (ix1 o), fun o => V (Proc.devRef .tc main_arg11) (ix1 o), fun o => V (Proc.devRef .tc main_arg15) (ix1 o), fun o => V (Proc.devRef .tc main_arg19) (ix1 o), fun o => V (Proc.devRef .tc main_arg23) (ix1 o)]
  t := ![fun o => V (Proc.devRef .tc main_arg4) (ix1 o), fun o => V (Proc.devRef .tc main_arg8) (ix1 o), fun o => V (Proc.devRef .tc main_arg12) (ix1 o), fun o => V (Proc.devRef .tc main_arg16) (ix1 o), fun o => V (Proc.devRef .tc main_arg20) (ix1 o), fun o => V (Proc.devRef .tc main_arg24) (ix1 o)]
  wb o k := V (Proc.devRef .tc main_arg21) (ix2 o k)
  we o i := V (Proc.devRef .tc main_arg25) (ix2 o i)
  be o := V (Proc.devRef .tc main_arg26) (ix1 o)

variable (m : (ℓ : Loc nD τ sig) → Buf (Elt Ideal) ℓ) (A B : Mega.Buf512 Ideal) (c : Dev nD)

section First

theorem ins_eq : argsIn (insOf (V1 m) c t0_0) (argsOf (V0 m c)).wb ((argsOf (V0 m c)).b 5) ((argsOf (V0 m c)).g 5) ((argsOf (V0 m c)).t 5) (argsOf (V0 m c)).we (argsOf (V0 m c)).be = argsOf (V0 m c) := by
  have ex : xOf (insOf (V1 m) c t0_0).x = (argsOf (V0 m c)).x := by
    funext b t i
    show blk0 (V1 m) c 0 t0_0 (ix2 _ i) = _
    rw [blk0_0_eq]
    exact h0_v1 (V0 m c) b t i _ rfl
  have e1 : k5Of (insOf (V1 m) c t0_0).w1 = (argsOf (V0 m c)).w1 := by
    funext o i k
    show blk0 (V1 m) c 1 t0_0 (ix3 k i o) = _
    rw [blk0_1_eq]
    exact h0_v2 (V0 m c) k i o
  have e2 : k3Of (insOf (V1 m) c t0_0).w2 = (argsOf (V0 m c)).w2 := by
    funext o i k
    show blk0 (V1 m) c 5 t0_0 (ix3 k i o) = _
    rw [blk0_5_eq]
    exact h0_v3 (V0 m c) k i o
  have e3 : k3Of (insOf (V1 m) c t0_0).w3 = (argsOf (V0 m c)).w3 := by
    funext o i k
    show blk0 (V1 m) c 9 t0_0 (ix3 k i o) = _
    rw [blk0_9_eq]
    exact h0_v4 (V0 m c) k i o
  have e4 : sqOf (insOf (V1 m) c t0_0).w4 = (argsOf (V0 m c)).w4 := by
    funext o i
    show blk0 (V1 m) c 13 t0_0 (ix2 o i) = _
    rw [blk0_13_eq]
    exact congrFun (h0_arg13 (V0 m c)) _
  have e5 : sqOf (insOf (V1 m) c t0_0).w5 = (argsOf (V0 m c)).w5 := by
    funext o i
    show blk0 (V1 m) c 17 t0_0 (ix2 o i) = _
    rw [blk0_17_eq]
    exact congrFun (h0_arg17 (V0 m c)) _
  have r2 : rowOf (insOf (V1 m) c t0_0).b1 = (argsOf (V0 m c)).b 0 := by
    funext o
    show blk0 (V1 m) c 2 t0_0 (ix2 0 o) = _
    rw [blk0_2_eq]
    exact h0_v5 (V0 m c) o
  have r3 : rowOf (insOf (V1 m) c t0_0).g1 = (argsOf (V0 m c)).g 0 := by
    funext o
    show blk0 (V1 m) c 3 t0_0 (ix2 0 o) = _
    rw [blk0_3_eq]
    exact h0_v6 (V0 m c) o
  have r4 : rowOf (insOf (V1 m) c t0_0).t1 = (argsOf (V0 m c)).t 0 := by
    funext o
    show blk0 (V1 m) c 4 t0_0 (ix2 0 o) = _
    rw [blk0_4_eq]
    exact h0_v7 (V0 m c) o
  have r6 : rowOf (insOf (V1 m) c t0_0).b2 = (argsOf (V0 m c)).b 1 := by
    funext o
    show blk0 (V1 m) c 6 t0_0 (ix2 0 o) = _
    rw [blk0_6_eq]
    exact h0_v8 (V0 m c) o
  have r7 : rowOf (insOf (V1 m) c t0_0).g2 = (argsOf (V0 m c)).g 1 := by
    funext o
    show blk0 (V1 m) c 7 t0_0 (ix2 0 o) = _
    rw [blk0_7_eq]
    exact h0_v9 (V0 m c) o
  have r8 : rowOf (insOf (V1 m) c t0_0).t2 = (argsOf (V0 m c)).t 1 := by
    funext o
    show blk0 (V1 m) c 8 t0_0 (ix2 0 o) = _
    rw [blk0_8_eq]
    exact h0_v10 (V0 m c) o
  have r10 : rowOf (insOf (V1 m) c t0_0).b3 = (argsOf (V0 m c)).b 2 := by
    funext o
    show blk0 (V1 m) c 10 t0_0 (ix2 0 o) = _
    rw [blk0_10_eq]
    exact h0_v11 (V0 m c) o
  have r11 : rowOf (insOf (V1 m) c t0_0).g3 = (argsOf (V0 m c)).g 2 := by
    funext o
    show blk0 (V1 m) c 11 t0_0 (ix2 0 o) = _
    rw [blk0_11_eq]
    exact h0_v12 (V0 m c) o
  have r12 : rowOf (insOf (V1 m) c t0_0).t3 = (argsOf (V0 m c)).t 2 := by
    funext o
    show blk0 (V1 m) c 12 t0_0 (ix2 0 o) = _
    rw [blk0_12_eq]
    exact h0_v13 (V0 m c) o
  have r14 : rowOf (insOf (V1 m) c t0_0).b4 = (argsOf (V0 m c)).b 3 := by
    funext o
    show blk0 (V1 m) c 14 t0_0 (ix2 0 o) = _
    rw [blk0_14_eq]
    exact h0_v14 (V0 m c) o
  have r15 : rowOf (insOf (V1 m) c t0_0).g4 = (argsOf (V0 m c)).g 3 := by
    funext o
    show blk0 (V1 m) c 15 t0_0 (ix2 0 o) = _
    rw [blk0_15_eq]
    exact h0_v15 (V0 m c) o
  have r16 : rowOf (insOf (V1 m) c t0_0).t4 = (argsOf (V0 m c)).t 3 := by
    funext o
    show blk0 (V1 m) c 16 t0_0 (ix2 0 o) = _
    rw [blk0_16_eq]
    exact h0_v16 (V0 m c) o
  have r18 : rowOf (insOf (V1 m) c t0_0).b5 = (argsOf (V0 m c)).b 4 := by
    funext o
    show blk0 (V1 m) c 18 t0_0 (ix2 0 o) = _
    rw [blk0_18_eq]
    exact h0_v17 (V0 m c) o
  have r19 : rowOf (insOf (V1 m) c t0_0).g5 = (argsOf (V0 m c)).g 4 := by
    funext o
    show blk0 (V1 m) c 19 t0_0 (ix2 0 o) = _
    rw [blk0_19_eq]
    exact h0_v18 (V0 m c) o
  have r20 : rowOf (insOf (V1 m) c t0_0).t5 = (argsOf (V0 m c)).t 4 := by
    funext o
    show blk0 (V1 m) c 20 t0_0 (ix2 0 o) = _
    rw [blk0_20_eq]
    exact h0_v19 (V0 m c) o
  unfold argsIn
  rw [ex, e1, e2, e3, e4, e5, r2, r3, r4, r6, r7, r8, r10, r11, r12, r14, r15, r16, r18, r19, r20]
  rfl

theorem real_ins (h : Spec.RealArgs (argsOf (V0 m c))) : RealIns (insOf (V1 m) c t0_0) := by
  have e := ins_eq m c
  rw [← e] at h
  exact ⟨h.x, h.w1, h.w2, h.w3, h.w4, h.w5, h.b 0, h.b 1, h.b 2, h.b 3, h.b 4, h.g 0, h.g 1, h.g 2, h.g 3, h.g 4⟩

theorem mres_eq (h : Spec.RealArgs (argsOf (V0 m c))) (b : Fin 16) (p q : Fin 512) :
    (Mres m A B c (ix3 b p q) : EReal) = Spec.M (argsOf (V0 m c)) b p q := by
  have e := Mega.runF_eq (insOf (V1 m) c t0_0) (real_ins m c h) kA kB kC (IdealRules.named_const.ideal_named_scalar _ _ _ _ rfl) (IdealRules.named_const.ideal_named_scalar _ _ _ _ rfl) (IdealRules.named_const.ideal_named_scalar _ _ _ _ rfl) A B
    (argsOf (V0 m c)).wb ((argsOf (V0 m c)).b 5) ((argsOf (V0 m c)).g 5) ((argsOf (V0 m c)).t 5) (argsOf (V0 m c)).we (argsOf (V0 m c)).be b p q
  rw [ins_eq] at e
  exact e

end First

section Second

/-- One column's product, zero past the last. -/
def colP (b : Fin 16) (o : Fin 512) (j : ℕ) : EReal :=
  if h : j < 262144 then Spec.M (argsOf (V0 m c)) b ⟨(⟨j, h⟩ : Fin 262144).val / 512, by omega⟩ ⟨(⟨j, h⟩ : Fin 262144).val % 512, by omega⟩ * (argsOf (V0 m c)).wb o ⟨j, h⟩ else 0

theorem v2r_ne (r : Ref sig .tc) (h : (Proc.devRef .tc r : DevRef τ sig) ≠ Proc.devRef .tc main_v20) : V2r m A B c (Proc.devRef .tc r) = V1 m c (Proc.devRef .tc r) :=
  Function.update_of_ne h _ _

theorem step_eq (h : Spec.RealArgs (argsOf (V0 m c))) (n : ℕ) (hn : n < cfg1.N) (a : S16x512.Idx → Elt Ideal .f32) (b : Fin 16) (o : Fin 512)
    (ha : (a (ix2 b o) : EReal) = ∑ j ∈ Finset.range (8192 * n), colP m c b o j) :
    (accStep (blk1 (V3r m A B) c 0 ⟨n, hn⟩) (blk1 (V3r m A B) c 1 ⟨n, hn⟩) a (ix2 b o) : EReal) = ∑ j ∈ Finset.range (8192 * (n + 1)), colP m c b o j := by
  have hn' : n < 32 := hn
  rw [accStep_el, ha, show 8192 * (n + 1) = 8192 * n + 8192 by omega, Finset.sum_range_add, Finset.sum_range (n := 8192)]
  congr 1
  refine Finset.sum_congr rfl fun k _ => ?_
  have hk : 8192 * n + k.val < 262144 := by omega
  rw [blk1_0_el (V3r m A B) c ⟨n, hn⟩ b k ⟨8192 * n + k.val, hk⟩ rfl, blk1_1_el (V3r m A B) c ⟨n, hn⟩ o k ⟨8192 * n + k.val, hk⟩ rfl]
  unfold colP
  rw [dif_pos hk]
  have e1 : (V3r m A B c (Proc.devRef .tc main_v21) (ix2 b ⟨8192 * n + k.val, hk⟩) : EReal) = Spec.M (argsOf (V0 m c)) b ⟨(⟨8192 * n + k.val, hk⟩ : Fin 262144).val / 512, by omega⟩ ⟨(⟨8192 * n + k.val, hk⟩ : Fin 262144).val % 512, by omega⟩ := by
    refine (h1_v21 (V2r m A B c) b ⟨8192 * n + k.val, hk⟩).trans ?_
    unfold V2r
    rw [Function.update_self]
    exact mres_eq m A B c h b _ _
  have e2 : (V3r m A B c (Proc.devRef .tc main_arg21) (ix2 o ⟨8192 * n + k.val, hk⟩) : EReal) = (argsOf (V0 m c)).wb o ⟨8192 * n + k.val, hk⟩ := by
    refine (congrFun (h1_arg21 (V2r m A B c)) _).trans ?_
    rw [v2r_ne m A B c main_arg21 (by decide)]
    exact congrFun (h0_arg21 (V0 m c)) _
  exact congrArg₂ (· * ·) e1 e2

theorem accAt_eq (h : Spec.RealArgs (argsOf (V0 m c))) (b : Fin 16) (o : Fin 512) : ∀ (n : ℕ) (hn : n < cfg1.N),
    (accAt (V3r m A B) c n hn (ix2 b o) : EReal) = ∑ j ∈ Finset.range (8192 * (n + 1)), colP m c b o j
  | 0, hn => step_eq m A B c h 0 hn acc0 b o (by rw [acc0_el]; simp)
  | n + 1, hn => step_eq m A B c h (n + 1) hn _ b o (accAt_eq h b o n (Nat.lt_of_succ_lt hn))

/-- The last point. -/
def t31 : Fin cfg1.N := ⟨31, by decide⟩

theorem out_eq (h : Spec.RealArgs (argsOf (V0 m c))) (b : Fin 16) (o : Fin 512) :
    (outAt (V3r m A B) c t31 (ix2 b o) : EReal) = Spec.res (argsOf (V0 m c)) b o := by
  unfold outAt
  refine botF_eq (argsOf (V0 m c)) _ _ _ _ _ _ ?_ ?_ ?_ ?_ ?_ (h.g 5) (Spec.re_Hb h) b o
  · intro b o
    rw [accAt_eq m A B c h]
    unfold Spec.Hb
    have e : (blk1 (V3r m A B) c 2 t31 (ix2 0 o) : EReal) = (argsOf (V0 m c)).b 5 o := by
      refine (blk1_2_el (V3r m A B) c t31 0 o).trans ((h1_v22 (V2r m A B c) o).trans ?_)
      rw [v2r_ne m A B c main_arg22 (by decide)]
      exact congrFun (h0_arg22 (V0 m c)) _
    rw [e]
    refine congrArg₂ (· + ·) ?_ rfl
    rw [show 8192 * (t31.val + 1) = 262144 by show 8192 * (31 + 1) = 262144; norm_num, Finset.sum_range]
    refine Finset.sum_congr rfl fun k _ => ?_
    unfold colP
    rw [dif_pos k.isLt]
  · intro o
    refine (blk1_3_el (V3r m A B) c t31 0 o).trans ((h1_v23 (V2r m A B c) o).trans ?_)
    rw [v2r_ne m A B c main_arg23 (by decide)]
    exact congrFun (h0_arg23 (V0 m c)) _
  · intro o
    refine (blk1_4_el (V3r m A B) c t31 0 o).trans ((h1_v24 (V2r m A B c) o).trans ?_)
    rw [v2r_ne m A B c main_arg24 (by decide)]
    exact congrFun (h0_arg24 (V0 m c)) _
  · intro o i
    refine (blk1_5_el (V3r m A B) c t31 o i).trans ((congrFun (h1_arg25 (V2r m A B c)) _).trans ?_)
    rw [v2r_ne m A B c main_arg25 (by decide)]
    exact congrFun (h0_arg25 (V0 m c)) _
  · intro o
    refine (blk1_6_el (V3r m A B) c t31 0 o).trans ((h1_v25 (V2r m A B c) o).trans ?_)
    rw [v2r_ne m A B c main_arg26 (by decide)]
    exact congrFun (h0_arg26 (V0 m c)) _

theorem arr_eq (b : Fin 16) (o : Fin 512) : resOf m A B c (ix2 b o) = outAt (V3r m A B) c t31 (ix2 b o) := by
  have e := (dat1 (U := UU) (V3r m A B) c).arrAt_emb_eq_flushed 7
    (fun t t' h h' hne => absurd (Fin.ext (by
      have h1 := (flush1_7 t).mp h
      have h2 := (flush1_7 t').mp h'
      have l1 : t.val < 32 := t.isLt
      have l2 : t'.val < 32 := t'.isLt
      omega)) hne) t31 ((flush1_7 t31).mpr rfl) (ix2 b o)
  have h0 : win1_7.index t31 0 = 0 := rfl
  have h1 : win1_7.index t31 1 = 0 := rfl
  have hi : ((cfg1.win 7).blk t31).view.emb (ix2 b o) = ix2 b o := by blk_ext [h0, h1]
  rw [hi] at e
  exact e

/-- The result is the network. -/
theorem res_eq (h : Spec.RealArgs (argsOf (V0 m c))) (b : Fin 16) (o : Fin 512) :
    (resOf m A B c (ix2 b o) : EReal) = Spec.res (argsOf (V0 m c)) b o :=
  (arr_eq m A B c b o).trans (out_eq m A B c h b o)

end Second

end Cert.KernelIdeal.Hand

end
-- ==== Proof.KPre.lean ====
/-
  The precondition read at one element: every argument that the network needs real is real.
-/
module

public import proofs.«01_k».proof.Pre_finite
public import proofs.«01_k».proof.Proof.Norm
public import Idealize.ShloMosaic.Lib.Pointwise

@[expose] public section

set_option maxRecDepth 16384

noncomputable section

namespace Cert.Pre_finite.Hand

open Idealize.ShloMosaic Bn

theorem re_of_cmp (x : EReal) (e : Ideal.cmp .olt (max x (-x)) ⊤ = 1#1) : Re x := by
  induction x with
  | bot => simp [Ideal.cmp] at e
  | top => simp [Ideal.cmp] at e
  | coe r => exact ⟨r, rfl⟩

theorem re_of_lt {s : Shape} (h : S_.BroadcastsInDim s (![] : Fin 0 → Fin s.rank)) (X : FVec Ideal s .f32) (i : s.Idx)
    (e : cmpf .olt (Host.absf X) (broadcastInDim s ![] h (constant (F := Ideal) S_ .f32 0x7F800000#32)) i = 1#1) : Re (X i) := by
  have e' : Ideal.cmp .olt (max (X i : EReal) (-(X i : EReal))) (Ideal.ofBits .f32 0x7F800000#32) = 1#1 := e
  have ht : Ideal.ofBits .f32 0x7F800000#32 = (⊤ : EReal) := by simp [Ideal.ofBits, Ideal.ieee]
  rw [ht] at e'
  exact re_of_cmp _ e'

theorem and_iff {s : Shape} (a b : IVec s 1) (i : s.Idx) (h : andi a b i = 1#1) : a i = 1#1 ∧ b i = 1#1 := by
  have h' : a i &&& b i = 1#1 := h
  generalize a i = p at h' ⊢
  generalize b i = q at h' ⊢
  revert h'
  revert p q
  decide

/-- The predicate's shape relations. -/
theorem facts : Facts := ⟨by decide, by decide, by decide, by decide, by decide, by decide⟩

variable [Facts]

theorem decode (a0 : FVec Ideal S16x1x400x40 .f32) (a1 : FVec Ideal S512x40x5 .f32) (a2 a3 a4 : FVec Ideal S512 .f32) (a5 : FVec Ideal S512x512x3 .f32) (a6 a7 a8 : FVec Ideal S512 .f32)
    (a9 : FVec Ideal S512x512x3 .f32) (a10 a11 a12 : FVec Ideal S512 .f32) (a13 : FVec Ideal S512x512 .f32) (a14 a15 a16 : FVec Ideal S512 .f32) (a17 : FVec Ideal S512x512 .f32)
    (a18 a19 a20 : FVec Ideal S512 .f32) (a21 : FVec Ideal S512x262144 .f32) (a22 a23 a24 : FVec Ideal S512 .f32) (a25 : FVec Ideal S512x512 .f32) (a26 : FVec Ideal S512 .f32)
    (h : (fn a0 a1 a2 a3 a4 a5 a6 a7 a8 a9 a10 a11 a12 a13 a14 a15 a16 a17 a18 a19 a20 a21 a22 a23 a24 a25 a26).1 = (fun _ => 1#1)
      ∧ (fn a0 a1 a2 a3 a4 a5 a6 a7 a8 a9 a10 a11 a12 a13 a14 a15 a16 a17 a18 a19 a20 a21 a22 a23 a24 a25 a26).2.1 = (fun _ => 1#1)
      ∧ (fn a0 a1 a2 a3 a4 a5 a6 a7 a8 a9 a10 a11 a12 a13 a14 a15 a16 a17 a18 a19 a20 a21 a22 a23 a24 a25 a26).2.2.1 = (fun _ => 1#1)
      ∧ (fn a0 a1 a2 a3 a4 a5 a6 a7 a8 a9 a10 a11 a12 a13 a14 a15 a16 a17 a18 a19 a20 a21 a22 a23 a24 a25 a26).2.2.2.1 = (fun _ => 1#1)
      ∧ (fn a0 a1 a2 a3 a4 a5 a6 a7 a8 a9 a10 a11 a12 a13 a14 a15 a16 a17 a18 a19 a20 a21 a22 a23 a24 a25 a26).2.2.2.2.1 = (fun _ => 1#1)
      ∧ (fn a0 a1 a2 a3 a4 a5 a6 a7 a8 a9 a10 a11 a12 a13 a14 a15 a16 a17 a18 a19 a20 a21 a22 a23 a24 a25 a26).2.2.2.2.2 = (fun _ => 1#1)) :
    (∀ i, Re (a0 i)) ∧ (∀ i, Re (a1 i)) ∧ (∀ i, Re (a5 i) ∧ Re (a9 i)) ∧ (∀ i, Re (a13 i) ∧ Re (a17 i)) ∧ (∀ i, Re (a21 i))
      ∧ ∀ i, ((((((((((Re (a2 i) ∧ Re (a3 i)) ∧ Re (a6 i)) ∧ Re (a7 i)) ∧ Re (a10 i)) ∧ Re (a11 i)) ∧ Re (a14 i)) ∧ Re (a15 i)) ∧ Re (a18 i)) ∧ Re (a19 i)) ∧ Re (a22 i)) ∧ Re (a23 i) := by
  obtain ⟨h0, h1, h2, h3, h4, h5⟩ := h
  refine ⟨fun i => re_of_lt _ a0 i (congrFun h0 i), fun i => re_of_lt _ a1 i (congrFun h1 i), fun i => ?_, fun i => ?_, fun i => re_of_lt _ a21 i (congrFun h4 i), fun i => ?_⟩
  · exact (and_iff _ _ i (congrFun h2 i)).imp (re_of_lt _ a5 i) (re_of_lt _ a9 i)
  · exact (and_iff _ _ i (congrFun h3 i)).imp (re_of_lt _ a13 i) (re_of_lt _ a17 i)
  · refine (and_iff _ _ i (congrFun h5 i)).imp (fun h => ?_) (re_of_lt _ a23 i)
    refine (and_iff _ _ i h).imp (fun h => ?_) (re_of_lt _ a22 i)
    refine (and_iff _ _ i h).imp (fun h => ?_) (re_of_lt _ a19 i)
    refine (and_iff _ _ i h).imp (fun h => ?_) (re_of_lt _ a18 i)
    refine (and_iff _ _ i h).imp (fun h => ?_) (re_of_lt _ a15 i)
    refine (and_iff _ _ i h).imp (fun h => ?_) (re_of_lt _ a14 i)
    refine (and_iff _ _ i h).imp (fun h => ?_) (re_of_lt _ a11 i)
    refine (and_iff _ _ i h).imp (fun h => ?_) (re_of_lt _ a10 i)
    refine (and_iff _ _ i h).imp (fun h => ?_) (re_of_lt _ a7 i)
    refine (and_iff _ _ i h).imp (fun h => ?_) (re_of_lt _ a6 i)
    exact (and_iff _ _ i h).imp (re_of_lt _ a2 i) (re_of_lt _ a3 i)

end Cert.Pre_finite.Hand

end
-- ==== Proof.RefA.lean ====
/-
  The reference computes the network.
-/
module

public import proofs.«01_k».proof.Proof.Gen.ReferenceIdeal.Run
public import proofs.«01_k».proof.Proof.Spec

@[expose] public section

set_option maxRecDepth 16384

noncomputable section

namespace Cert.ReferenceIdeal.Value

open Idealize.ShloMosaic Idealize.ShloMosaic.TcCoe
open Idealize.SL.Sem Bn
open scoped BigOperators

/-- The sum over the first and the last of three axes. -/
theorem sum_outer {n0 n1 n2 : Nat} (h : (⟨3, ![n0, n1, n2]⟩ : Shape).ReducesTo [0, 2] ⟨1, ![n1]⟩) (v : (⟨3, ![n0, n1, n2]⟩ : Shape).Idx → EReal) (z : EReal)
    (o : Fin n1) : Ideal.hostReduceAdd h v z (ix1 o) = z + ∑ b : Fin n0, ∑ t : Fin n2, v (ix3 b o t) := by
  unfold Ideal.hostReduceAdd
  congr 1
  rw [Finset.sum_filter, sum_idx3]
  refine Finset.sum_congr rfl fun b _ => ?_
  have hd : ∀ (c : Fin n1) (t : Fin n2), (h.drop (ix3 b c t) = ix1 o) ↔ c = o := by
    intro c t
    constructor
    · intro e
      exact Fin.ext (congrArg Fin.val (congrFun e 0))
    · rintro rfl
      funext a
      apply Fin.ext
      match a with
      | ⟨0, _⟩ => rfl
  simp only [hd]
  rw [Finset.sum_comm]
  refine Finset.sum_congr rfl fun t _ => ?_
  rw [Finset.sum_ite_eq']
  simp

theorem sit0 : (FloatOps.sitofp (F := Ideal) .f32 0#32 : EReal) = ((0 : ℝ) : EReal) := by
  show (((0#32 : BitVec 32).toInt : ℝ) : EReal) = _
  simp

/-- The arguments as plain functions. -/
def argsOf (V : Valuation τ sig (Elt Ideal)) : Spec.Args where
  x b t i := V (Proc.devRef .tc main_arg0) (ix4 b 0 t i)
  w1 o i k := V (Proc.devRef .tc main_arg1) (ix3 o i k)
  w2 o i k := V (Proc.devRef .tc main_arg5) (ix3 o i k)
  w3 o i k := V (Proc.devRef .tc main_arg9) (ix3 o i k)
  w4 o i := V (Proc.devRef .tc main_arg13) (ix2 o i)
  w5 o i := V (Proc.devRef .tc main_arg17) (ix2 o i)
  b k o := (![fun o => V (Proc.devRef .tc main_arg2) (ix1 o), fun o => V (Proc.devRef .tc main_arg6) (ix1 o), fun o => V (Proc.devRef .tc main_arg10) (ix1 o), fun o => V (Proc.devRef .tc main_arg14) (ix1 o), fun o => V (Proc.devRef .tc main_arg18) (ix1 o), fun o => V (Proc.devRef .tc main_arg22) (ix1 o)] : Fin 6 → Fin 512 → EReal) k o
  g k o := (![fun o => V (Proc.devRef .tc main_arg3) (ix1 o), fun o => V (Proc.devRef .tc main_arg7) (ix1 o), fun o => V (Proc.devRef .tc main_arg11) (ix1 o), fun o => V (Proc.devRef .tc main_arg15) (ix1 o), fun o => V (Proc.devRef .tc main_arg19) (ix1 o), fun o => V (Proc.devRef .tc main_arg23) (ix1 o)] : Fin 6 → Fin 512 → EReal) k o
  t k o := (![fun o => V (Proc.devRef .tc main_arg4) (ix1 o), fun o => V (Proc.devRef .tc main_arg8) (ix1 o), fun o => V (Proc.devRef .tc main_arg12) (ix1 o), fun o => V (Proc.devRef .tc main_arg16) (ix1 o), fun o => V (Proc.devRef .tc main_arg20) (ix1 o), fun o => V (Proc.devRef .tc main_arg24) (ix1 o)] : Fin 6 → Fin 512 → EReal) k o
  wb o k := V (Proc.devRef .tc main_arg21) (ix2 o k)
  we o i := V (Proc.devRef .tc main_arg25) (ix2 o i)
  be o := V (Proc.devRef .tc main_arg26) (ix1 o)

set_option maxHeartbeats 4000000 in
theorem v35_at (V : Valuation τ sig (Elt Ideal)) (b : Fin 16) (o : Fin 512) (t : Fin 396) :
    res_main_v35 V (ix3 b o t) = Spec.Y1 (argsOf V) b o t := by
  pointwise [res_main_v35, res_main_v1]
  unfold Spec.Y1 Spec.conv5
  simp only [zero_add]
  rfl

set_option maxHeartbeats 4000000 in
theorem v54_at (V : Valuation τ sig (Elt Ideal)) (b : Fin 16) (o : Fin 512) (t : Fin 396) :
    res_main_v54 V (ix3 b o t) = Spec.X1 (argsOf V) b o t := by
  pointwise [res_main_v54, res_main_call0_v5, res_main_call0_v8, sum_outer, id_eq]
  simp only [v35_at]
  rw [sit0]
  rfl

set_option maxHeartbeats 4000000 in
theorem v76_at (V : Valuation τ sig (Elt Ideal)) (b : Fin 16) (o : Fin 512) (t : Fin 392) :
    res_main_v76 V (ix3 b o t) = Spec.Y2 (argsOf V) b o t := by
  pointwise [res_main_v76]
  simp only [v54_at]
  unfold Spec.Y2 Spec.conv3
  simp only [zero_add]
  rfl

set_option maxHeartbeats 4000000 in
theorem v95_at (V : Valuation τ sig (Elt Ideal)) (b : Fin 16) (o : Fin 512) (t : Fin 392) :
    res_main_v95 V (ix3 b o t) = Spec.X2 (argsOf V) b o t := by
  pointwise [res_main_v95, res_main_call2_v5, res_main_call2_v8, sum_outer, id_eq]
  simp only [v76_at]
  rw [sit0]
  rfl

set_option maxHeartbeats 4000000 in
theorem v117_at (V : Valuation τ sig (Elt Ideal)) (b : Fin 16) (o : Fin 512) (t : Fin 384) :
    res_main_v117 V (ix3 b o t) = Spec.Y3 (argsOf V) b o t := by
  pointwise [res_main_v117]
  simp only [v95_at]
  unfold Spec.Y3 Spec.conv3
  simp only [zero_add]
  rfl

set_option maxHeartbeats 4000000 in
theorem v141_at (V : Valuation τ sig (Elt Ideal)) (b : Fin 16) (o : Fin 512) (t : Fin 384) :
    res_main_v141 V (ix3 b o t) = Spec.Y4 (argsOf V) b o t := by
  pointwise [res_main_v141, res_main_call4_v5, res_main_call4_v8, sum_outer, id_eq]
  simp only [v117_at]
  rw [sit0]
  rfl

set_option maxHeartbeats 4000000 in
theorem v160_at (V : Valuation τ sig (Elt Ideal)) (b : Fin 16) (o : Fin 512) (t : Fin 384) :
    res_main_v160 V (ix3 b o t) = Spec.X4 (argsOf V) b o t := by
  pointwise [res_main_v160, res_main_call6_v5, res_main_call6_v8, sum_outer, id_eq]
  simp only [v141_at]
  rw [sit0]
  rfl

set_option maxHeartbeats 4000000 in
theorem v165_at (V : Valuation τ sig (Elt Ideal)) (b : Fin 16) (o : Fin 512) (t : Fin 384) :
    res_main_v165 V (ix3 b o t) = Spec.Y5 (argsOf V) b o t := by
  pointwise [res_main_v165]
  simp only [v160_at]
  rfl

set_option maxHeartbeats 4000000 in
theorem v191_at (V : Valuation τ sig (Elt Ideal)) (b : Fin 16) (o : Fin 512) :
    res_main_v191 V (ix2 b o) = Spec.Hb (argsOf V) b o := by
  pointwise [res_main_v191, res_main_call8_v5, res_main_call8_v8, sum_outer, id_eq]
  simp only [v160_at, v165_at]
  rw [sit0]
  rfl

set_option maxHeartbeats 4000000 in
theorem v216_at (V : Valuation τ sig (Elt Ideal)) (b : Fin 16) (o : Fin 512) :
    res_main_v216 V (ix2 b o) = Spec.Em (argsOf V) b o := by
  pointwise [res_main_v216, res_main_call10_v5, res_main_call10_v8, id_eq]
  simp only [v191_at]
  rw [sit0]
  unfold Spec.Em Spec.Zb bnR dev clip eps
  simp only [Finset.univ_unique, Finset.sum_singleton]
  rfl

set_option maxHeartbeats 4000000 in
/-- The reference's result at an index. -/
theorem v226_at (V : Valuation τ sig (Elt Ideal)) (b : Fin 16) (o : Fin 512) :
    (mulf (Host.divf (res_main_v216 V) (broadcastInDim S16x512 ![0, 1] Gen.bcast_S16x1_S16x512_0_1 (broadcastInDim S16x1 ![0] Gen.bcast_S16_S16x1_0 (Host.sqrt (addf (Host.reduceAdd (mulf (res_main_v216 V) (res_main_v216 V)) (constant S_ .f32 0x00000000#32) Gen.reducesTo_S16x512_S16_d1 Gen.h_S_) (broadcastInDim S16 ![] Gen.bcast_S_S16 (constant S_ .f32 0x2EDBE6FF#32))))))) (broadcastInDim S16x512 ![] Gen.bcast_S_S16x512 (constant S_ .f32 0x41200000#32)) : S16x512.Idx → EReal) (ix2 b o)
      = Spec.res (argsOf V) b o := by
  pointwise
  simp only [v216_at]
  rfl

end Cert.ReferenceIdeal.Value

end
-- ==== Proof.Value.lean ====
/-
  The kernel and the reference leave the same result over the extended reals.
-/
module

public import proofs.«01_k».proof.Defs
public import proofs.«01_k».proof.Proof.Frames
public import proofs.«01_k».proof.Proof.KRes
public import proofs.«01_k».proof.Proof.KPre
public import proofs.«01_k».proof.Proof.RefA

@[expose] public section

set_option maxRecDepth 16384
set_option maxHeartbeats 4000000

noncomputable section

namespace Cert.Hand

open Idealize.ShloMosaic Idealize.ShloMosaic.StableHlo Idealize.SL.Sem Idealize

theorem frame_kernelIdeal_pre : Cert.quiescent_KernelIdeal_pre_finite (hKernelIdeal := Cert.KernelIdeal.Gen.facts) (hPre_finite := Cert.Pre_finite.Hand.facts) :=
  fun m g _ => frame_kernelIdeal m g trivial

theorem frame_referenceIdeal_pre : Cert.quiescent_ReferenceIdeal_pre_finite (hReferenceIdeal := Cert.ReferenceIdeal.Gen.facts) (hPre_finite := Cert.Pre_finite.Hand.facts) :=
  fun m g _ => frame_referenceIdeal m g trivial

/-- Under the precondition the arguments that the network needs real are real. -/
theorem real_args (m : (ℓ : Loc Cert.KernelIdeal.nD Cert.KernelIdeal.τ Cert.KernelIdeal.sig) → Buf (Elt Ideal) ℓ)
    (h : Cert.Pre_KernelIdeal_finite (hPre_finite := Cert.Pre_finite.Hand.facts) m) (c : Dev Cert.KernelIdeal.nD) :
    Spec.RealArgs (Cert.KernelIdeal.Hand.argsOf (Cert.KernelIdeal.Gen.V0 m c)) := by
  obtain ⟨h0, h1, h2, h3, h4, h5⟩ := @Cert.Pre_finite.Hand.decode Cert.Pre_finite.Hand.facts _ _ _ _ _ _ _ _ _ _ _ _ _ _ _ _ _ _ _ _ _ _ _ _ _ _ _ (h c)
  refine ⟨fun b t i => h0 _, fun o i k => h1 _, fun o i k => (h2 _).1, fun o i k => (h2 _).2, fun o i => (h3 _).1, fun o i => (h3 _).2, fun o k => h4 _, fun k o => ?_, fun k o => ?_⟩
  · have h := h5 (ix1 o)
    obtain ⟨⟨⟨⟨⟨⟨⟨⟨⟨⟨⟨a2, a3⟩, a6⟩, a7⟩, a10⟩, a11⟩, a14⟩, a15⟩, a18⟩, a19⟩, a22⟩, a23⟩ := h
    fin_cases k
    · exact a2
    · exact a6
    · exact a10
    · exact a14
    · exact a18
    · exact a22
  · have h := h5 (ix1 o)
    obtain ⟨⟨⟨⟨⟨⟨⟨⟨⟨⟨⟨a2, a3⟩, a6⟩, a7⟩, a10⟩, a11⟩, a14⟩, a15⟩, a18⟩, a19⟩, a22⟩, a23⟩ := h
    fin_cases k
    · exact a3
    · exact a7
    · exact a11
    · exact a15
    · exact a19
    · exact a23

/-- The two read the same arguments off the same arrays. -/
theorem args_eq (V : Valuation Cert.KernelIdeal.τ Cert.KernelIdeal.sig (Elt Ideal)) (W : Valuation Cert.ReferenceIdeal.τ Cert.ReferenceIdeal.sig (Elt Ideal))
    (h0 : W (Proc.devRef .tc Cert.ReferenceIdeal.main_arg0) = V (Proc.devRef .tc Cert.KernelIdeal.main_arg0))
    (h1 : W (Proc.devRef .tc Cert.ReferenceIdeal.main_arg1) = V (Proc.devRef .tc Cert.KernelIdeal.main_arg1))
    (h2 : W (Proc.devRef .tc Cert.ReferenceIdeal.main_arg2) = V (Proc.devRef .tc Cert.KernelIdeal.main_arg2))
    (h3 : W (Proc.devRef .tc Cert.ReferenceIdeal.main_arg3) = V (Proc.devRef .tc Cert.KernelIdeal.main_arg3))
    (h4 : W (Proc.devRef .tc Cert.ReferenceIdeal.main_arg4) = V (Proc.devRef .tc Cert.KernelIdeal.main_arg4))
    (h5 : W (Proc.devRef .tc Cert.ReferenceIdeal.main_arg5) = V (Proc.devRef .tc Cert.KernelIdeal.main_arg5))
    (h6 : W (Proc.devRef .tc Cert.ReferenceIdeal.main_arg6) = V (Proc.devRef .tc Cert.KernelIdeal.main_arg6))
    (h7 : W (Proc.devRef .tc Cert.ReferenceIdeal.main_arg7) = V (Proc.devRef .tc Cert.KernelIdeal.main_arg7))
    (h8 : W (Proc.devRef .tc Cert.ReferenceIdeal.main_arg8) = V (Proc.devRef .tc Cert.KernelIdeal.main_arg8))
    (h9 : W (Proc.devRef .tc Cert.ReferenceIdeal.main_arg9) = V (Proc.devRef .tc Cert.KernelIdeal.main_arg9))
    (h10 : W (Proc.devRef .tc Cert.ReferenceIdeal.main_arg10) = V (Proc.devRef .tc Cert.KernelIdeal.main_arg10))
    (h11 : W (Proc.devRef .tc Cert.ReferenceIdeal.main_arg11) = V (Proc.devRef .tc Cert.KernelIdeal.main_arg11))
    (h12 : W (Proc.devRef .tc Cert.ReferenceIdeal.main_arg12) = V (Proc.devRef .tc Cert.KernelIdeal.main_arg12))
    (h13 : W (Proc.devRef .tc Cert.ReferenceIdeal.main_arg13) = V (Proc.devRef .tc Cert.KernelIdeal.main_arg13))
    (h14 : W (Proc.devRef .tc Cert.ReferenceIdeal.main_arg14) = V (Proc.devRef .tc Cert.KernelIdeal.main_arg14))
    (h15 : W (Proc.devRef .tc Cert.ReferenceIdeal.main_arg15) = V (Proc.devRef .tc Cert.KernelIdeal.main_arg15))
    (h16 : W (Proc.devRef .tc Cert.ReferenceIdeal.main_arg16) = V (Proc.devRef .tc Cert.KernelIdeal.main_arg16))
    (h17 : W (Proc.devRef .tc Cert.ReferenceIdeal.main_arg17) = V (Proc.devRef .tc Cert.KernelIdeal.main_arg17))
    (h18 : W (Proc.devRef .tc Cert.ReferenceIdeal.main_arg18) = V (Proc.devRef .tc Cert.KernelIdeal.main_arg18))
    (h19 : W (Proc.devRef .tc Cert.ReferenceIdeal.main_arg19) = V (Proc.devRef .tc Cert.KernelIdeal.main_arg19))
    (h20 : W (Proc.devRef .tc Cert.ReferenceIdeal.main_arg20) = V (Proc.devRef .tc Cert.KernelIdeal.main_arg20))
    (h21 : W (Proc.devRef .tc Cert.ReferenceIdeal.main_arg21) = V (Proc.devRef .tc Cert.KernelIdeal.main_arg21))
    (h22 : W (Proc.devRef .tc Cert.ReferenceIdeal.main_arg22) = V (Proc.devRef .tc Cert.KernelIdeal.main_arg22))
    (h23 : W (Proc.devRef .tc Cert.ReferenceIdeal.main_arg23) = V (Proc.devRef .tc Cert.KernelIdeal.main_arg23))
    (h24 : W (Proc.devRef .tc Cert.ReferenceIdeal.main_arg24) = V (Proc.devRef .tc Cert.KernelIdeal.main_arg24))
    (h25 : W (Proc.devRef .tc Cert.ReferenceIdeal.main_arg25) = V (Proc.devRef .tc Cert.KernelIdeal.main_arg25))
    (h26 : W (Proc.devRef .tc Cert.ReferenceIdeal.main_arg26) = V (Proc.devRef .tc Cert.KernelIdeal.main_arg26)) :
    Cert.ReferenceIdeal.Value.argsOf W = Cert.KernelIdeal.Hand.argsOf V := by
  unfold Cert.ReferenceIdeal.Value.argsOf Cert.KernelIdeal.Hand.argsOf
  rw [h0, h1, h2, h3, h4, h5, h6, h7, h8, h9, h10, h11, h12, h13, h14, h15, h16, h17, h18, h19, h20, h21, h22, h23, h24, h25, h26]

/-- A matrix known entry by entry. -/
theorem ext2 (f : Cert.KernelIdeal.S16x512.Idx → EReal) (g : Fin 16 → Fin 512 → EReal) (h : ∀ b o, f (ix2 b o) = g b o) : f = fun i => g (i 0) (i 1) := by
  funext i
  have hi : i = ix2 (i 0) (i 1) := by
    funext a
    match a with
    | 0 => rfl
    | 1 => rfl
  exact (congrArg f hi).trans (h _ _)

theorem algebraic : Cert.algebraic_KernelIdeal_ReferenceIdeal_pre_finite (hKernelIdeal := Cert.KernelIdeal.Gen.facts) (hReferenceIdeal := Cert.ReferenceIdeal.Gen.facts) (hPre_finite := Cert.Pre_finite.Hand.facts) := by
  intro m g m' g' hp ha
  have key : ∀ c : Dev Cert.KernelIdeal.nD, Cert.ReferenceIdeal.Value.argsOf (launchContents m' c) = Cert.KernelIdeal.Hand.argsOf (Cert.KernelIdeal.Gen.V0 m c) := by
    intro c
    obtain ⟨h0, h1, h2, h3, h4, h5, h6, h7, h8, h9, h10, h11, h12, h13, h14, h15, h16, h17, h18, h19, h20, h21, h22, h23, h24, h25, h26⟩ := ha c
    exact args_eq (Cert.KernelIdeal.Gen.V0 m c) (launchContents m' c) h0 h1 h2 h3 h4 h5 h6 h7 h8 h9 h10 h11 h12 h13 h14 h15 h16 h17 h18 h19 h20 h21 h22 h23 h24 h25 h26
  refine ⟨fun c i => Spec.res (Cert.KernelIdeal.Hand.argsOf (Cert.KernelIdeal.Gen.V0 m c)) (i 0) (i 1), ?_, ?_⟩
  · refine (θ_run Cert.KernelIdeal.defs _ _).mono (fun r h c => ?_) (Cert.KernelIdeal.Hand.kernel_run m g)
    obtain ⟨hk, A, B, hv⟩ := h.1 c
    exact ⟨hv.trans (ext2 _ _ fun b o => Cert.KernelIdeal.Hand.res_eq m A B c (real_args m hp c) b o), hk⟩
  · refine (θ_run Cert.ReferenceIdeal.defs _ _).mono (fun r h c => ?_) (Cert.ReferenceIdeal.Value.run (F := Ideal) m' g')
    exact ⟨(h c).1.trans (ext2 _ _ fun b o => (Cert.ReferenceIdeal.Value.v226_at (launchContents m' c) b o).trans (by rw [key c])), (h c).2⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Hand.facts,
  Cert.Hand.frame_kernel, Cert.Hand.frame_kernelIdeal, Cert.Hand.frame_kernelIdeal_pre, Cert.Hand.frame_referenceIdeal, Cert.Hand.frame_referenceIdeal_pre,
  Cert.Hand.preserves, Cert.Hand.algebraic⟩

end Cert.Proof

end
